-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x8192x64 : Shape := ⟨3, ![4, 8192, 64]⟩
abbrev S4x8192x3 : Shape := ⟨3, ![4, 8192, 3]⟩
abbrev S64x64 : Shape := ⟨2, ![64, 64]⟩
abbrev S64 : Shape := ⟨1, ![64]⟩
abbrev S3x3 : Shape := ⟨2, ![3, 3]⟩
abbrev S3 : Shape := ⟨1, ![3]⟩
abbrev S64x3 : Shape := ⟨2, ![64, 3]⟩
abbrev S_ : Shape := ⟨0, ![]⟩

class Facts : Prop where
  bcast_S_S4x8192x64 : S_.BroadcastsInDim S4x8192x64 (![] : Fin 0 → Fin S4x8192x64.rank)
  reducesTo_S4x8192x64_S_d0_1_2 : S4x8192x64.ReducesTo [0, 1, 2] S_
  h_S_ : 0 < S_.numel
  bcast_S_S4x8192x3 : S_.BroadcastsInDim S4x8192x3 (![] : Fin 0 → Fin S4x8192x3.rank)
  reducesTo_S4x8192x3_S_d0_1_2 : S4x8192x3.ReducesTo [0, 1, 2] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S64x3 : S_.BroadcastsInDim S64x3 (![] : Fin 0 → Fin S64x3.rank)
  reducesTo_S64x3_S_d0_1 : S64x3.ReducesTo [0, 1] S_

variable [Facts]

def fn_part4 {F : FTy → Type} [FloatOps F] (main_arg18 : FVec F S64 .f32) (main_arg19 : FVec F S64 .f32) (main_v63 : IVec S_ 1) (main_v67 : IVec S_ 1) : IVec S_ 1 :=
  let main_v68 : IVec S_ 1 := andi main_v63 main_v67
  let main_v69 : FVec F S64 .f32 := Host.absf main_arg18
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg19
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  main_v78

def fn_part3 {F : FTy → Type} [FloatOps F] (main_arg13 : FVec F S64 .f32) (main_arg16 : FVec F S3 .f32) (main_arg17 : FVec F S3 .f32) (main_arg18 : FVec F S64 .f32) (main_arg19 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S3 .f32 := Host.absf main_arg16
  let main_cst_22 : FVec F S_ .f32 := constant S_ .f32 0x7F800000#32
  let main_v60 : FVec F S3 .f32 := broadcastInDim S3 ![] bcast_S_S3 main_cst_22
  let main_v61 : IVec S3 1 := cmpf .olt main_v59 main_v60
  let main_c_23 : IVec S_ 1 := constantI S_ 1 1#1
  let main_v62 : IVec S_ 1 := (fun x v => Host.reduce IntOp.andi x v reducesTo_S3_S_d0 h_S_) main_v61 main_c_23
  let main_v63 : IVec S_ 1 := andi main_v58 main_v62
  let main_v64 : FVec F S3 .f32 := Host.absf main_arg17
  let main_cst_24 : FVec F S_ .f32 := constant S_ .f32 0x7F800000#32
  let main_v65 : FVec F S3 .f32 := broadcastInDim S3 ![] bcast_S_S3 main_cst_24
  let main_v66 : IVec S3 1 := cmpf .olt main_v64 main_v65
  let main_c_25 : IVec S_ 1 := constantI S_ 1 1#1
  let main_v67 : IVec S_ 1 := (fun x v => Host.reduce IntOp.andi x v reducesTo_S3_S_d0 h_S_) main_v66 main_c_25
  fn_part4 (F := F) main_arg18 main_arg19 main_v63 main_v67

def fn_part2 {F : FTy → Type} [FloatOps F] (main_arg9 : FVec F S3 .f32) (main_arg10 : FVec F S64x3 .f32) (main_arg11 : FVec F S64 .f32) (main_arg12 : FVec F S64x64 .f32) (main_arg13 : FVec F S64 .f32) (main_arg16 : FVec F S3 .f32) (main_arg17 : FVec F S3 .f32) (main_arg18 : FVec F S64 .f32) (main_arg19 : FVec F S64 .f32) (main_v33 : IVec S_ 1) : IVec S_ 1 :=
  let main_v34 : FVec F S3 .f32 := Host.absf main_arg9
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  let main_v39 : FVec F S64x3 .f32 := Host.absf main_arg10
  let main_cst_14 : FVec F S_ .f32 := constant S_ .f32 0x7F800000#32
  let main_v40 : FVec F S64x3 .f32 := broadcastInDim S64x3 ![] bcast_S_S64x3 main_cst_14
  let main_v41 : IVec S64x3 1 := cmpf .olt main_v39 main_v40
  let main_c_15 : IVec S_ 1 := constantI S_ 1 1#1
  let main_v42 : IVec S_ 1 := (fun x v => Host.reduce IntOp.andi x v reducesTo_S64x3_S_d0_1 h_S_) main_v41 main_c_15
  let main_v43 : IVec S_ 1 := andi main_v38 main_v42
  let main_v44 : FVec F S64 .f32 := Host.absf main_arg11
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg12
  let main_cst_18 : FVec F S_ .f32 := constant S_ .f32 0x7F800000#32
  let main_v50 : FVec F S64x64 .f32 := broadcastInDim S64x64 ![] bcast_S_S64x64 main_cst_18
  fn_part3 (F := F) main_arg13 main_arg16 main_arg17 main_arg18 main_arg19 main_v48 main_v49 main_v50

def fn_part1 {F : FTy → Type} [FloatOps F] (main_arg4 : FVec F S64x64 .f32) (main_arg5 : FVec F S64 .f32) (main_arg8 : FVec F S3x3 .f32) (main_arg9 : FVec F S3 .f32) (main_arg10 : FVec F S64x3 .f32) (main_arg11 : FVec F S64 .f32) (main_arg12 : FVec F S64x64 .f32) (main_arg13 : FVec F S64 .f32) (main_arg16 : FVec F S3 .f32) (main_arg17 : FVec F S3 .f32) (main_arg18 : FVec F S64 .f32) (main_arg19 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S3x3 .f32 := Host.absf main_arg8
  let main_cst_10 : FVec F S_ .f32 := constant S_ .f32 0x7F800000#32
  let main_v30 : FVec F S3x3 .f32 := broadcastInDim S3x3 ![] bcast_S_S3x3 main_cst_10
  let main_v31 : IVec S3x3 1 := cmpf .olt main_v29 main_v30
  let main_c_11 : IVec S_ 1 := constantI S_ 1 1#1
  let main_v32 : IVec S_ 1 := (fun x v => Host.reduce IntOp.andi x v reducesTo_S3x3_S_d0_1 h_S_) main_v31 main_c_11
  let main_v33 : IVec S_ 1 := andi main_v28 main_v32
  fn_part2 (F := F) main_arg9 main_arg10 main_arg11 main_arg12 main_arg13 main_arg16 main_arg17 main_arg18 main_arg19 main_v33

def fn {F : FTy → Type} [FloatOps F] (main_arg0 : FVec F S4x8192x64 .f32) (main_arg1 : FVec F S4x8192x3 .f32) (main_arg2 : FVec F S64x64 .f32) (main_arg3 : FVec F S64 .f32) (main_arg4 : FVec F S64x64 .f32) (main_arg5 : FVec F S64 .f32) (main_arg6 : FVec F S64x64 .f32) (main_arg7 : FVec F S64 .f32) (main_arg8 : FVec F S3x3 .f32) (main_arg9 : FVec F S3 .f32) (main_arg10 : FVec F S64x3 .f32) (main_arg11 : FVec F S64 .f32) (main_arg12 : FVec F S64x64 .f32) (main_arg13 : FVec F S64 .f32) (main_arg14 : FVec F S64x64 .f32) (main_arg15 : FVec F S64 .f32) (main_arg16 : FVec F S3 .f32) (main_arg17 : FVec F S3 .f32) (main_arg18 : FVec F S64 .f32) (main_arg19 : FVec F S64 .f32) (main_arg20 : FVec F S64 .f32) (main_arg21 : FVec F S64 .f32) : IVec S_ 1 :=
  let main_v0 : FVec F S4x8192x64 .f32 := Host.absf main_arg0
  let main_cst : FVec F S_ .f32 := constant S_ .f32 0x7F800000#32
  let main_v1 : FVec F S4x8192x64 .f32 := broadcastInDim S4x8192x64 ![] bcast_S_S4x8192x64 main_cst
  let main_v2 : IVec S4x8192x64 1 := cmpf .olt main_v0 main_v1
  let main_c : IVec S_ 1 := constantI S_ 1 1#1
  let main_v3 : IVec S_ 1 := (fun x v => Host.reduce IntOp.andi x v reducesTo_S4x8192x64_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg8 main_arg9 main_arg10 main_arg11 main_arg12 main_arg13 main_arg16 main_arg17 main_arg18 main_arg19 main_v13 main_v16
-- ==== Kernel.lean ====
abbrev S4x8192x64 : Shape := ⟨3, ![4, 8192, 64]⟩
abbrev S4x8192x3 : Shape := ⟨3, ![4, 8192, 3]⟩
abbrev S64x64 : Shape := ⟨2, ![64, 64]⟩
abbrev S64 : Shape := ⟨1, ![64]⟩
abbrev S3x3 : Shape := ⟨2, ![3, 3]⟩
abbrev S3 : Shape := ⟨1, ![3]⟩
abbrev S64x3 : Shape := ⟨2, ![64, 3]⟩
abbrev S3x64 : Shape := ⟨2, ![3, 64]⟩
abbrev S1x3 : Shape := ⟨2, ![1, 3]⟩
abbrev S4x8192x16x64 : Shape := ⟨4, ![4, 8192, 16, 64]⟩
abbrev S4x8192x16x3 : Shape := ⟨4, ![4, 8192, 16, 3]⟩
abbrev S2x3 : Shape := ⟨2, ![2, 3]⟩
abbrev S1x8192x3 : Shape := ⟨3, ![1, 8192, 3]⟩
abbrev S1x8192x64 : Shape := ⟨3, ![1, 8192, 64]⟩
abbrev S1x256x3 : Shape := ⟨3, ![1, 256, 3]⟩
abbrev S1x256x16x64 : Shape := ⟨4, ![1, 256, 16, 64]⟩
abbrev S1x256x16x3 : Shape := ⟨4, ![1, 256, 16, 3]⟩
abbrev S8192x3 : Shape := ⟨2, ![8192, 3]⟩
abbrev S8192x64 : Shape := ⟨2, ![8192, 64]⟩
abbrev S256x3 : Shape := ⟨2, ![256, 3]⟩
abbrev S8192 : Shape := ⟨1, ![8192]⟩
abbrev S256 : Shape := ⟨1, ![256]⟩
abbrev S256x8192 : Shape := ⟨2, ![256, 8192]⟩
abbrev S256x1 : Shape := ⟨2, ![256, 1]⟩
abbrev S1x8192 : Shape := ⟨2, ![1, 8192]⟩
abbrev S256x64 : Shape := ⟨2, ![256, 64]⟩
abbrev S1x256x1x64 : Shape := ⟨4, ![1, 256, 1, 64]⟩
abbrev S1x256x1x3 : Shape := ⟨4, ![1, 256, 1, 3]⟩
abbrev S_ : Shape := ⟨0, ![]⟩
abbrev S1x64 : Shape := ⟨2, ![1, 64]⟩
abbrev S2x64 : Shape := ⟨2, ![2, 64]⟩
abbrev S1x512x64 : Shape := ⟨3, ![1, 512, 64]⟩
abbrev S1x512x16x64 : Shape := ⟨4, ![1, 512, 16, 64]⟩
abbrev S1x512x16x3 : Shape := ⟨4, ![1, 512, 16, 3]⟩
abbrev S512x64 : Shape := ⟨2, ![512, 64]⟩
abbrev S512x16x64 : Shape := ⟨3, ![512, 16, 64]⟩
abbrev S512x16x3 : Shape := ⟨3, ![512, 16, 3]⟩
abbrev S1x1x3 : Shape := ⟨3, ![1, 1, 3]⟩
abbrev S512x1x64 : Shape := ⟨3, ![512, 1, 64]⟩
abbrev S1x1x64 : Shape := ⟨3, ![1, 1, 64]⟩

abbrev nBuf : Space → Nat
  | .hbm => 108
  | .vmem => 79
  | .smem => 0
  | _ => 0

abbrev bufTy : (tb : Table) → Fin (tcTables nBuf tb) → BufTy
  | .hbm, ⟨0, _⟩ => ⟨S4x8192x64, .f32⟩
  | .hbm, ⟨1, _⟩ => ⟨S4x8192x3, .f32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S3x3, .f32⟩
  | .hbm, ⟨9, _⟩ => ⟨S3, .f32⟩
  | .hbm, ⟨10, _⟩ => ⟨S64x3, .f32⟩
  | .hbm, ⟨11, _⟩ => ⟨S64, .f32⟩
  | .hbm, ⟨12, _⟩ => ⟨S64x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S3, .f32⟩
  | .hbm, ⟨17, _⟩ => ⟨S3, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64, .f32⟩
  | .hbm, ⟨22, _⟩ => ⟨S64x64, .f32⟩
  | .hbm, ⟨23, _⟩ => ⟨S64x64, .f32⟩
  | .hbm, ⟨24, _⟩ => ⟨S64x64, .f32⟩
  | .hbm, ⟨25, _⟩ => ⟨S3x3, .f32⟩
  | .hbm, ⟨26, _⟩ => ⟨S3x64, .f32⟩
  | .hbm, ⟨27, _⟩ => ⟨S64x64, .f32⟩
  | .hbm, ⟨28, _⟩ => ⟨S64x64, .f32⟩
  | .hbm, ⟨29, _⟩ => ⟨S1x3, .f32⟩
  | .hbm, ⟨30, _⟩ => ⟨S4x8192x16x64, .f32⟩
  | .hbm, ⟨31, _⟩ => ⟨S4x8192x16x3, .f32⟩
  | .hbm, ⟨32, _⟩ => ⟨S2x3, .f32⟩
  | .hbm, ⟨33, _⟩ => ⟨S1x3, .f32⟩
  | .hbm, ⟨34, _⟩ => ⟨S3, .f32⟩
  | .hbm, ⟨35, _⟩ => ⟨S_, .f32⟩
  | .hbm, ⟨36, _⟩ => ⟨S3, .f32⟩
  | .hbm, ⟨37, _⟩ => ⟨S3, .f32⟩
  | .hbm, ⟨38, _⟩ => ⟨S1x3, .f32⟩
  | .hbm, ⟨39, _⟩ => ⟨S3, .f32⟩
  | .hbm, ⟨40, _⟩ => ⟨S_, .f32⟩
  | .hbm, ⟨41, _⟩ => ⟨S3, .f32⟩
  | .hbm, ⟨42, _⟩ => ⟨S3, .f32⟩
  | .hbm, ⟨43, _⟩ => ⟨S1x3, .f32⟩
  | .hbm, ⟨44, _⟩ => ⟨S3, .f32⟩
  | .hbm, ⟨45, _⟩ => ⟨S_, .f32⟩
  | .hbm, ⟨46, _⟩ => ⟨S3, .f32⟩
  | .hbm, ⟨47, _⟩ => ⟨S3, .f32⟩
  | .hbm, ⟨48, _⟩ => ⟨S3, .f32⟩
  | .hbm, ⟨49, _⟩ => ⟨S3, .f32⟩
  | .hbm, ⟨50, _⟩ => ⟨S1x3, .f32⟩
  | .hbm, ⟨51, _⟩ => ⟨S1x3, .f32⟩
  | .hbm, ⟨52, _⟩ => ⟨S2x3, .f32⟩
  | .hbm, ⟨53, _⟩ => ⟨S1x64, .f32⟩
  | .hbm, ⟨54, _⟩ => ⟨S1x3, .f32⟩
  | .hbm, ⟨55, _⟩ => ⟨S1x3, .f32⟩
  | .hbm, ⟨56, _⟩ => ⟨S1x64, .f32⟩
  | .hbm, ⟨57, _⟩ => ⟨S1x64, .f32⟩
  | .hbm, ⟨58, _⟩ => ⟨S2x64, .f32⟩
  | .hbm, ⟨59, _⟩ => ⟨S1x64, .f32⟩
  | .hbm, ⟨60, _⟩ => ⟨S64, .f32⟩
  | .hbm, ⟨61, _⟩ => ⟨S_, .f32⟩
  | .hbm, ⟨62, _⟩ => ⟨S64, .f32⟩
  | .hbm, ⟨63, _⟩ => ⟨S64, .f32⟩
  | .hbm, ⟨64, _⟩ => ⟨S1x64, .f32⟩
  | .hbm, ⟨65, _⟩ => ⟨S64, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S1x64, .f32⟩
  | .hbm, ⟨78, _⟩ => ⟨S2x64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S2x64, .f32⟩
  | .hbm, ⟨83, _⟩ => ⟨S1x64, .f32⟩
  | .hbm, ⟨84, _⟩ => ⟨S64, .f32⟩
  | .hbm, ⟨85, _⟩ => ⟨S_, .f32⟩
  | .hbm, ⟨86, _⟩ => ⟨S64, .f32⟩
  | .hbm, ⟨87, _⟩ => ⟨S64, .f32⟩
  | .hbm, ⟨88, _⟩ => ⟨S1x64, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S1x64, .f32⟩
  | .hbm, ⟨94, _⟩ => ⟨S64, .f32⟩
  | .hbm, ⟨95, _⟩ => ⟨S_, .f32⟩
  | .hbm, ⟨96, _⟩ => ⟨S64, .f32⟩
  | .hbm, ⟨97, _⟩ => ⟨S64, .f32⟩
  | .hbm, ⟨98, _⟩ => ⟨S64, .f32⟩
  | .hbm, ⟨99, _⟩ => ⟨S64, .f32⟩
  | .hbm, ⟨100, _⟩ => ⟨S1x64, .f32⟩
  | .hbm, ⟨101, _⟩ => ⟨S1x64, .f32⟩
  | .hbm, ⟨102, _⟩ => ⟨S2x64, .f32⟩
  | .hbm, ⟨103, _⟩ => ⟨S1x64, .f32⟩
  | .hbm, ⟨104, _⟩ => ⟨S1x64, .f32⟩
  | .hbm, ⟨105, _⟩ => ⟨S1x64, .f32⟩
  | .hbm, ⟨106, _⟩ => ⟨S1x64, .f32⟩
  | .hbm, ⟨107, _⟩ => ⟨S4x8192x64, .f32⟩
  | .local _ .vmem, ⟨0, _⟩ => ⟨S1x8192x3, .f32⟩
  | .local _ .vmem, ⟨1, _⟩ => ⟨S1x8192x3, .f32⟩
  | .local _ .vmem, ⟨2, _⟩ => ⟨S1x8192x64, .f32⟩
  | .local _ .vmem, ⟨3, _⟩ => ⟨S1x8192x64, .f32⟩
  | .local _ .vmem, ⟨4, _⟩ => ⟨S1x256x3, .f32⟩
  | .local _ .vmem, ⟨5, _⟩ => ⟨S1x256x3, .f32⟩
  | .local _ .vmem, ⟨6, _⟩ => ⟨S3x3, .f32⟩
  | .local _ .vmem, ⟨7, _⟩ => ⟨S1x3, .f32⟩
  | .local _ .vmem, ⟨8, _⟩ => ⟨S1x256x16x64, .f32⟩
  | .local _ .vmem, ⟨9, _⟩ => ⟨S1x256x16x64, .f32⟩
  | .local _ .vmem, ⟨10, _⟩ => ⟨S1x256x16x3, .f32⟩
  | .local _ .vmem, ⟨11, _⟩ => ⟨S1x256x16x3, .f32⟩
  | .local _ .vmem, ⟨12, _⟩ => ⟨S2x3, .f32⟩
  | .local _ .vmem, ⟨13, _⟩ => ⟨S1x512x64, .f32⟩
  | .local _ .vmem, ⟨14, _⟩ => ⟨S1x512x64, .f32⟩
  | .local _ .vmem, ⟨15, _⟩ => ⟨S1x512x16x64, .f32⟩
  | .local _ .vmem, ⟨16, _⟩ => ⟨S1x512x16x64, .f32⟩
  | .local _ .vmem, ⟨17, _⟩ => ⟨S1x512x16x3, .f32⟩
  | .local _ .vmem, ⟨18, _⟩ => ⟨S1x512x16x3, .f32⟩
  | .local _ .vmem, ⟨19, _⟩ => ⟨S2x3, .f32⟩
  | .local _ .vmem, ⟨20, _⟩ => ⟨S3x64, .f32⟩
  | .local _ .vmem, ⟨21, _⟩ => ⟨S1x64, .f32⟩
  | .local _ .vmem, ⟨22, _⟩ => ⟨S1x3, .f32⟩
  | .local _ .vmem, ⟨23, _⟩ => ⟨S1x3, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S2x64, .f32⟩
  | .local _ .vmem, ⟨29, _⟩ => ⟨S1x512x64, .f32⟩
  | .local _ .vmem, ⟨30, _⟩ => ⟨S1x512x64, .f32⟩
  | .local _ .vmem, ⟨31, _⟩ => ⟨S1x512x16x64, .f32⟩
  | .local _ .vmem, ⟨32, _⟩ => ⟨S1x512x16x64, .f32⟩
  | .local _ .vmem, ⟨33, _⟩ => ⟨S1x512x16x3, .f32⟩
  | .local _ .vmem, ⟨34, _⟩ => ⟨S1x512x16x3, .f32⟩
  | .local _ .vmem, ⟨35, _⟩ => ⟨S2x3, .f32⟩
  | .local _ .vmem, ⟨36, _⟩ => ⟨S3x64, .f32⟩
  | .local _ .vmem, ⟨37, _⟩ => ⟨S1x64, .f32⟩
  | .local _ .vmem, ⟨38, _⟩ => ⟨S1x3, .f32⟩
  | .local _ .vmem, ⟨39, _⟩ => ⟨S1x3, .f32⟩
  | .local _ .vmem, ⟨40, _⟩ => ⟨S64x64, .f32⟩
  | .local _ .vmem, ⟨41, _⟩ => ⟨S1x64, .f32⟩
  | .local _ .vmem, ⟨42, _⟩ => ⟨S64x64, .f32⟩
  | .local _ .vmem, ⟨43, _⟩ => ⟨S1x64, .f32⟩
  | .local _ .vmem, ⟨44, _⟩ => ⟨S2x64, .f32⟩
  | .local _ .vmem, ⟨45, _⟩ => ⟨S1x64, .f32⟩
  | .local _ .vmem, ⟨46, _⟩ => ⟨S1x64, .f32⟩
  | .local _ .vmem, ⟨47, _⟩ => ⟨S64x64, .f32⟩
  | .local _ .vmem, ⟨48, _⟩ => ⟨S1x64, .f32⟩
  | .local _ .vmem, ⟨49, _⟩ => ⟨S2x64, .f32⟩
  | .local _ .vmem, ⟨50, _⟩ => ⟨S1x512x64, .f32⟩
  | .local _ .vmem, ⟨51, _⟩ => ⟨S1x512x64, .f32⟩
  | .local _ .vmem, ⟨52, _⟩ => ⟨S1x512x16x64, .f32⟩
  | .local _ .vmem, ⟨53, _⟩ => ⟨S1x512x16x64, .f32⟩
  | .local _ .vmem, ⟨54, _⟩ => ⟨S1x512x16x3, .f32⟩
  | .local _ .vmem, ⟨55, _⟩ => ⟨S1x512x16x3, .f32⟩
  | .local _ .vmem, ⟨56, _⟩ => ⟨S2x3, .f32⟩
  | .local _ .vmem, ⟨57, _⟩ => ⟨S3x64, .f32⟩
  | .local _ .vmem, ⟨58, _⟩ => ⟨S1x64, .f32⟩
  | .local _ .vmem, ⟨59, _⟩ => ⟨S1x3, .f32⟩
  | .local _ .vmem, ⟨60, _⟩ => ⟨S1x3, .f32⟩
  | .local _ .vmem, ⟨61, _⟩ => ⟨S64x64, .f32⟩
  | .local _ .vmem, ⟨62, _⟩ => ⟨S1x64, .f32⟩
  | .local _ .vmem, ⟨63, _⟩ => ⟨S64x64, .f32⟩
  | .local _ .vmem, ⟨64, _⟩ => ⟨S1x64, .f32⟩
  | .local _ .vmem, ⟨65, _⟩ => ⟨S2x64, .f32⟩
  | .local _ .vmem, ⟨66, _⟩ => ⟨S1x64, .f32⟩
  | .local _ .vmem, ⟨67, _⟩ => ⟨S1x64, .f32⟩
  | .local _ .vmem, ⟨68, _⟩ => ⟨S64x64, .f32⟩
  | .local _ .vmem, ⟨69, _⟩ => ⟨S1x64, .f32⟩
  | .local _ .vmem, ⟨70, _⟩ => ⟨S2x64, .f32⟩
  | .local _ .vmem, ⟨71, _⟩ => ⟨S1x64, .f32⟩
  | .local _ .vmem, ⟨72, _⟩ => ⟨S1x64, .f32⟩
  | .local _ .vmem, ⟨73, _⟩ => ⟨S64x64, .f32⟩
  | .local _ .vmem, ⟨74, _⟩ => ⟨S1x64, .f32⟩
  | .local _ .vmem, ⟨75, _⟩ => ⟨S64x64, .f32⟩
  | .local _ .vmem, ⟨76, _⟩ => ⟨S1x64, .f32⟩
  | .local _ .vmem, ⟨77, _⟩ => ⟨S1x512x64, .f32⟩
  | .local _ .vmem, ⟨78, _⟩ => ⟨S1x512x64, .f32⟩
  | _, _ => ⟨S4x8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | _, _ => false

abbrev semScoped : Fin 0 → Bool
  | ⟨_, h⟩ => absurd h (Nat.not_lt_zero _)

abbrev dmaSemScoped : Fin 79 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | _ => false

abbrev sig : RefSig :=
  ofTc nBuf bufTy 0 79 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8_0 : Ref sig .tc := ⟨.hbm, 30, rfl⟩
abbrev main_v8_1 : Ref sig .tc := ⟨.hbm, 31, rfl⟩
abbrev main_v8_2 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_cst_1 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_2 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_3 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_5 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_cst_6 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_cst_7 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg11_0 : Ref sig .tc := ⟨.vmem, 27, rfl⟩
abbrev cc1_stg12_0 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg1_1 : Ref sig .tc := ⟨.vmem, 32, rfl⟩
abbrev cc2_stg2_0 : Ref sig .tc := ⟨.vmem, 33, rfl⟩
abbrev cc2_stg2_1 : Ref sig .tc := ⟨.vmem, 34, rfl⟩
abbrev cc2_stg3_0 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg9_0 : Ref sig .tc := ⟨.vmem, 41, rfl⟩
abbrev cc2_stg10_0 : Ref sig .tc := ⟨.vmem, 42, rfl⟩
abbrev cc2_stg11_0 : Ref sig .tc := ⟨.vmem, 43, rfl⟩
abbrev cc2_stg12_0 : Ref sig .tc := ⟨.vmem, 44, rfl⟩
abbrev cc2_stg13_0 : Ref sig .tc := ⟨.vmem, 45, rfl⟩
abbrev cc2_stg14_0 : Ref sig .tc := ⟨.vmem, 46, rfl⟩
abbrev cc2_stg15_0 : Ref sig .tc := ⟨.vmem, 47, rfl⟩
abbrev cc2_stg16_0 : Ref sig .tc := ⟨.vmem, 48, rfl⟩
abbrev cc2_stg17_0 : Ref sig .tc := ⟨.vmem, 49, rfl⟩
abbrev cc3_stg0_0 : Ref sig .tc := ⟨.vmem, 50, rfl⟩
abbrev cc3_stg0_1 : Ref sig .tc := ⟨.vmem, 51, rfl⟩
abbrev cc3_stg1_0 : Ref sig .tc := ⟨.vmem, 52, rfl⟩
abbrev cc3_stg1_1 : Ref sig .tc := ⟨.vmem, 53, rfl⟩
abbrev cc3_stg2_0 : Ref sig .tc := ⟨.vmem, 54, rfl⟩
abbrev cc3_stg2_1 : Ref sig .tc := ⟨.vmem, 55, rfl⟩
abbrev cc3_stg3_0 : Ref sig .tc := ⟨.vmem, 56, rfl⟩
abbrev cc3_stg4_0 : Ref sig .tc := ⟨.vmem, 57, rfl⟩
abbrev cc3_stg5_0 : Ref sig .tc := ⟨.vmem, 58, rfl⟩
abbrev cc3_stg6_0 : Ref sig .tc := ⟨.vmem, 59, rfl⟩
abbrev cc3_stg7_0 : Ref sig .tc := ⟨.vmem, 60, rfl⟩
abbrev cc3_stg8_0 : Ref sig .tc := ⟨.vmem, 61, rfl⟩
abbrev cc3_stg9_0 : Ref sig .tc := ⟨.vmem, 62, rfl⟩
abbrev cc3_stg10_0 : Ref sig .tc := ⟨.vmem, 63, rfl⟩
abbrev cc3_stg11_0 : Ref sig .tc := ⟨.vmem, 64, rfl⟩
abbrev cc3_stg12_0 : Ref sig .tc := ⟨.vmem, 65, rfl⟩
abbrev cc3_stg13_0 : Ref sig .tc := ⟨.vmem, 66, rfl⟩
abbrev cc3_stg14_0 : Ref sig .tc := ⟨.vmem, 67, rfl⟩
abbrev cc3_stg15_0 : Ref sig .tc := ⟨.vmem, 68, rfl⟩
abbrev cc3_stg16_0 : Ref sig .tc := ⟨.vmem, 69, rfl⟩
abbrev cc3_stg17_0 : Ref sig .tc := ⟨.vmem, 70, rfl⟩
abbrev cc3_stg18_0 : Ref sig .tc := ⟨.vmem, 71, rfl⟩
abbrev cc3_stg19_0 : Ref sig .tc := ⟨.vmem, 72, rfl⟩
abbrev cc3_stg20_0 : Ref sig .tc := ⟨.vmem, 73, rfl⟩
abbrev cc3_stg21_0 : Ref sig .tc := ⟨.vmem, 74, rfl⟩
abbrev cc3_stg22_0 : Ref sig .tc := ⟨.vmem, 75, rfl⟩
abbrev cc3_stg23_0 : Ref sig .tc := ⟨.vmem, 76, rfl⟩
abbrev cc3_stg24_0 : Ref sig .tc := ⟨.vmem, 77, rfl⟩
abbrev cc3_stg24_1 : Ref sig .tc := ⟨.vmem, 78, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem11_0 : DmaSem sig := 27
abbrev cc1_sem12_0 : DmaSem sig := 28
abbrev cc2_sem0_0 : DmaSem sig := 29
abbrev cc2_sem0_1 : DmaSem sig := 30
abbrev cc2_sem1_0 : DmaSem sig := 31
abbrev cc2_sem1_1 : DmaSem sig := 32
abbrev cc2_sem2_0 : DmaSem sig := 33
abbrev cc2_sem2_1 : DmaSem sig := 34
abbrev cc2_sem3_0 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem9_0 : DmaSem sig := 41
abbrev cc2_sem10_0 : DmaSem sig := 42
abbrev cc2_sem11_0 : DmaSem sig := 43
abbrev cc2_sem12_0 : DmaSem sig := 44
abbrev cc2_sem13_0 : DmaSem sig := 45
abbrev cc2_sem14_0 : DmaSem sig := 46
abbrev cc2_sem15_0 : DmaSem sig := 47
abbrev cc2_sem16_0 : DmaSem sig := 48
abbrev cc2_sem17_0 : DmaSem sig := 49
abbrev cc3_sem0_0 : DmaSem sig := 50
abbrev cc3_sem0_1 : DmaSem sig := 51
abbrev cc3_sem1_0 : DmaSem sig := 52
abbrev cc3_sem1_1 : DmaSem sig := 53
abbrev cc3_sem2_0 : DmaSem sig := 54
abbrev cc3_sem2_1 : DmaSem sig := 55
abbrev cc3_sem3_0 : DmaSem sig := 56
abbrev cc3_sem4_0 : DmaSem sig := 57
abbrev cc3_sem5_0 : DmaSem sig := 58
abbrev cc3_sem6_0 : DmaSem sig := 59
abbrev cc3_sem7_0 : DmaSem sig := 60
abbrev cc3_sem8_0 : DmaSem sig := 61
abbrev cc3_sem9_0 : DmaSem sig := 62
abbrev cc3_sem10_0 : DmaSem sig := 63
abbrev cc3_sem11_0 : DmaSem sig := 64
abbrev cc3_sem12_0 : DmaSem sig := 65
abbrev cc3_sem13_0 : DmaSem sig := 66
abbrev cc3_sem14_0 : DmaSem sig := 67
abbrev cc3_sem15_0 : DmaSem sig := 68
abbrev cc3_sem16_0 : DmaSem sig := 69
abbrev cc3_sem17_0 : DmaSem sig := 70
abbrev cc3_sem18_0 : DmaSem sig := 71
abbrev cc3_sem19_0 : DmaSem sig := 72
abbrev cc3_sem20_0 : DmaSem sig := 73
abbrev cc3_sem21_0 : DmaSem sig := 74
abbrev cc3_sem22_0 : DmaSem sig := 75
abbrev cc3_sem23_0 : DmaSem sig := 76
abbrev cc3_sem24_0 : DmaSem sig := 77
abbrev cc3_sem24_1 : DmaSem sig := 78

abbrev nD : Nat := 1
abbrev τ : Topo := Topo.v7x

variable {F : FTy → Type} [FloatOps F]

abbrev grid0 : Pipeline.Grid := ⟨2, ![4, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x16x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x16x3 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S2x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev grid1 : Pipeline.Grid := ⟨2, ![4, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x16x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x16x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S2x3 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S3x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1x3 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S64x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S2x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev grid2 : Pipeline.Grid := ⟨2, ![4, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_16 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_17 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S1x512x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x512x16x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x512x16x3 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 1 → Memref sig .tc .vmem S2x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S3x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x3 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1x3 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S64x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S64x64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S2x64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x64 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x64 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 1 → Memref sig .tc .vmem S64x64 .f32 := fun | 0 => Memref.whole cc2_stg15_0 | ⟨_ + 1, h⟩ => absurd h (Nat.not_lt.2 (Nat.le_add_left _ _))
abbrev sem2_15 : Fin 1 → DmaSem sig := fun | 0 => cc2_sem15_0 | ⟨_ + 1, h⟩ => absurd h (Nat.not_lt.2 (Nat.le_add_left _ _))
abbrev reads2_15 : Fin grid2.rank → Bool := ![false, false]

abbrev stage2_16 : Fin 1 → Memref sig .tc .vmem S1x64 .f32 := fun | 0 => Memref.whole cc2_stg16_0 | ⟨_ + 1, h⟩ => absurd h (Nat.not_lt.2 (Nat.le_add_left _ _))
abbrev sem2_16 : Fin 1 → DmaSem sig := fun | 0 => cc2_sem16_0 | ⟨_ + 1, h⟩ => absurd h (Nat.not_lt.2 (Nat.le_add_left _ _))
abbrev reads2_16 : Fin grid2.rank → Bool := ![false, false]

abbrev stage2_17 : Fin 1 → Memref sig .tc .vmem S2x64 .f32 := fun | 0 => Memref.whole cc2_stg17_0 | ⟨_ + 1, h⟩ => absurd h (Nat.not_lt.2 (Nat.le_add_left _ _))
abbrev sem2_17 : Fin 1 → DmaSem sig := fun | 0 => cc2_sem17_0 | ⟨_ + 1, h⟩ => absurd h (Nat.not_lt.2 (Nat.le_add_left _ _))
abbrev reads2_17 : Fin grid2.rank → Bool := ![false, false]

abbrev grid3 : Pipeline.Grid := ⟨2, ![4, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_2 (i : grid3.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_17 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_18 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_19 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_20 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_21 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_22 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_23 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_24 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 2 → Memref sig .tc .vmem S1x512x16x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x512x16x3 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 1 → Memref sig .tc .vmem S2x3 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 1 → Memref sig .tc .vmem S3x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1x3 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1x3 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S64x64 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x64 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S64x64 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S1x64 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S2x64 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x64 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 1 → Memref sig .tc .vmem S1x64 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false, false]

abbrev stage3_15 : Fin 1 → Memref sig .tc .vmem S64x64 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false, false]

abbrev stage3_16 : Fin 1 → Memref sig .tc .vmem S1x64 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false, false]

abbrev stage3_17 : Fin 1 → Memref sig .tc .vmem S2x64 .f32 := fun | 0 => Memref.whole cc3_stg17_0 | ⟨_ + 1, h⟩ => absurd h (Nat.not_lt.2 (Nat.le_add_left _ _))
abbrev sem3_17 : Fin 1 → DmaSem sig := fun | 0 => cc3_sem17_0 | ⟨_ + 1, h⟩ => absurd h (Nat.not_lt.2 (Nat.le_add_left _ _))
abbrev reads3_17 : Fin grid3.rank → Bool := ![false, false]

abbrev stage3_18 : Fin 1 → Memref sig .tc .vmem S1x64 .f32 := fun | 0 => Memref.whole cc3_stg18_0 | ⟨_ + 1, h⟩ => absurd h (Nat.not_lt.2 (Nat.le_add_left _ _))
abbrev sem3_18 : Fin 1 → DmaSem sig := fun | 0 => cc3_sem18_0 | ⟨_ + 1, h⟩ => absurd h (Nat.not_lt.2 (Nat.le_add_left _ _))
abbrev reads3_18 : Fin grid3.rank → Bool := ![false, false]

abbrev stage3_19 : Fin 1 → Memref sig .tc .vmem S1x64 .f32 := fun | 0 => Memref.whole cc3_stg19_0 | ⟨_ + 1, h⟩ => absurd h (Nat.not_lt.2 (Nat.le_add_left _ _))
abbrev sem3_19 : Fin 1 → DmaSem sig := fun | 0 => cc3_sem19_0 | ⟨_ + 1, h⟩ => absurd h (Nat.not_lt.2 (Nat.le_add_left _ _))
abbrev reads3_19 : Fin grid3.rank → Bool := ![false, false]

abbrev stage3_20 : Fin 1 → Memref sig .tc .vmem S64x64 .f32 := fun | 0 => Memref.whole cc3_stg20_0 | ⟨_ + 1, h⟩ => absurd h (Nat.not_lt.2 (Nat.le_add_left _ _))
abbrev sem3_20 : Fin 1 → DmaSem sig := fun | 0 => cc3_sem20_0 | ⟨_ + 1, h⟩ => absurd h (Nat.not_lt.2 (Nat.le_add_left _ _))
abbrev reads3_20 : Fin grid3.rank → Bool := ![false, false]

abbrev stage3_21 : Fin 1 → Memref sig .tc .vmem S1x64 .f32 := fun | 0 => Memref.whole cc3_stg21_0 | ⟨_ + 1, h⟩ => absurd h (Nat.not_lt.2 (Nat.le_add_left _ _))
abbrev sem3_21 : Fin 1 → DmaSem sig := fun | 0 => cc3_sem21_0 | ⟨_ + 1, h⟩ => absurd h (Nat.not_lt.2 (Nat.le_add_left _ _))
abbrev reads3_21 : Fin grid3.rank → Bool := ![false, false]

abbrev stage3_22 : Fin 1 → Memref sig .tc .vmem S64x64 .f32 := fun | 0 => Memref.whole cc3_stg22_0 | ⟨_ + 1, h⟩ => absurd h (Nat.not_lt.2 (Nat.le_add_left _ _))
abbrev sem3_22 : Fin 1 → DmaSem sig := fun | 0 => cc3_sem22_0 | ⟨_ + 1, h⟩ => absurd h (Nat.not_lt.2 (Nat.le_add_left _ _))
abbrev reads3_22 : Fin grid3.rank → Bool := ![false, false]

abbrev stage3_23 : Fin 1 → Memref sig .tc .vmem S1x64 .f32 := fun | 0 => Memref.whole cc3_stg23_0 | ⟨_ + 1, h⟩ => absurd h (Nat.not_lt.2 (Nat.le_add_left _ _))
abbrev sem3_23 : Fin 1 → DmaSem sig := fun | 0 => cc3_sem23_0 | ⟨_ + 1, h⟩ => absurd h (Nat.not_lt.2 (Nat.le_add_left _ _))
abbrev reads3_23 : Fin grid3.rank → Bool := ![false, false]

abbrev stage3_24 : Fin 2 → Memref sig .tc .vmem S1x512x64 .f32 := fun | 0 => Memref.whole cc3_stg24_0 | 1 => Memref.whole cc3_stg24_1 | ⟨_ + 2, h⟩ => absurd h (Nat.not_lt.2 (Nat.le_add_left _ _))
abbrev sem3_24 : Fin 2 → DmaSem sig := fun | 0 => cc3_sem24_0 | 1 => cc3_sem24_1 | ⟨_ + 2, h⟩ => absurd h (Nat.not_lt.2 (Nat.le_add_left _ _))
abbrev reads3_24 : Fin grid3.rank → Bool := ![true, true]
-- ==== ReferenceIdeal.lean ====
abbrev S4x8192x64 : Shape := ⟨3, ![4, 8192, 64]⟩
abbrev S4x8192x3 : Shape := ⟨3, ![4, 8192, 3]⟩
abbrev S64x64 : Shape := ⟨2, ![64, 64]⟩
abbrev S64 : Shape := ⟨1, ![64]⟩
abbrev S3x3 : Shape := ⟨2, ![3, 3]⟩
abbrev S3 : Shape := ⟨1, ![3]⟩
abbrev S64x3 : Shape := ⟨2, ![64, 3]⟩
abbrev S_ : Shape := ⟨0, ![]⟩
abbrev S4x8192 : Shape := ⟨2, ![4, 8192]⟩
abbrev S4x8192x1 : Shape := ⟨3, ![4, 8192, 1]⟩
abbrev S4x1x8192 : Shape := ⟨3, ![4, 1, 8192]⟩
abbrev S4x8192x8192 : Shape := ⟨3, ![4, 8192, 8192]⟩
abbrev S4x8192x16 : Shape := ⟨3, ![4, 8192, 16]⟩
abbrev S4x8192x16x1 : Shape := ⟨4, ![4, 8192, 16, 1]⟩
abbrev S4x8192x16x64 : Shape := ⟨4, ![4, 8192, 16, 64]⟩
abbrev S4x8192x16x3 : Shape := ⟨4, ![4, 8192, 16, 3]⟩
abbrev S4x8192x1x3 : Shape := ⟨4, ![4, 8192, 1, 3]⟩
abbrev S1x1x1x3 : Shape := ⟨4, ![1, 1, 1, 3]⟩
abbrev S1x1x1x64 : Shape := ⟨4, ![1, 1, 1, 64]⟩
abbrev S1x1x64 : Shape := ⟨3, ![1, 1, 64]⟩
abbrev S4x8192x1x64 : Shape := ⟨4, ![4, 8192, 1, 64]⟩

abbrev nBuf : Space → Nat
  | .hbm => 229
  | .vmem => 0
  | .smem => 0
  | _ => 0

abbrev hbmTy0_0 (i : Nat) : BufTy := match i % 128 with
  | 0 => ⟨S4x8192x64, .f32⟩
  | 1 => ⟨S4x8192x3, .f32⟩
  | 2 => ⟨S64x64, .f32⟩
  | 3 => ⟨S64, .f32⟩
  | 4 => ⟨S64x64, .f32⟩
  | 5 => ⟨S64, .f32⟩
  | 6 => ⟨S64x64, .f32⟩
  | 7 => ⟨S64, .f32⟩
  | 8 => ⟨S3x3, .f32⟩
  | 9 => ⟨S3, .f32⟩
  | 10 => ⟨S64x3, .f32⟩
  | 11 => ⟨S64, .f32⟩
  | 12 => ⟨S64x64, .f32⟩
  | 13 => ⟨S64, .f32⟩
  | 14 => ⟨S64x64, .f32⟩
  | 15 => ⟨S64, .f32⟩
  | 16 => ⟨S3, .f32⟩
  | 17 => ⟨S3, .f32⟩
  | 18 => ⟨S64, .f32⟩
  | 19 => ⟨S64, .f32⟩
  | 20 => ⟨S64, .f32⟩
  | 21 => ⟨S64, .f32⟩
  | 22 => ⟨S4x8192x3, .f32⟩
  | 23 => ⟨S_, .f32⟩
  | 24 => ⟨S4x8192, .f32⟩
  | 25 => ⟨S4x8192x1, .f32⟩
  | 26 => ⟨S4x1x8192, .f32⟩
  | 27 => ⟨S4x8192x8192, .f32⟩
  | 28 => ⟨S4x8192x8192, .f32⟩
  | 29 => ⟨S4x8192x8192, .f32⟩
  | 30 => ⟨S4x8192x8192, .f32⟩
  | 31 => ⟨S_, .f32⟩
  | 32 => ⟨S4x8192x8192, .f32⟩
  | 33 => ⟨S4x8192x8192, .f32⟩
  | 34 => ⟨S4x8192x8192, .f32⟩
  | 35 => ⟨S4x8192x8192, .f32⟩
  | 36 => ⟨S4x8192x16, .f32⟩
  | 37 => ⟨S4x8192x16, .i32⟩
  | 38 => ⟨S_, .i32⟩
  | 39 => ⟨S4x8192x16, .i32⟩
  | 40 => ⟨S4x8192x16, .i1⟩
  | 41 => ⟨S_, .i32⟩
  | 42 => ⟨S4x8192x16, .i32⟩
  | 43 => ⟨S4x8192x16, .i32⟩
  | 44 => ⟨S4x8192x16, .i32⟩
  | 45 => ⟨S4x8192x16x1, .i32⟩
  | 46 => ⟨S4x8192x16x64, .f32⟩
  | 47 => ⟨S_, .i32⟩
  | 48 => ⟨S4x8192x16, .i32⟩
  | 49 => ⟨S4x8192x16, .i1⟩
  | 50 => ⟨S_, .i32⟩
  | 51 => ⟨S4x8192x16, .i32⟩
  | 52 => ⟨S4x8192x16, .i32⟩
  | 53 => ⟨S4x8192x16, .i32⟩
  | 54 => ⟨S4x8192x16x1, .i32⟩
  | 55 => ⟨S4x8192x16x3, .f32⟩
  | 56 => ⟨S4x8192x1x3, .f32⟩
  | 57 => ⟨S4x8192x16x3, .f32⟩
  | 58 => ⟨S4x8192x16x3, .f32⟩
  | 59 => ⟨S4x8192x16x3, .f32⟩
  | 60 => ⟨S1x1x1x3, .f32⟩
  | 61 => ⟨S4x8192x16x3, .f32⟩
  | 62 => ⟨S4x8192x16x3, .f32⟩
  | 63 => ⟨S_, .f32⟩
  | 64 => ⟨S3, .f32⟩
  | 65 => ⟨S1x1x1x3, .f32⟩
  | 66 => ⟨S_, .f32⟩
  | 67 => ⟨S1x1x1x3, .f32⟩
  | 68 => ⟨S1x1x1x3, .f32⟩
  | 69 => ⟨S4x8192x16x3, .f32⟩
  | 70 => ⟨S4x8192x16x3, .f32⟩
  | 71 => ⟨S4x8192x16x3, .f32⟩
  | 72 => ⟨S4x8192x16x3, .f32⟩
  | 73 => ⟨S4x8192x16x3, .f32⟩
  | 74 => ⟨S_, .f32⟩
  | 75 => ⟨S3, .f32⟩
  | 76 => ⟨S1x1x1x3, .f32⟩
  | 77 => ⟨S_, .f32⟩
  | 78 => ⟨S1x1x1x3, .f32⟩
  | 79 => ⟨S1x1x1x3, .f32⟩
  | 80 => ⟨S4x8192x16x3, .f32⟩
  | 81 => ⟨S4x8192x16x3, .f32⟩
  | 82 => ⟨S_, .f32⟩
  | 83 => ⟨S1x1x1x3, .f32⟩
  | 84 => ⟨S1x1x1x3, .f32⟩
  | 85 => ⟨S1x1x1x3, .f32⟩
  | 86 => ⟨S4x8192x16x3, .f32⟩
  | 87 => ⟨S4x8192x16x3, .f32⟩
  | 88 => ⟨S1x1x1x3, .f32⟩
  | 89 => ⟨S4x8192x16x3, .f32⟩
  | 90 => ⟨S4x8192x16x3, .f32⟩
  | 91 => ⟨S1x1x1x3, .f32⟩
  | 92 => ⟨S4x8192x16x3, .f32⟩
  | 93 => ⟨S4x8192x16x3, .f32⟩
  | 94 => ⟨S_, .f32⟩
  | 95 => ⟨S4x8192x16x3, .f32⟩
  | 96 => ⟨S4x8192x16x3, .f32⟩
  | 97 => ⟨S4x8192x16x3, .f32⟩
  | 98 => ⟨S_, .f32⟩
  | 99 => ⟨S4x8192x16x3, .f32⟩
  | 100 => ⟨S4x8192x16x3, .f32⟩
  | 101 => ⟨S4x8192x16x3, .f32⟩
  | 102 => ⟨S4x8192x16x3, .f32⟩
  | 103 => ⟨S4x8192x16x64, .f32⟩
  | 104 => ⟨S1x1x1x64, .f32⟩
  | 105 => ⟨S4x8192x16x64, .f32⟩
  | 106 => ⟨S4x8192x16x64, .f32⟩
  | 107 => ⟨S4x8192x64, .f32⟩
  | 108 => ⟨S1x1x64, .f32⟩
  | 109 => ⟨S4x8192x64, .f32⟩
  | 110 => ⟨S4x8192x64, .f32⟩
  | 111 => ⟨S4x8192x16x64, .f32⟩
  | 112 => ⟨S1x1x1x64, .f32⟩
  | 113 => ⟨S4x8192x16x64, .f32⟩
  | 114 => ⟨S4x8192x16x64, .f32⟩
  | 115 => ⟨S4x8192x1x64, .f32⟩
  | 116 => ⟨S4x8192x16x64, .f32⟩
  | 117 => ⟨S4x8192x16x64, .f32⟩
  | 118 => ⟨S4x8192x16x64, .f32⟩
  | 119 => ⟨S_, .f32⟩
  | 120 => ⟨S64, .f32⟩
  | 121 => ⟨S1x1x1x64, .f32⟩
  | 122 => ⟨S_, .f32⟩
  | 123 => ⟨S1x1x1x64, .f32⟩
  | 124 => ⟨S1x1x1x64, .f32⟩
  | 125 => ⟨S4x8192x16x64, .f32⟩
  | 126 => ⟨S4x8192x16x64, .f32⟩
  | 127 => ⟨S4x8192x16x64, .f32⟩
  | _ => ⟨S4x8192x64, .f32⟩

abbrev hbmTy0_1 (i : Nat) : BufTy := match i % 128 with
  | 0 => ⟨S4x8192x16x64, .f32⟩
  | 1 => ⟨S4x8192x16x64, .f32⟩
  | 2 => ⟨S_, .f32⟩
  | 3 => ⟨S64, .f32⟩
  | 4 => ⟨S1x1x1x64, .f32⟩
  | 5 => ⟨S_, .f32⟩
  | 6 => ⟨S1x1x1x64, .f32⟩
  | 7 => ⟨S1x1x1x64, .f32⟩
  | 8 => ⟨S4x8192x16x64, .f32⟩
  | 9 => ⟨S4x8192x16x64, .f32⟩
  | 10 => ⟨S_, .f32⟩
  | 11 => ⟨S1x1x1x64, .f32⟩
  | 12 => ⟨S1x1x1x64, .f32⟩
  | 13 => ⟨S1x1x1x64, .f32⟩
  | 14 => ⟨S4x8192x16x64, .f32⟩
  | 15 => ⟨S4x8192x16x64, .f32⟩
  | 16 => ⟨S1x1x1x64, .f32⟩
  | 17 => ⟨S4x8192x16x64, .f32⟩
  | 18 => ⟨S4x8192x16x64, .f32⟩
  | 19 => ⟨S1x1x1x64, .f32⟩
  | 20 => ⟨S4x8192x16x64, .f32⟩
  | 21 => ⟨S4x8192x16x64, .f32⟩
  | 22 => ⟨S_, .f32⟩
  | 23 => ⟨S4x8192x16x64, .f32⟩
  | 24 => ⟨S4x8192x16x64, .f32⟩
  | 25 => ⟨S4x8192x16x64, .f32⟩
  | 26 => ⟨S_, .f32⟩
  | 27 => ⟨S4x8192x16x64, .f32⟩
  | 28 => ⟨S4x8192x16x64, .f32⟩
  | 29 => ⟨S4x8192x16x64, .f32⟩
  | 30 => ⟨S4x8192x16x64, .f32⟩
  | 31 => ⟨S4x8192x16x64, .f32⟩
  | 32 => ⟨S1x1x1x64, .f32⟩
  | 33 => ⟨S4x8192x16x64, .f32⟩
  | 34 => ⟨S4x8192x16x64, .f32⟩
  | 35 => ⟨S_, .f32⟩
  | 36 => ⟨S64, .f32⟩
  | 37 => ⟨S1x1x1x64, .f32⟩
  | 38 => ⟨S_, .f32⟩
  | 39 => ⟨S1x1x1x64, .f32⟩
  | 40 => ⟨S1x1x1x64, .f32⟩
  | 41 => ⟨S4x8192x16x64, .f32⟩
  | 42 => ⟨S4x8192x16x64, .f32⟩
  | 43 => ⟨S4x8192x16x64, .f32⟩
  | 44 => ⟨S4x8192x16x64, .f32⟩
  | 45 => ⟨S4x8192x16x64, .f32⟩
  | 46 => ⟨S_, .f32⟩
  | 47 => ⟨S64, .f32⟩
  | 48 => ⟨S1x1x1x64, .f32⟩
  | 49 => ⟨S_, .f32⟩
  | 50 => ⟨S1x1x1x64, .f32⟩
  | 51 => ⟨S1x1x1x64, .f32⟩
  | 52 => ⟨S4x8192x16x64, .f32⟩
  | 53 => ⟨S4x8192x16x64, .f32⟩
  | 54 => ⟨S_, .f32⟩
  | 55 => ⟨S1x1x1x64, .f32⟩
  | 56 => ⟨S1x1x1x64, .f32⟩
  | 57 => ⟨S1x1x1x64, .f32⟩
  | 58 => ⟨S4x8192x16x64, .f32⟩
  | 59 => ⟨S4x8192x16x64, .f32⟩
  | 60 => ⟨S1x1x1x64, .f32⟩
  | 61 => ⟨S4x8192x16x64, .f32⟩
  | 62 => ⟨S4x8192x16x64, .f32⟩
  | 63 => ⟨S1x1x1x64, .f32⟩
  | 64 => ⟨S4x8192x16x64, .f32⟩
  | 65 => ⟨S4x8192x16x64, .f32⟩
  | 66 => ⟨S_, .f32⟩
  | 67 => ⟨S4x8192x16x64, .f32⟩
  | 68 => ⟨S4x8192x16x64, .f32⟩
  | 69 => ⟨S4x8192x16x64, .f32⟩
  | 70 => ⟨S_, .f32⟩
  | 71 => ⟨S4x8192x16x64, .f32⟩
  | 72 => ⟨S4x8192x16x64, .f32⟩
  | 73 => ⟨S4x8192x16x64, .f32⟩
  | 74 => ⟨S4x8192x16x64, .f32⟩
  | 75 => ⟨S4x8192x16x64, .f32⟩
  | 76 => ⟨S1x1x1x64, .f32⟩
  | 77 => ⟨S4x8192x16x64, .f32⟩
  | 78 => ⟨S4x8192x16x64, .f32⟩
  | 79 => ⟨S_, .f32⟩
  | 80 => ⟨S4x8192x64, .f32⟩
  | 81 => ⟨S_, .f32⟩
  | 82 => ⟨S4x8192x64, .f32⟩
  | 83 => ⟨S4x8192x64, .f32⟩
  | 84 => ⟨S4x8192x1x64, .f32⟩
  | 85 => ⟨S4x8192x16x64, .f32⟩
  | 86 => ⟨S4x8192x16x64, .f32⟩
  | 87 => ⟨S4x8192x16x64, .f32⟩
  | 88 => ⟨S_, .f32⟩
  | 89 => ⟨S4x8192x64, .f32⟩
  | 90 => ⟨S4x8192x1x64, .f32⟩
  | 91 => ⟨S4x8192x16x64, .f32⟩
  | 92 => ⟨S4x8192x16x64, .f32⟩
  | 93 => ⟨S4x8192x16x64, .f32⟩
  | 94 => ⟨S1x1x1x64, .f32⟩
  | 95 => ⟨S4x8192x16x64, .f32⟩
  | 96 => ⟨S4x8192x16x64, .f32⟩
  | 97 => ⟨S4x8192x16x64, .f32⟩
  | 98 => ⟨S4x8192x16x64, .f32⟩
  | 99 => ⟨S_, .f32⟩
  | 100 => ⟨S4x8192x64, .f32⟩
  | _ => ⟨S4x8192x64, .f32⟩

abbrev hbmTy (i : Nat) : BufTy := match i / 128 with
  | 0 => hbmTy0_0 i
  | 1 => hbmTy0_1 i
  | _ => ⟨S4x8192x64, .f32⟩

abbrev bufTy : (tb : Table) → Fin (tcTables nBuf tb) → BufTy
  | .hbm, ⟨i, _⟩ => hbmTy i
  | _, _ => ⟨S4x8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_cst_0 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_values : Ref sig .tc := ⟨.hbm, 36, rfl⟩
abbrev main_indices : Ref sig .tc := ⟨.hbm, 37, rfl⟩
abbrev main_c : Ref sig .tc := ⟨.hbm, 38, rfl⟩
abbrev main_v12 : Ref sig .tc := ⟨.hbm, 39, rfl⟩
abbrev main_v13 : Ref sig .tc := ⟨.hbm, 40, rfl⟩
abbrev main_c_1 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_c_2 : Ref sig .tc := ⟨.hbm, 47, rfl⟩
abbrev main_v19 : Ref sig .tc := ⟨.hbm, 48, rfl⟩
abbrev main_v20 : Ref sig .tc := ⟨.hbm, 49, rfl⟩
abbrev main_c_3 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_cst_4 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_cst_6 : Ref sig .tc := ⟨.hbm, 74, rfl⟩
abbrev main_v42 : Ref sig .tc := ⟨.hbm, 75, rfl⟩
abbrev main_v43 : Ref sig .tc := ⟨.hbm, 76, rfl⟩
abbrev main_cst_7 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_cst_8 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_9 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_10 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_11 : Ref sig .tc := ⟨.hbm, 119, rfl⟩
abbrev main_v82 : Ref sig .tc := ⟨.hbm, 120, rfl⟩
abbrev main_v83 : Ref sig .tc := ⟨.hbm, 121, rfl⟩
abbrev main_cst_12 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_13 : Ref sig .tc := ⟨.hbm, 130, rfl⟩
abbrev main_v91 : Ref sig .tc := ⟨.hbm, 131, rfl⟩
abbrev main_v92 : Ref sig .tc := ⟨.hbm, 132, rfl⟩
abbrev main_cst_14 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_cst_15 : Ref sig .tc := ⟨.hbm, 138, rfl⟩
abbrev main_v97 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_cst_16 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_cst_17 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_cst_18 : Ref sig .tc := ⟨.hbm, 163, rfl⟩
abbrev main_v119 : Ref sig .tc := ⟨.hbm, 164, rfl⟩
abbrev main_v120 : Ref sig .tc := ⟨.hbm, 165, rfl⟩
abbrev main_cst_19 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_cst_20 : Ref sig .tc := ⟨.hbm, 174, rfl⟩
abbrev main_v128 : Ref sig .tc := ⟨.hbm, 175, rfl⟩
abbrev main_v129 : Ref sig .tc := ⟨.hbm, 176, rfl⟩
abbrev main_cst_21 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_22 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_v143 : Ref sig .tc := ⟨.hbm, 192, rfl⟩
abbrev main_v144 : Ref sig .tc := ⟨.hbm, 193, rfl⟩
abbrev main_cst_23 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_cst_24 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_cst_25 : Ref sig .tc := ⟨.hbm, 207, rfl⟩
abbrev main_v156 : Ref sig .tc := ⟨.hbm, 208, rfl⟩
abbrev main_cst_26 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_cst_27 : Ref sig .tc := ⟨.hbm, 216, rfl⟩
abbrev main_v163 : Ref sig .tc := ⟨.hbm, 217, rfl⟩
abbrev main_v164 : Ref sig .tc := ⟨.hbm, 218, rfl⟩
abbrev main_v165 : Ref sig .tc := ⟨.hbm, 219, rfl⟩
abbrev main_v166 : Ref sig .tc := ⟨.hbm, 220, rfl⟩
abbrev main_v167 : Ref sig .tc := ⟨.hbm, 221, rfl⟩
abbrev main_v168 : Ref sig .tc := ⟨.hbm, 222, rfl⟩
abbrev main_v169 : Ref sig .tc := ⟨.hbm, 223, rfl⟩
abbrev main_v170 : Ref sig .tc := ⟨.hbm, 224, rfl⟩
abbrev main_v171 : Ref sig .tc := ⟨.hbm, 225, rfl⟩
abbrev main_v172 : Ref sig .tc := ⟨.hbm, 226, rfl⟩
abbrev main_cst_28 : Ref sig .tc := ⟨.hbm, 227, rfl⟩
abbrev main_v173 : Ref sig .tc := ⟨.hbm, 228, rfl⟩

abbrev nD : Nat := 1
abbrev τ : Topo := Topo.v7x

variable {F : FTy → Type} [FloatOps F]
-- ==== Proof.Frame.Region2.lean ====
/-
  The second statistics pass of the ideal kernel, at the contents its region is entered with: blocks, what each grid point leaves, and the region's obligation.
  Restated from the generated frame, with larger budgets for two regions.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 2 of @main: custom_call 2, `cc2__p3_body` (pipeline 2), at the entry contents `V` — class R -/

/-! ## The windows' blocks -/

/-- Window `w`'s block at point `t`, read off its array as the region finds it (`V`). -/
noncomputable def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_8_of {c : Dev nD} (dat : Dat τ (Elt F) Unit ℕ (UR sig nD τ) ℕ cfg2 c) (hA : dat.A 8 = V c (Pipeline.arrRef spec2 8))
    (hafter : ∀ t, dat.after 8 t = iblk2 V c 8 t) (t : Fin cfg2.N) (d) : dat.before 8 t d = iblk2 V c 8 t :=
  (dat.before_in_eq_fetched 8 rfl (fun _ => rfl) (fun _ _ _ => rfl) (fun t => by rw [hafter]; unfold Dat.blockOf iblk2; rw [hA]; try rfl) t d).trans
    (by unfold Dat.fetched Dat.blockOf iblk2; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_9_of {c : Dev nD} (dat : Dat τ (Elt F) Unit ℕ (UR sig nD τ) ℕ cfg2 c) (hA : dat.A 9 = V c (Pipeline.arrRef spec2 9))
    (hafter : ∀ t, dat.after 9 t = iblk2 V c 9 t) (t : Fin cfg2.N) (d) : dat.before 9 t d = iblk2 V c 9 t :=
  (dat.before_in_eq_fetched 9 rfl (fun _ => rfl) (fun _ _ _ => rfl) (fun t => by rw [hafter]; unfold Dat.blockOf iblk2; rw [hA]; try rfl) t d).trans
    (by unfold Dat.fetched Dat.blockOf iblk2; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_10_of {c : Dev nD} (dat : Dat τ (Elt F) Unit ℕ (UR sig nD τ) ℕ cfg2 c) (hA : dat.A 10 = V c (Pipeline.arrRef spec2 10))
    (hafter : ∀ t, dat.after 10 t = iblk2 V c 10 t) (t : Fin cfg2.N) (d) : dat.before 10 t d = iblk2 V c 10 t :=
  (dat.before_in_eq_fetched 10 rfl (fun _ => rfl) (fun _ _ _ => rfl) (fun t => by rw [hafter]; unfold Dat.blockOf iblk2; rw [hA]; try rfl) t d).trans
    (by unfold Dat.fetched Dat.blockOf iblk2; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_11_of {c : Dev nD} (dat : Dat τ (Elt F) Unit ℕ (UR sig nD τ) ℕ cfg2 c) (hA : dat.A 11 = V c (Pipeline.arrRef spec2 11))
    (hafter : ∀ t, dat.after 11 t = iblk2 V c 11 t) (t : Fin cfg2.N) (d) : dat.before 11 t d = iblk2 V c 11 t :=
  (dat.before_in_eq_fetched 11 rfl (fun _ => rfl) (fun _ _ _ => rfl) (fun t => by rw [hafter]; unfold Dat.blockOf iblk2; rw [hA]; try rfl) t d).trans
    (by unfold Dat.fetched Dat.blockOf iblk2; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_12_of {c : Dev nD} (dat : Dat τ (Elt F) Unit ℕ (UR sig nD τ) ℕ cfg2 c) (hA : dat.A 12 = V c (Pipeline.arrRef spec2 12))
    (hafter : ∀ t, dat.after 12 t = iblk2 V c 12 t) (t : Fin cfg2.N) (d) : dat.before 12 t d = iblk2 V c 12 t :=
  (dat.before_in_eq_fetched 12 rfl (fun _ => rfl) (fun _ _ _ => rfl) (fun t => by rw [hafter]; unfold Dat.blockOf iblk2; rw [hA]; try rfl) t d).trans
    (by unfold Dat.fetched Dat.blockOf iblk2; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_13_of {c : Dev nD} (dat : Dat τ (Elt F) Unit ℕ (UR sig nD τ) ℕ cfg2 c) (hA : dat.A 13 = V c (Pipeline.arrRef spec2 13))
    (hafter : ∀ t, dat.after 13 t = iblk2 V c 13 t) (t : Fin cfg2.N) (d) : dat.before 13 t d = iblk2 V c 13 t :=
  (dat.before_in_eq_fetched 13 rfl (fun _ => rfl) (fun _ _ _ => rfl) (fun t => by rw [hafter]; unfold Dat.blockOf iblk2; rw [hA]; try rfl) t d).trans
    (by unfold Dat.fetched Dat.blockOf iblk2; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_14_of {c : Dev nD} (dat : Dat τ (Elt F) Unit ℕ (UR sig nD τ) ℕ cfg2 c) (hA : dat.A 14 = V c (Pipeline.arrRef spec2 14))
    (hafter : ∀ t, dat.after 14 t = iblk2 V c 14 t) (t : Fin cfg2.N) (d) : dat.before 14 t d = iblk2 V c 14 t :=
  (dat.before_in_eq_fetched 14 rfl (fun _ => rfl) (fun _ _ _ => rfl) (fun t => by rw [hafter]; unfold Dat.blockOf iblk2; rw [hA]; try rfl) t d).trans
    (by unfold Dat.fetched Dat.blockOf iblk2; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_15_of {c : Dev nD} (dat : Dat τ (Elt F) Unit ℕ (UR sig nD τ) ℕ cfg2 c) (hA : dat.A 15 = V c (Pipeline.arrRef spec2 15))
    (hafter : ∀ t, dat.after 15 t = iblk2 V c 15 t) (t : Fin cfg2.N) (d) : dat.before 15 t d = iblk2 V c 15 t :=
  (dat.before_in_eq_fetched 15 rfl (fun _ => rfl) (fun _ _ _ => rfl) (fun t => by rw [hafter]; unfold Dat.blockOf iblk2; rw [hA]; try rfl) t d).trans
    (by unfold Dat.fetched Dat.blockOf iblk2; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_16_of {c : Dev nD} (dat : Dat τ (Elt F) Unit ℕ (UR sig nD τ) ℕ cfg2 c) (hA : dat.A 16 = V c (Pipeline.arrRef spec2 16))
    (hafter : ∀ t, dat.after 16 t = iblk2 V c 16 t) (t : Fin cfg2.N) (d) : dat.before 16 t d = iblk2 V c 16 t :=
  (dat.before_in_eq_fetched 16 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond2_0 : ∀ t : Fin cfg2.N, cond2_0 (grid2.coords t) ↔ t.val % 64 = 0 :=
  (fun t => by
    have ht : t.val < 64 := Nat.lt_of_lt_of_eq t.isLt N_2
    have e0 : (grid2.coords t 0).val = t.val / 16 % 4 := Pipeline.Grid.coords_val t 0 (by decide) rfl
    have e1 : (grid2.coords t 1).val = t.val / 1 % 16 := Pipeline.Grid.coords_val t 1 (by decide) rfl
    simp only [cond2_0, e0, e1]
    word_cmp
   : ∀ t : Fin grid2.N, cond2_0 (grid2.coords t) ↔ t.val % 64 = 0)

/-! ## The kernel body on any staging memrefs: a subtype the run finds -/

/-- One staging buffer of output window 17, through which its contents are stated (`View.read_writes_of_cover`: the
    choice does not matter). -/
abbrev VO2_17 : View sig .tc .vmem S2x64 .f32 := (Memref.whole cc2_stg17_0 : Memref sig .tc .vmem S2x64 .f32).view
/-- Each window's current staging memref at point `t`, spelled as the pipeline passes it (`bodyAt2`), and its wholeness. -/
abbrev ms2_0 (t : Fin cfg2.N) : Memref sig .tc .vmem S1x512x64 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x512x16x64 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x512x16x3 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S2x3 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S3x64 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x64 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x3 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x3 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S64x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S1x64 .f32 := win2_9.stage (cfg2.slots t 9)
abbrev hs2_9 (t : Fin cfg2.N) : (ms2_9 t).IsWhole := hstage2_9 ((cfg2.slots t 9).cast nbuf2_9)
abbrev ms2_10 (t : Fin cfg2.N) : Memref sig .tc .vmem S64x64 .f32 := win2_10.stage (cfg2.slots t 10)
abbrev hs2_10 (t : Fin cfg2.N) : (ms2_10 t).IsWhole := hstage2_10 ((cfg2.slots t 10).cast nbuf2_10)
abbrev ms2_11 (t : Fin cfg2.N) : Memref sig .tc .vmem S1x64 .f32 := win2_11.stage (cfg2.slots t 11)
abbrev hs2_11 (t : Fin cfg2.N) : (ms2_11 t).IsWhole := hstage2_11 ((cfg2.slots t 11).cast nbuf2_11)
abbrev ms2_12 (t : Fin cfg2.N) : Memref sig .tc .vmem S2x64 .f32 := win2_12.stage (cfg2.slots t 12)
abbrev hs2_12 (t : Fin cfg2.N) : (ms2_12 t).IsWhole := hstage2_12 ((cfg2.slots t 12).cast nbuf2_12)
abbrev ms2_13 (t : Fin cfg2.N) : Memref sig .tc .vmem S1x64 .f32 := win2_13.stage (cfg2.slots t 13)
abbrev hs2_13 (t : Fin cfg2.N) : (ms2_13 t).IsWhole := hstage2_13 ((cfg2.slots t 13).cast nbuf2_13)
abbrev ms2_14 (t : Fin cfg2.N) : Memref sig .tc .vmem S1x64 .f32 := win2_14.stage (cfg2.slots t 14)
abbrev hs2_14 (t : Fin cfg2.N) : (ms2_14 t).IsWhole := hstage2_14 ((cfg2.slots t 14).cast nbuf2_14)
abbrev ms2_15 (t : Fin cfg2.N) : Memref sig .tc .vmem S64x64 .f32 := win2_15.stage (cfg2.slots t 15)
abbrev hs2_15 (t : Fin cfg2.N) : (ms2_15 t).IsWhole := hstage2_15 ((cfg2.slots t 15).cast nbuf2_15)
abbrev ms2_16 (t : Fin cfg2.N) : Memref sig .tc .vmem S1x64 .f32 := win2_16.stage (cfg2.slots t 16)
abbrev hs2_16 (t : Fin cfg2.N) : (ms2_16 t).IsWhole := hstage2_16 ((cfg2.slots t 16).cast nbuf2_16)
abbrev ms2_17 (t : Fin cfg2.N) : Memref sig .tc .vmem S2x64 .f32 := win2_17.stage (cfg2.slots t 17)
abbrev hs2_17 (t : Fin cfg2.N) : (ms2_17 t).IsWhole := hstage2_17 ((cfg2.slots t 17).cast nbuf2_17)

-- (the run's proof term is large: the definition's epilogue — `abstractNestedProofs` — walks it past the default budget)
set_option maxHeartbeats 2000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg2 : Memref sig .tc .vmem S1x512x64 .f32) (harg2 : arg2.IsWhole) (arg3 : Memref sig .tc .vmem S1x512x16x64 .f32) (harg3 : arg3.IsWhole) (arg4 : Memref sig .tc .vmem S1x512x16x3 .f32) (harg4 : arg4.IsWhole) (arg5 : Memref sig .tc .vmem S2x3 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S2x64 .f32) (harg19 : arg19.IsWhole) (hc0 : cond2_0 i)
    (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) :
    { L17 : List (View.Piece (Elt F) S2x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ d, owns (c : Thread nD τ) arg19 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17)) -∗ K ⟨⟩))
          ⊢ wp frame (wpE (defs₀ (F := F)) Variants.none c none) E (cc2__p3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc2__p3_body_eq_skeleton]; unfold cc2__p3_body_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    iexists _; iexact H17

/-- Case A's pieces for output 17 tile its block (2 stores of `S2x64`, checked by the kernel's evaluation: Lib/Ring.lean `Piece.tiledL`, linear in the pieces, through a loop's `@[irreducible]` trip theorem too), so they cover it. -/
theorem cover2_A_17 (c : Dev nD) (i : grid2.Coords) (arg2 : Memref sig .tc .vmem S1x512x64 .f32) (harg2 : arg2.IsWhole) (arg3 : Memref sig .tc .vmem S1x512x16x64 .f32) (harg3 : arg3.IsWhole) (arg4 : Memref sig .tc .vmem S1x512x16x3 .f32) (harg4 : arg4.IsWhole) (arg5 : Memref sig .tc .vmem S2x3 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S2x64 .f32) (harg19 : arg19.IsWhole) (hc0 : cond2_0 i)
    (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (y : S2x64.Idx) :
    ∃ pc ∈ (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16).1, y ∈ pc.1.set :=
  View.cover_of_tiledL (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16).1 S2x64.size (by sl_kernel_rfl) y

/-- What case A leaves in output 17's staging buffer: its pieces read back over junk. -/
def out2_A_17 (c : Dev nD) (i : grid2.Coords) (arg2 : Memref sig .tc .vmem S1x512x64 .f32) (harg2 : arg2.IsWhole) (arg3 : Memref sig .tc .vmem S1x512x16x64 .f32) (harg3 : arg3.IsWhole) (arg4 : Memref sig .tc .vmem S1x512x16x3 .f32) (harg4 : arg4.IsWhole) (arg5 : Memref sig .tc .vmem S2x3 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S2x64 .f32) (harg19 : arg19.IsWhole) (hc0 : cond2_0 i)
    (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) : Vec F S2x64 .f32 :=
  VO2_17.read (Elt F) (VO2_17.writes (Elt F) VO2_17.junk (kernelRun2_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16).1)

-- (the run's proof term is large: the definition's epilogue — `abstractNestedProofs` — walks it past the default budget)
set_option maxHeartbeats 2000000 in
/-- What the body's stores leave in each output's staging memref, as pieces (last first) IN CASE B (`scf.if` 0 not taken: points 1, 2, … 63: 63 of 64), WITH the
    proof that on whole staging memrefs — the inputs' at their contents, the outputs it reads before covering (17) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg2 : Memref sig .tc .vmem S1x512x64 .f32) (harg2 : arg2.IsWhole) (arg3 : Memref sig .tc .vmem S1x512x16x64 .f32) (harg3 : arg3.IsWhole) (arg4 : Memref sig .tc .vmem S1x512x16x3 .f32) (harg4 : arg4.IsWhole) (arg5 : Memref sig .tc .vmem S2x3 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S2x64 .f32) (harg19 : arg19.IsWhole) (hc0 : ¬cond2_0 i)
    (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (xo17 : Vec F S2x64 .f32) :
    { L17 : List (View.Piece (Elt F) S2x64 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare xo17
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ (∃ f, arg19.view.loc (c : Thread nD τ) ↦[arg19.view.set]{fullShare} arg19.view.writes (Elt F) f L17)) -∗ K ⟨⟩))
          ⊢ wp frame (wpE (defs₀ (F := F)) Variants.none c none) E (cc2__p3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, fun E K => ?run⟩
  case run =>
    simp only [cc2__p3_body_eq_skeleton]; unfold cc2__p3_body_skel
    simp only [k2_part1_eq_skeleton, k2_part2_eq_skeleton, k2_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    iexists _; iexact H17

/-- Case B's pieces for output 17 tile its block (1 store of `S2x64`, checked by the kernel's evaluation: Lib/Ring.lean `Piece.tiledL`, linear in the pieces, through a loop's `@[irreducible]` trip theorem too), so they cover it. -/
theorem cover2_B_17 (c : Dev nD) (i : grid2.Coords) (arg2 : Memref sig .tc .vmem S1x512x64 .f32) (harg2 : arg2.IsWhole) (arg3 : Memref sig .tc .vmem S1x512x16x64 .f32) (harg3 : arg3.IsWhole) (arg4 : Memref sig .tc .vmem S1x512x16x3 .f32) (harg4 : arg4.IsWhole) (arg5 : Memref sig .tc .vmem S2x3 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S2x64 .f32) (harg19 : arg19.IsWhole) (hc0 : ¬cond2_0 i)
    (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (xo17 : Vec F S2x64 .f32) (y : S2x64.Idx) :
    ∃ pc ∈ (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 xo17).1, y ∈ pc.1.set :=
  View.cover_of_tiledL (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 xo17).1 S2x64.size (by sl_kernel_rfl) y

/-- What case B leaves in output 17's staging buffer: its pieces read back over junk. -/
def out2_B_17 (c : Dev nD) (i : grid2.Coords) (arg2 : Memref sig .tc .vmem S1x512x64 .f32) (harg2 : arg2.IsWhole) (arg3 : Memref sig .tc .vmem S1x512x16x64 .f32) (harg3 : arg3.IsWhole) (arg4 : Memref sig .tc .vmem S1x512x16x3 .f32) (harg4 : arg4.IsWhole) (arg5 : Memref sig .tc .vmem S2x3 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S2x64 .f32) (harg19 : arg19.IsWhole) (hc0 : ¬cond2_0 i)
    (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (xo17 : Vec F S2x64 .f32) : Vec F S2x64 .f32 :=
  VO2_17.read (Elt F) (VO2_17.writes (Elt F) VO2_17.junk (kernelRun2_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 x11 x12 x13 x14 x15 x16 xo17).1)

/-! ## What the outputs hold after each point -/

/-- THE ACCUMULATION. What the outputs' staging buffers hold after the body at position `n`:
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S2x64 .f32
  | 0, hn => out2_A_17 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) (ms2_11 ⟨0, hn⟩) (hs2_11 ⟨0, hn⟩) (ms2_12 ⟨0, hn⟩) (hs2_12 ⟨0, hn⟩) (ms2_13 ⟨0, hn⟩) (hs2_13 ⟨0, hn⟩) (ms2_14 ⟨0, hn⟩) (hs2_14 ⟨0, hn⟩) (ms2_15 ⟨0, hn⟩) (hs2_15 ⟨0, hn⟩) (ms2_16 ⟨0, hn⟩) (hs2_16 ⟨0, hn⟩) (ms2_17 ⟨0, hn⟩) (hs2_17 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩) (iblk2 V c 8 ⟨0, hn⟩) (iblk2 V c 9 ⟨0, hn⟩) (iblk2 V c 10 ⟨0, hn⟩) (iblk2 V c 11 ⟨0, hn⟩) (iblk2 V c 12 ⟨0, hn⟩) (iblk2 V c 13 ⟨0, hn⟩) (iblk2 V c 14 ⟨0, hn⟩) (iblk2 V c 15 ⟨0, hn⟩) (iblk2 V c 16 ⟨0, hn⟩)
  | n + 1, hn =>
    if h0 : (n + 1) % 64 = 0 then
      out2_A_17 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩)
    else
      out2_B_17 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (ms2_11 ⟨n + 1, hn⟩) (hs2_11 ⟨n + 1, hn⟩) (ms2_12 ⟨n + 1, hn⟩) (hs2_12 ⟨n + 1, hn⟩) (ms2_13 ⟨n + 1, hn⟩) (hs2_13 ⟨n + 1, hn⟩) (ms2_14 ⟨n + 1, hn⟩) (hs2_14 ⟨n + 1, hn⟩) (ms2_15 ⟨n + 1, hn⟩) (hs2_15 ⟨n + 1, hn⟩) (ms2_16 ⟨n + 1, hn⟩) (hs2_16 ⟨n + 1, hn⟩) (ms2_17 ⟨n + 1, hn⟩) (hs2_17 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (iblk2 V c 8 ⟨n + 1, hn⟩) (iblk2 V c 9 ⟨n + 1, hn⟩) (iblk2 V c 10 ⟨n + 1, hn⟩) (iblk2 V c 11 ⟨n + 1, hn⟩) (iblk2 V c 12 ⟨n + 1, hn⟩) (iblk2 V c 13 ⟨n + 1, hn⟩) (iblk2 V c 14 ⟨n + 1, hn⟩) (iblk2 V c 15 ⟨n + 1, hn⟩) (iblk2 V c 16 ⟨n + 1, hn⟩) (outsAt2 c n (Nat.lt_of_succ_lt hn))

/-- `outsAt2` at a point of case A: that case's contents. -/
theorem outsAt2_A (c : Dev nD) (t : Fin cfg2.N) (h0 : t.val % 64 = 0) :
    outsAt2 V c t.val t.isLt = out2_A_17 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 64 = 0) :
    outsAt2 V c t.val t.isLt = out2_B_17 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (ms2_11 t) (hs2_11 t) (ms2_12 t) (hs2_12 t) (ms2_13 t) (hs2_13 t) (ms2_14 t) (hs2_14 t) (ms2_15 t) (hs2_15 t) (ms2_16 t) (hs2_16 t) (ms2_17 t) (hs2_17 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) (outsAt2 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => iblk2 V c 8 t
    | ⟨9, _⟩ => iblk2 V c 9 t
    | ⟨10, _⟩ => iblk2 V c 10 t
    | ⟨11, _⟩ => iblk2 V c 11 t
    | ⟨12, _⟩ => iblk2 V c 12 t
    | ⟨13, _⟩ => iblk2 V c 13 t
    | ⟨14, _⟩ => iblk2 V c 14 t
    | ⟨15, _⟩ => iblk2 V c 15 t
    | ⟨16, _⟩ => iblk2 V c 16 t
    | ⟨17, _⟩ => (outsAt2 V c t.val t.isLt)
    | ⟨_ + 18, h⟩ => absurd h (Nat.not_lt.2 (Nat.le_add_left _ _))
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = iblk2 V c 8 t := by dsimp only [dat2]
theorem after2_9 (c : Dev nD) (t : Fin cfg2.N) : (dat2 V c).after 9 t = iblk2 V c 9 t := by dsimp only [dat2]
theorem after2_10 (c : Dev nD) (t : Fin cfg2.N) : (dat2 V c).after 10 t = iblk2 V c 10 t := by dsimp only [dat2]
theorem after2_11 (c : Dev nD) (t : Fin cfg2.N) : (dat2 V c).after 11 t = iblk2 V c 11 t := by dsimp only [dat2]
theorem after2_12 (c : Dev nD) (t : Fin cfg2.N) : (dat2 V c).after 12 t = iblk2 V c 12 t := by dsimp only [dat2]
theorem after2_13 (c : Dev nD) (t : Fin cfg2.N) : (dat2 V c).after 13 t = iblk2 V c 13 t := by dsimp only [dat2]
theorem after2_14 (c : Dev nD) (t : Fin cfg2.N) : (dat2 V c).after 14 t = iblk2 V c 14 t := by dsimp only [dat2]
theorem after2_15 (c : Dev nD) (t : Fin cfg2.N) : (dat2 V c).after 15 t = iblk2 V c 15 t := by dsimp only [dat2]
theorem after2_16 (c : Dev nD) (t : Fin cfg2.N) : (dat2 V c).after 16 t = iblk2 V c 16 t := by dsimp only [dat2]
theorem after2_17 (c : Dev nD) (t : Fin cfg2.N) : (dat2 V c).after 17 t = (outsAt2 V c t.val t.isLt) := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
theorem before2_8 (c : Dev nD) (t : Fin cfg2.N) (d) : (dat2 V c).before 8 t d = iblk2 V c 8 t :=
  before2_8_of V (dat2 V c) (A_eq2 V c 8) (after2_8 V c) t d
theorem before2_9 (c : Dev nD) (t : Fin cfg2.N) (d) : (dat2 V c).before 9 t d = iblk2 V c 9 t :=
  before2_9_of V (dat2 V c) (A_eq2 V c 9) (after2_9 V c) t d
theorem before2_10 (c : Dev nD) (t : Fin cfg2.N) (d) : (dat2 V c).before 10 t d = iblk2 V c 10 t :=
  before2_10_of V (dat2 V c) (A_eq2 V c 10) (after2_10 V c) t d
theorem before2_11 (c : Dev nD) (t : Fin cfg2.N) (d) : (dat2 V c).before 11 t d = iblk2 V c 11 t :=
  before2_11_of V (dat2 V c) (A_eq2 V c 11) (after2_11 V c) t d
theorem before2_12 (c : Dev nD) (t : Fin cfg2.N) (d) : (dat2 V c).before 12 t d = iblk2 V c 12 t :=
  before2_12_of V (dat2 V c) (A_eq2 V c 12) (after2_12 V c) t d
theorem before2_13 (c : Dev nD) (t : Fin cfg2.N) (d) : (dat2 V c).before 13 t d = iblk2 V c 13 t :=
  before2_13_of V (dat2 V c) (A_eq2 V c 13) (after2_13 V c) t d
theorem before2_14 (c : Dev nD) (t : Fin cfg2.N) (d) : (dat2 V c).before 14 t d = iblk2 V c 14 t :=
  before2_14_of V (dat2 V c) (A_eq2 V c 14) (after2_14 V c) t d
theorem before2_15 (c : Dev nD) (t : Fin cfg2.N) (d) : (dat2 V c).before 15 t d = iblk2 V c 15 t :=
  before2_15_of V (dat2 V c) (A_eq2 V c 15) (after2_15 V c) t d
theorem before2_16 (c : Dev nD) (t : Fin cfg2.N) (d) : (dat2 V c).before 16 t d = iblk2 V c 16 t :=
  before2_16_of V (dat2 V c) (A_eq2 V c 16) (after2_16 V c) t d
/-- At a point of case B output 17's current staging buffer holds what the body left at the point before: the point is
    not the first, the buffer was not written back between (`flush2_17`), the window is live and uncut (Lib/Pipeline/Frame.lean
    `Dat.before_out_kept`). -/
theorem before2_17_B (c : Dev nD) (t : Fin cfg2.N) (h0 : ¬t.val % 64 = 0) (d) :
    (dat2 V c).before 17 t d = (outsAt2 V c (t.val - 1) (Nat.lt_of_le_of_lt (Nat.sub_le _ _) t.isLt)) := by
  have hN : t.val < 64 := lt_of_lt_of_eq t.isLt (show cfg2.N = 64 from N_2)
  rw [Dat.before_out_kept _ 17 rfl t (by omega) (Bool.eq_false_iff.mpr fun h => by have := (flush2_17 _).mp h; dsimp only at this; omega)
    (fun _ => rfl) (fun _ _ => rfl)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d))
    ∗ (∃ d, owns (c : Thread nD τ) (ms2_10 t) fullShare ((dat2 V c).before 10 t d))
    ∗ (∃ d, owns (c : Thread nD τ) (ms2_11 t) fullShare ((dat2 V c).before 11 t d))
    ∗ (∃ d, owns (c : Thread nD τ) (ms2_12 t) fullShare ((dat2 V c).before 12 t d))
    ∗ (∃ d, owns (c : Thread nD τ) (ms2_13 t) fullShare ((dat2 V c).before 13 t d))
    ∗ (∃ d, owns (c : Thread nD τ) (ms2_14 t) fullShare ((dat2 V c).before 14 t d))
    ∗ (∃ d, owns (c : Thread nD τ) (ms2_15 t) fullShare ((dat2 V c).before 15 t d))
    ∗ (∃ d, owns (c : Thread nD τ) (ms2_16 t) fullShare ((dat2 V c).before 16 t d))
    ∗ (∃ d, owns (c : Thread nD τ) (ms2_17 t) fullShare ((dat2 V c).before 17 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t)
    ∗ owns (c : Thread nD τ) (ms2_10 t) fullShare ((dat2 V c).after 10 t)
    ∗ owns (c : Thread nD τ) (ms2_11 t) fullShare ((dat2 V c).after 11 t)
    ∗ owns (c : Thread nD τ) (ms2_12 t) fullShare ((dat2 V c).after 12 t)
    ∗ owns (c : Thread nD τ) (ms2_13 t) fullShare ((dat2 V c).after 13 t)
    ∗ owns (c : Thread nD τ) (ms2_14 t) fullShare ((dat2 V c).after 14 t)
    ∗ owns (c : Thread nD τ) (ms2_15 t) fullShare ((dat2 V c).after 15 t)
    ∗ owns (c : Thread nD τ) (ms2_16 t) fullShare ((dat2 V c).after 16 t)
    ∗ owns (c : Thread nD τ) (ms2_17 t) fullShare ((dat2 V c).after 17 t))

set_option maxHeartbeats 2000000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7, before2_8, before2_9, before2_10, before2_11, before2_12, before2_13, before2_14, before2_15, before2_16]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9, after2_10, after2_11, after2_12, after2_13, after2_14, after2_15, after2_16, after2_17]
  have hN : t.val < 64 := lt_of_lt_of_eq t.isLt (show cfg2.N = 64 from N_2)
  by_cases h0 : t.val % 64 = 0
  · rw [outsAt2_A V c t h0]
    unfold out2_A_17
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun2_A c (grid2.coords t) _ _ _ _ _ _ _ _ _ _ _ _ _ _ _ _ _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexists _; iexact H17
    iintro ⟨H0, H1, H2, H3, H4, H5, H6, H7, H8, H9, H10, H11, H12, H13, H14, H15, H16, ⟨%e17, H17⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold owns; iexists _; isplitr
    swap; · iexact H17
    ipureintro; exact View.read_writes_of_cover _ _ _ _ _ (cover2_A_17 c _ _ _ _ _ _ _ _ _ _ _ _ _ _ _ _ _ _ _ _ _ _ _ _ _ _ _ _ _ _ _ _ _ _ _ _ _ _ _ _ _ _ _ _ _ _ _ _ _ _ _ _ _ _ _)
  · rw [outsAt2_B V c t h0]
    simp only [before2_17_B V c t h0]
    unfold out2_B_17
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
    iapply ((kernelRun2_B c (grid2.coords t) _ _ _ _ _ _ _ _ _ _ _ _ _ _ _ _ _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (iblk2 V c 8 t) (iblk2 V c 9 t) (iblk2 V c 10 t) (iblk2 V c 11 t) (iblk2 V c 12 t) (iblk2 V c 13 t) (iblk2 V c 14 t) (iblk2 V c 15 t) (iblk2 V c 16 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H0, H1, H2, H3, H4, H5, H6, H7, H8, H9, H10, H11, H12, H13, H14, H15, H16, ⟨%e17, H17⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold owns; iexists _; isplitr
    swap; · iexact H17
    ipureintro; exact View.read_writes_of_cover _ _ _ _ _ (cover2_B_17 c _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Regions

end Cert.KernelIdeal.Gen

end
-- ==== Proof.Frame.Region3.lean ====
/-
  The last pass of the ideal kernel, at the contents its region is entered with: blocks, what each grid point leaves, and the region's obligation.
  Restated from the generated frame, with larger budgets for two regions.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

-- membership in a rectangle of production extents (`View.cover_of_tiled`): the elaborator's structural look
-- recurses once per coordinate of the long axes
set_option maxRecDepth 16384
set_option maxHeartbeats 2000000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
-- the TensorCore's buffer contents when a region is entered: the parameter every region's half is stated at, which
-- the run instantiates per region
variable (V : (c : Dev nD) → (b : Ref sig .tc) → Buf (Elt F) ((c : Thread nD τ).loc b))

/-! # REGION 3 of @main: custom_call 3, `cc3__p4_body` (pipeline 3), at the entry contents `V` -/

/-! ## The windows' blocks -/

/-- Window `w`'s block at point `t`, read off its array as the region finds it (`V`). -/
noncomputable def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)
/-- Input window 16's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_16_of {c : Dev nD} (dat : Dat τ (Elt F) Unit ℕ (UR sig nD τ) ℕ cfg3 c) (hA : dat.A 16 = V c (Pipeline.arrRef spec3 16))
    (hafter : ∀ t, dat.after 16 t = iblk3 V c 16 t) (t : Fin cfg3.N) (d) : dat.before 16 t d = iblk3 V c 16 t :=
  (dat.before_in_eq_fetched 16 rfl (fun _ => rfl) (fun _ _ _ => rfl) (fun t => by rw [hafter]; unfold Dat.blockOf iblk3; rw [hA]; try rfl) t d).trans
    (by unfold Dat.fetched Dat.blockOf iblk3; rw [hA]; try rfl)
/-- Input window 17's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_17_of {c : Dev nD} (dat : Dat τ (Elt F) Unit ℕ (UR sig nD τ) ℕ cfg3 c) (hA : dat.A 17 = V c (Pipeline.arrRef spec3 17))
    (hafter : ∀ t, dat.after 17 t = iblk3 V c 17 t) (t : Fin cfg3.N) (d) : dat.before 17 t d = iblk3 V c 17 t :=
  (dat.before_in_eq_fetched 17 rfl (fun _ => rfl) (fun _ _ _ => rfl) (fun t => by rw [hafter]; unfold Dat.blockOf iblk3; rw [hA]; try rfl) t d).trans
    (by unfold Dat.fetched Dat.blockOf iblk3; rw [hA]; try rfl)
/-- Input window 18's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_18_of {c : Dev nD} (dat : Dat τ (Elt F) Unit ℕ (UR sig nD τ) ℕ cfg3 c) (hA : dat.A 18 = V c (Pipeline.arrRef spec3 18))
    (hafter : ∀ t, dat.after 18 t = iblk3 V c 18 t) (t : Fin cfg3.N) (d) : dat.before 18 t d = iblk3 V c 18 t :=
  (dat.before_in_eq_fetched 18 rfl (fun _ => rfl) (fun _ _ _ => rfl) (fun t => by rw [hafter]; unfold Dat.blockOf iblk3; rw [hA]; try rfl) t d).trans
    (by unfold Dat.fetched Dat.blockOf iblk3; rw [hA]; try rfl)
/-- Input window 19's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_19_of {c : Dev nD} (dat : Dat τ (Elt F) Unit ℕ (UR sig nD τ) ℕ cfg3 c) (hA : dat.A 19 = V c (Pipeline.arrRef spec3 19))
    (hafter : ∀ t, dat.after 19 t = iblk3 V c 19 t) (t : Fin cfg3.N) (d) : dat.before 19 t d = iblk3 V c 19 t :=
  (dat.before_in_eq_fetched 19 rfl (fun _ => rfl) (fun _ _ _ => rfl) (fun t => by rw [hafter]; unfold Dat.blockOf iblk3; rw [hA]; try rfl) t d).trans
    (by unfold Dat.fetched Dat.blockOf iblk3; rw [hA]; try rfl)
/-- Input window 20's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_20_of {c : Dev nD} (dat : Dat τ (Elt F) Unit ℕ (UR sig nD τ) ℕ cfg3 c) (hA : dat.A 20 = V c (Pipeline.arrRef spec3 20))
    (hafter : ∀ t, dat.after 20 t = iblk3 V c 20 t) (t : Fin cfg3.N) (d) : dat.before 20 t d = iblk3 V c 20 t :=
  (dat.before_in_eq_fetched 20 rfl (fun _ => rfl) (fun _ _ _ => rfl) (fun t => by rw [hafter]; unfold Dat.blockOf iblk3; rw [hA]; try rfl) t d).trans
    (by unfold Dat.fetched Dat.blockOf iblk3; rw [hA]; try rfl)
/-- Input window 21's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_21_of {c : Dev nD} (dat : Dat τ (Elt F) Unit ℕ (UR sig nD τ) ℕ cfg3 c) (hA : dat.A 21 = V c (Pipeline.arrRef spec3 21))
    (hafter : ∀ t, dat.after 21 t = iblk3 V c 21 t) (t : Fin cfg3.N) (d) : dat.before 21 t d = iblk3 V c 21 t :=
  (dat.before_in_eq_fetched 21 rfl (fun _ => rfl) (fun _ _ _ => rfl) (fun t => by rw [hafter]; unfold Dat.blockOf iblk3; rw [hA]; try rfl) t d).trans
    (by unfold Dat.fetched Dat.blockOf iblk3; rw [hA]; try rfl)
/-- Input window 22's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_22_of {c : Dev nD} (dat : Dat τ (Elt F) Unit ℕ (UR sig nD τ) ℕ cfg3 c) (hA : dat.A 22 = V c (Pipeline.arrRef spec3 22))
    (hafter : ∀ t, dat.after 22 t = iblk3 V c 22 t) (t : Fin cfg3.N) (d) : dat.before 22 t d = iblk3 V c 22 t :=
  (dat.before_in_eq_fetched 22 rfl (fun _ => rfl) (fun _ _ _ => rfl) (fun t => by rw [hafter]; unfold Dat.blockOf iblk3; rw [hA]; try rfl) t d).trans
    (by unfold Dat.fetched Dat.blockOf iblk3; rw [hA]; try rfl)
/-- Input window 23's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_23_of {c : Dev nD} (dat : Dat τ (Elt F) Unit ℕ (UR sig nD τ) ℕ cfg3 c) (hA : dat.A 23 = V c (Pipeline.arrRef spec3 23))
    (hafter : ∀ t, dat.after 23 t = iblk3 V c 23 t) (t : Fin cfg3.N) (d) : dat.before 23 t d = iblk3 V c 23 t :=
  (dat.before_in_eq_fetched 23 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses -/

abbrev r3_0 : Rect S1x512x64 := Rect.unit (s := S1x512x64) ![0, 0, 0] S1x512x64.size inb_S1x512x64_S1x512x64_0_0_0
abbrev r3_1 : Rect S1x512x16x64 := Rect.unit (s := S1x512x16x64) ![0, 0, 0, 0] S1x512x16x64.size inb_S1x512x16x64_S1x512x16x64_0_0_0_0
abbrev r3_2 : Rect S1x512x16x3 := Rect.unit (s := S1x512x16x3) ![0, 0, 0, 0] S1x512x16x3.size inb_S1x512x16x3_S1x512x16x3_0_0_0_0
abbrev r3_3 : Rect S2x3 := Rect.unit (s := S2x3) ![0, 0] S1x3.size inb_S2x3_S1x3_0_0
abbrev r3_4 : Rect S2x3 := Rect.unit (s := S2x3) ![1, 0] S1x3.size inb_S2x3_S1x3_1_0
abbrev r3_5 : Rect S1x3 := Rect.unit (s := S1x3) ![0, 0] S1x3.size inb_S1x3_S1x3_0_0
abbrev r3_6 : Rect S3x64 := Rect.unit (s := S3x64) ![0, 0] S3x64.size inb_S3x64_S3x64_0_0
abbrev r3_7 : Rect S1x64 := Rect.unit (s := S1x64) ![0, 0] S1x64.size inb_S1x64_S1x64_0_0
abbrev r3_8 : Rect S64x64 := Rect.unit (s := S64x64) ![0, 0] S64x64.size inb_S64x64_S64x64_0_0
abbrev r3_9 : Rect S2x64 := Rect.unit (s := S2x64) ![0, 0] S1x64.size inb_S2x64_S1x64_0_0
abbrev r3_10 : Rect S2x64 := Rect.unit (s := S2x64) ![1, 0] S1x64.size inb_S2x64_S1x64_1_0

/-! ## What the body leaves in each output window's buffer -/

/-! ### Values of the body that the stores' payloads, spelt out, would write more than once

    Each is a vector the body binds (often a part call's result), stated over the input windows' blocks and
    numbered on from the skeleton's payload functions (`k3_pay16` …, after `k3_pay15`), so that
    `out3_W` and the values after it name it instead of spelling it out (`unfold_out out3_W` opens a canon
    with them, `unfold_payloads` opens them with the payloads); the comment after each is the printed function's
    name for the value (a count appended where that name is bound again). -/

def k3_pay16 (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (x17 : Vec F S2x64 .f32) (x18 : Vec F S1x64 .f32) (x19 : Vec F S1x64 .f32) (x20 : Vec F S64x64 .f32) (x21 : Vec F S1x64 .f32) (x22 : Vec F S64x64 .f32) (x23 : Vec F S1x64 .f32) : FVec F S512x16x64 .f32 :=
  k3_pay3 (View.ld x1 r3_1) -- `v3`
def k3_pay17 (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (x17 : Vec F S2x64 .f32) (x18 : Vec F S1x64 .f32) (x19 : Vec F S1x64 .f32) (x20 : Vec F S64x64 .f32) (x21 : Vec F S1x64 .f32) (x22 : Vec F S64x64 .f32) (x23 : Vec F S1x64 .f32) : FVec F S512x16x3 .f32 :=
  k3_pay5 (View.ld x2 r3_2) (View.ld x3 r3_3) (View.ld x3 r3_4) (View.ld x6 r3_5) (View.ld x7 r3_5) -- `v30`
def k3_pay18 (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (x17 : Vec F S2x64 .f32) (x18 : Vec F S1x64 .f32) (x19 : Vec F S1x64 .f32) (x20 : Vec F S64x64 .f32) (x21 : Vec F S1x64 .f32) (x22 : Vec F S64x64 .f32) (x23 : Vec F S1x64 .f32) : FVec F S512x16x3 .f32 :=
  k3_pay6 (View.ld x2 r3_2) (View.ld x3 r3_3) (View.ld x3 r3_4) (View.ld x6 r3_5) (View.ld x7 r3_5) -- `v33`
def k3_pay19 (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (x17 : Vec F S2x64 .f32) (x18 : Vec F S1x64 .f32) (x19 : Vec F S1x64 .f32) (x20 : Vec F S64x64 .f32) (x21 : Vec F S1x64 .f32) (x22 : Vec F S64x64 .f32) (x23 : Vec F S1x64 .f32) : FVec F S512x16x3 .f32 :=
  k3_pay7 (F := F) -- `v34`

/-- Window 24's staging buffer after the body, from the input windows' blocks: its 1 store as pieces, LAST
    FIRST (Lib/Pipeline/FrameBody.lean `View.canon`; the payloads are the skeleton's and the values stated above). -/
def out3_24 (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (x17 : Vec F S2x64 .f32) (x18 : Vec F S1x64 .f32) (x19 : Vec F S1x64 .f32) (x20 : Vec F S64x64 .f32) (x21 : Vec F S1x64 .f32) (x22 : Vec F S64x64 .f32) (x23 : Vec F S1x64 .f32) : Vec F S1x512x64 .f32 :=
  View.canon [⟨r3_0, k3_pay1 (k3_pay8 (k3_pay17 x0 x1 x2 x3 x4 x5 x6 x7 x8 x9 x10 x11 x12 x13 x14 x15 x16 x17 x18 x19 x20 x21 x22 x23) (k3_pay18 x0 x1 x2 x3 x4 x5 x6 x7 x8 x9 x10 x11 x12 x13 x14 x15 x16 x17 x18 x19 x20 x21 x22 x23) (k3_pay19 x0 x1 x2 x3 x4 x5 x6 x7 x8 x9 x10 x11 x12 x13 x14 x15 x16 x17 x18 x19 x20 x21 x22 x23) (View.ld x4 r3_6) (View.ld x5 r3_7)) (k3_pay14 (k3_pay11 (View.ld x17 r3_10)) (k3_pay12 (k3_pay9 (View.ld x12 r3_10)) (k3_pay10 (k3_pay2 (View.ld x0 r3_0)) (k3_pay16 x0 x1 x2 x3 x4 x5 x6 x7 x8 x9 x10 x11 x12 x13 x14 x15 x16 x17 x18 x19 x20 x21 x22 x23) (k3_pay17 x0 x1 x2 x3 x4 x5 x6 x7 x8 x9 x10 x11 x12 x13 x14 x15 x16 x17 x18 x19 x20 x21 x22 x23) (k3_pay18 x0 x1 x2 x3 x4 x5 x6 x7 x8 x9 x10 x11 x12 x13 x14 x15 x16 x17 x18 x19 x20 x21 x22 x23) (k3_pay19 x0 x1 x2 x3 x4 x5 x6 x7 x8 x9 x10 x11 x12 x13 x14 x15 x16 x17 x18 x19 x20 x21 x22 x23) (View.ld x4 r3_6) (View.ld x5 r3_7) (View.ld x8 r3_8) (View.ld x9 r3_7) (View.ld x10 r3_8) (View.ld x11 r3_7) (View.ld x12 r3_9)) (View.ld x13 r3_7) (View.ld x14 r3_7) (View.ld x15 r3_8) (View.ld x16 r3_7) (View.ld x17 r3_9)) (k3_pay13 (F := F)) (View.ld x18 r3_7) (View.ld x19 r3_7) (View.ld x20 r3_8) (View.ld x21 r3_7)) (k3_pay15 (k3_pay16 x0 x1 x2 x3 x4 x5 x6 x7 x8 x9 x10 x11 x12 x13 x14 x15 x16 x17 x18 x19 x20 x21 x22 x23)) (View.ld x22 r3_8) (View.ld x23 r3_7)⟩]

/-- Its stores tile the buffer (checked by evaluation), so they cover it. -/
theorem cover3_24 (p0 : Vec F S1x512x64 .f32) (y : S1x512x64.Idx) :
    ∃ pc ∈ ([⟨r3_0, p0⟩] : List (View.Piece (Elt F) S1x512x64 .f32)), y ∈ pc.1.set :=
  View.cover_of_tiled [⟨r3_0, p0⟩] S1x512x64.size (by rfl) y

/-! ## The body's triple -/

set_option maxHeartbeats 2000000 in
/-- The kernel body on whole staging memrefs, the inputs' at read contents `xW` and the outputs' at anything, runs to
    the continuation holding the inputs' as they were and each output's at `out3_W` of the inputs': the printed functions
    are their skeletons (`Gen.*_eq_skeleton`), which `sl_exec` runs (Lib/Exec.lean), through every part call. -/
theorem sound_kernel3 (c : Dev nD) (E : Set ℕ) (i : grid3.Coords) (arg2 : Memref sig .tc .vmem S1x512x64 .f32) (harg2 : arg2.IsWhole) (arg3 : Memref sig .tc .vmem S1x512x16x64 .f32) (harg3 : arg3.IsWhole) (arg4 : Memref sig .tc .vmem S1x512x16x3 .f32) (harg4 : arg4.IsWhole) (arg5 : Memref sig .tc .vmem S2x3 .f32) (harg5 : arg5.IsWhole) (arg6 : Memref sig .tc .vmem S3x64 .f32) (harg6 : arg6.IsWhole) (arg7 : Memref sig .tc .vmem S1x64 .f32) (harg7 : arg7.IsWhole) (arg8 : Memref sig .tc .vmem S1x3 .f32) (harg8 : arg8.IsWhole) (arg9 : Memref sig .tc .vmem S1x3 .f32) (harg9 : arg9.IsWhole) (arg10 : Memref sig .tc .vmem S64x64 .f32) (harg10 : arg10.IsWhole) (arg11 : Memref sig .tc .vmem S1x64 .f32) (harg11 : arg11.IsWhole) (arg12 : Memref sig .tc .vmem S64x64 .f32) (harg12 : arg12.IsWhole) (arg13 : Memref sig .tc .vmem S1x64 .f32) (harg13 : arg13.IsWhole) (arg14 : Memref sig .tc .vmem S2x64 .f32) (harg14 : arg14.IsWhole) (arg15 : Memref sig .tc .vmem S1x64 .f32) (harg15 : arg15.IsWhole) (arg16 : Memref sig .tc .vmem S1x64 .f32) (harg16 : arg16.IsWhole) (arg17 : Memref sig .tc .vmem S64x64 .f32) (harg17 : arg17.IsWhole) (arg18 : Memref sig .tc .vmem S1x64 .f32) (harg18 : arg18.IsWhole) (arg19 : Memref sig .tc .vmem S2x64 .f32) (harg19 : arg19.IsWhole) (arg20 : Memref sig .tc .vmem S1x64 .f32) (harg20 : arg20.IsWhole) (arg21 : Memref sig .tc .vmem S1x64 .f32) (harg21 : arg21.IsWhole) (arg22 : Memref sig .tc .vmem S64x64 .f32) (harg22 : arg22.IsWhole) (arg23 : Memref sig .tc .vmem S1x64 .f32) (harg23 : arg23.IsWhole) (arg24 : Memref sig .tc .vmem S64x64 .f32) (harg24 : arg24.IsWhole) (arg25 : Memref sig .tc .vmem S1x64 .f32) (harg25 : arg25.IsWhole) (arg26 : Memref sig .tc .vmem S1x512x64 .f32) (harg26 : arg26.IsWhole)
    (x0 : Vec F S1x512x64 .f32) (x1 : Vec F S1x512x16x64 .f32) (x2 : Vec F S1x512x16x3 .f32) (x3 : Vec F S2x3 .f32) (x4 : Vec F S3x64 .f32) (x5 : Vec F S1x64 .f32) (x6 : Vec F S1x3 .f32) (x7 : Vec F S1x3 .f32) (x8 : Vec F S64x64 .f32) (x9 : Vec F S1x64 .f32) (x10 : Vec F S64x64 .f32) (x11 : Vec F S1x64 .f32) (x12 : Vec F S2x64 .f32) (x13 : Vec F S1x64 .f32) (x14 : Vec F S1x64 .f32) (x15 : Vec F S64x64 .f32) (x16 : Vec F S1x64 .f32) (x17 : Vec F S2x64 .f32) (x18 : Vec F S1x64 .f32) (x19 : Vec F S1x64 .f32) (x20 : Vec F S64x64 .f32) (x21 : Vec F S1x64 .f32) (x22 : Vec F S64x64 .f32) (x23 : Vec F S1x64 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ (∃ d, owns (c : Thread nD τ) arg26 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ owns (c : Thread nD τ) arg22 fullShare x20 ∗ owns (c : Thread nD τ) arg23 fullShare x21 ∗ owns (c : Thread nD τ) arg24 fullShare x22 ∗ owns (c : Thread nD τ) arg25 fullShare x23 ∗ owns (c : Thread nD τ) arg26 fullShare (out3_24 x0 x1 x2 x3 x4 x5 x6 x7 x8 x9 x10 x11 x12 x13 x14 x15 x16 x17 x18 x19 x20 x21 x22 x23)) -∗ K ⟨⟩))
      ⊢ wp frame (wpE (defs₀ (F := F)) Variants.none c none) E (cc3__p4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc3__p4_body_eq_skeleton]; unfold cc3__p4_body_skel
  simp only [k3_part1_eq_skeleton, k3_part2_eq_skeleton, k3_part3_eq_skeleton, k3_part4_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%d24, %f24, -, H24⟩, Hk⟩
  subst hf0 hf1 hf2 hf3 hf4 hf5 hf6 hf7 hf8 hf9 hf10 hf11 hf12 hf13 hf14 hf15 hf16 hf17 hf18 hf19 hf20 hf21 hf22 hf23
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  iexists _; isplitr
  swap; · iexact H24
  ipureintro
  refine (View.read_writes_eq_canon _ _ _ (cover3_24 _)).trans ?_
  rfl

/-! ## The pipeline's proof data -/

/-- The proof data of pipeline 3 on core `c`: the arrays as the region finds them (`V`); after the body at
    point `t` each input's buffer at its block and each output's at `out3_W` of the input blocks; the invariant the
    class's (Lib/Pipeline/Frame.lean `ΦA`: the scoped rest and the generator register, untouched); nothing owed;
    full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => iblk3 V c 16 t
    | ⟨17, _⟩ => iblk3 V c 17 t
    | ⟨18, _⟩ => iblk3 V c 18 t
    | ⟨19, _⟩ => iblk3 V c 19 t
    | ⟨20, _⟩ => iblk3 V c 20 t
    | ⟨21, _⟩ => iblk3 V c 21 t
    | ⟨22, _⟩ => iblk3 V c 22 t
    | ⟨23, _⟩ => iblk3 V c 23 t
    | ⟨24, _⟩ => out3_24 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t)
    | ⟨_ + 25, h⟩ => absurd h (Nat.not_lt.2 (Nat.le_add_left _ _))
  Φ _ := Pipeline.ΦA spec3 c
  q _ := fullShare
  owed _ := 0

/-- The proof data's arrays are the region-entry contents, by projecting the definition (`dsimp`): a region record cites
    this for its arrays rather than have Lean unfold `V`, the fold through @main up to the region's entry. -/
theorem A_eq3 (c : Dev nD) (w : Fin cfg3.W) : (dat3 V c).A w = V c (Pipeline.arrRef spec3 w) := by
  dsimp only [dat3]

/-- What the body leaves, window by window (the proof data's `match` reduced by `dsimp`, never `rfl`: Lib/Pipeline.lean `Dat`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = iblk3 V c 16 t := by dsimp only [dat3]
theorem after3_17 (c : Dev nD) (t : Fin cfg3.N) : (dat3 V c).after 17 t = iblk3 V c 17 t := by dsimp only [dat3]
theorem after3_18 (c : Dev nD) (t : Fin cfg3.N) : (dat3 V c).after 18 t = iblk3 V c 18 t := by dsimp only [dat3]
theorem after3_19 (c : Dev nD) (t : Fin cfg3.N) : (dat3 V c).after 19 t = iblk3 V c 19 t := by dsimp only [dat3]
theorem after3_20 (c : Dev nD) (t : Fin cfg3.N) : (dat3 V c).after 20 t = iblk3 V c 20 t := by dsimp only [dat3]
theorem after3_21 (c : Dev nD) (t : Fin cfg3.N) : (dat3 V c).after 21 t = iblk3 V c 21 t := by dsimp only [dat3]
theorem after3_22 (c : Dev nD) (t : Fin cfg3.N) : (dat3 V c).after 22 t = iblk3 V c 22 t := by dsimp only [dat3]
theorem after3_23 (c : Dev nD) (t : Fin cfg3.N) : (dat3 V c).after 23 t = iblk3 V c 23 t := by dsimp only [dat3]
theorem after3_24 (c : Dev nD) (t : Fin cfg3.N) : (dat3 V c).after 24 t = out3_24 (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d
theorem before3_16 (c : Dev nD) (t : Fin cfg3.N) (d) : (dat3 V c).before 16 t d = iblk3 V c 16 t :=
  before3_16_of V (dat3 V c) (A_eq3 V c 16) (after3_16 V c) t d
theorem before3_17 (c : Dev nD) (t : Fin cfg3.N) (d) : (dat3 V c).before 17 t d = iblk3 V c 17 t :=
  before3_17_of V (dat3 V c) (A_eq3 V c 17) (after3_17 V c) t d
theorem before3_18 (c : Dev nD) (t : Fin cfg3.N) (d) : (dat3 V c).before 18 t d = iblk3 V c 18 t :=
  before3_18_of V (dat3 V c) (A_eq3 V c 18) (after3_18 V c) t d
theorem before3_19 (c : Dev nD) (t : Fin cfg3.N) (d) : (dat3 V c).before 19 t d = iblk3 V c 19 t :=
  before3_19_of V (dat3 V c) (A_eq3 V c 19) (after3_19 V c) t d
theorem before3_20 (c : Dev nD) (t : Fin cfg3.N) (d) : (dat3 V c).before 20 t d = iblk3 V c 20 t :=
  before3_20_of V (dat3 V c) (A_eq3 V c 20) (after3_20 V c) t d
theorem before3_21 (c : Dev nD) (t : Fin cfg3.N) (d) : (dat3 V c).before 21 t d = iblk3 V c 21 t :=
  before3_21_of V (dat3 V c) (A_eq3 V c 21) (after3_21 V c) t d
theorem before3_22 (c : Dev nD) (t : Fin cfg3.N) (d) : (dat3 V c).before 22 t d = iblk3 V c 22 t :=
  before3_22_of V (dat3 V c) (A_eq3 V c 22) (after3_22 V c) t d
theorem before3_23 (c : Dev nD) (t : Fin cfg3.N) (d) : (dat3 V c).before 23 t d = iblk3 V c 23 t :=
  before3_23_of V (dat3 V c) (A_eq3 V c 23) (after3_23 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d))
    ∗ (∃ d, owns (c : Thread nD τ) (st3_6 t) fullShare ((dat3 V c).before 6 t d))
    ∗ (∃ d, owns (c : Thread nD τ) (st3_7 t) fullShare ((dat3 V c).before 7 t d))
    ∗ (∃ d, owns (c : Thread nD τ) (st3_8 t) fullShare ((dat3 V c).before 8 t d))
    ∗ (∃ d, owns (c : Thread nD τ) (st3_9 t) fullShare ((dat3 V c).before 9 t d))
    ∗ (∃ d, owns (c : Thread nD τ) (st3_10 t) fullShare ((dat3 V c).before 10 t d))
    ∗ (∃ d, owns (c : Thread nD τ) (st3_11 t) fullShare ((dat3 V c).before 11 t d))
    ∗ (∃ d, owns (c : Thread nD τ) (st3_12 t) fullShare ((dat3 V c).before 12 t d))
    ∗ (∃ d, owns (c : Thread nD τ) (st3_13 t) fullShare ((dat3 V c).before 13 t d))
    ∗ (∃ d, owns (c : Thread nD τ) (st3_14 t) fullShare ((dat3 V c).before 14 t d))
    ∗ (∃ d, owns (c : Thread nD τ) (st3_15 t) fullShare ((dat3 V c).before 15 t d))
    ∗ (∃ d, owns (c : Thread nD τ) (st3_16 t) fullShare ((dat3 V c).before 16 t d))
    ∗ (∃ d, owns (c : Thread nD τ) (st3_17 t) fullShare ((dat3 V c).before 17 t d))
    ∗ (∃ d, owns (c : Thread nD τ) (st3_18 t) fullShare ((dat3 V c).before 18 t d))
    ∗ (∃ d, owns (c : Thread nD τ) (st3_19 t) fullShare ((dat3 V c).before 19 t d))
    ∗ (∃ d, owns (c : Thread nD τ) (st3_20 t) fullShare ((dat3 V c).before 20 t d))
    ∗ (∃ d, owns (c : Thread nD τ) (st3_21 t) fullShare ((dat3 V c).before 21 t d))
    ∗ (∃ d, owns (c : Thread nD τ) (st3_22 t) fullShare ((dat3 V c).before 22 t d))
    ∗ (∃ d, owns (c : Thread nD τ) (st3_23 t) fullShare ((dat3 V c).before 23 t d))
    ∗ (∃ d, owns (c : Thread nD τ) (st3_24 t) fullShare ((dat3 V c).before 24 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t)
    ∗ owns (c : Thread nD τ) (st3_6 t) fullShare ((dat3 V c).after 6 t)
    ∗ owns (c : Thread nD τ) (st3_7 t) fullShare ((dat3 V c).after 7 t)
    ∗ owns (c : Thread nD τ) (st3_8 t) fullShare ((dat3 V c).after 8 t)
    ∗ owns (c : Thread nD τ) (st3_9 t) fullShare ((dat3 V c).after 9 t)
    ∗ owns (c : Thread nD τ) (st3_10 t) fullShare ((dat3 V c).after 10 t)
    ∗ owns (c : Thread nD τ) (st3_11 t) fullShare ((dat3 V c).after 11 t)
    ∗ owns (c : Thread nD τ) (st3_12 t) fullShare ((dat3 V c).after 12 t)
    ∗ owns (c : Thread nD τ) (st3_13 t) fullShare ((dat3 V c).after 13 t)
    ∗ owns (c : Thread nD τ) (st3_14 t) fullShare ((dat3 V c).after 14 t)
    ∗ owns (c : Thread nD τ) (st3_15 t) fullShare ((dat3 V c).after 15 t)
    ∗ owns (c : Thread nD τ) (st3_16 t) fullShare ((dat3 V c).after 16 t)
    ∗ owns (c : Thread nD τ) (st3_17 t) fullShare ((dat3 V c).after 17 t)
    ∗ owns (c : Thread nD τ) (st3_18 t) fullShare ((dat3 V c).after 18 t)
    ∗ owns (c : Thread nD τ) (st3_19 t) fullShare ((dat3 V c).after 19 t)
    ∗ owns (c : Thread nD τ) (st3_20 t) fullShare ((dat3 V c).after 20 t)
    ∗ owns (c : Thread nD τ) (st3_21 t) fullShare ((dat3 V c).after 21 t)
    ∗ owns (c : Thread nD τ) (st3_22 t) fullShare ((dat3 V c).after 22 t)
    ∗ owns (c : Thread nD τ) (st3_23 t) fullShare ((dat3 V c).after 23 t)
    ∗ owns (c : Thread nD τ) (st3_24 t) fullShare ((dat3 V c).after 24 t))

/-- The body at any point: the inputs' memrefs hold their blocks (`before3_W`), so `sound_kernel3` applies; the invariant and
    the core's `owes` pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15, before3_16, before3_17, before3_18, before3_19, before3_20, before3_21, before3_22, before3_23]
  rw [show (dat3 V c).Φ t.succ = (dat3 V c).Φ t.castSucc from rfl,
    show (dat3 V c).owesAt () t.succ = (dat3 V c).owesAt () t.castSucc from rfl,
    after3_0, after3_1, after3_2, after3_3, after3_4, after3_5, after3_6, after3_7, after3_8, after3_9, after3_10, after3_11, after3_12, after3_13, after3_14, after3_15, after3_16, after3_17, after3_18, after3_19, after3_20, after3_21, after3_22, after3_23, after3_24]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩⟩
  iapply (sound_kernel3 c Set.univ (grid3.coords t) _ _ _ _ _ _ _ _ _ _ _ _ _ _ _ _ _ _ _ _ _ _ _ _ _ _ _ _ _ _ _ _ _ _ _ _ _ _ _ _ _ _ _ _ _ _ _ _ _ _ (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexists _; iexact H24
  iintro ⟨H0, H1, H2, H3, H4, H5, H6, H7, H8, H9, H10, H11, H12, H13, H14, H15, H16, H17, H18, H19, H20, H21, H22, H23, H24⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  iexact H24

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Regions

end Cert.KernelIdeal.Gen

end
-- ==== Proof.Frame.Fold0.lean ====
/-
  The buffers' contents at the boundaries between the ideal kernel's host operations and its four regions, folded from the launch.
  Restated from the generated frame, with larger budgets for two regions.
-/
module

public import proofs.«01_k».proof.Proof.Gen.KernelIdeal.Frame.Region0
public import proofs.«01_k».proof.Proof.Gen.KernelIdeal.Frame.Region1
public import proofs.«01_k».proof.Proof.Frame.Region2
public import proofs.«01_k».proof.Proof.Frame.Region3
public import proofs.«01_k».proof.Proof.Gen.KernelIdeal.Frame.Hosts0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (Lib/Pipeline/FrameSuffix.lean `withArrays`). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact (dat0 (V1 m ρ) c).withArrays_arrAt launch₀0.sharedIn _ (A_eq0 (V1 m ρ) c) w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays_shared`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (region 1's entry). -/
abbrev W3 : Dev nD → Valuation τ sig (Elt F) := fun c => StableHlo.after hostOps1 (W2 m ρ c)
/-- A reference `hostOps1` does not write keeps its contents across it. -/
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
theorem W3_args (c : Dev nD) : ∀ a ∈ argRefs, W3 m ρ c (Proc.devRef .tc a) = m ((c : Thread nD τ).loc a) :=
  fun a ha => (W3_of m ρ c a (hostOps1_args a ha)).trans (W2_args m ρ c a ha)
/-- The same read at the TensorCore's references (what region 1's proof data take). -/
abbrev V3 : (c : Dev nD) → (b : Ref sig .tc) → Buf (Elt F) ((c : Thread nD τ).loc b) := fun c b => W3 m ρ c b
/-- At region 1's exit: its arrays at what the pipeline leaves (the inputs as entered, each output's write-backs
    folded: `Dat.arrAt … N`), every other buffer as entered (Lib/Pipeline/FrameSuffix.lean `withArrays`). -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- A reference that is none of region 1's OUTPUT arrays keeps its entry contents across it: an input window's
    array is never written back (`Dat.arrAt_in`, `A_eq1`); any other buffer is left as is. -/
theorem W4_of (c : Dev nD) (r : Ref sig .tc) (h : ∀ w : Fin cfg1.W, Pipeline.arrRef spec1 w = r → (cfg1.win w).isOut = false) :
    W4 m ρ c (Proc.devRef .tc r) = W3 m ρ c (Proc.devRef .tc r) := by
  by_cases hw : ∃ w : Fin cfg1.W, Pipeline.arrRef spec1 w = r
  · obtain ⟨w, rfl⟩ := hw
    exact (W4_arr m ρ c w).trans (((dat1 (V3 m ρ) c).arrAt_in w (h w rfl) _).trans (A_eq1 (V3 m ρ) c w))
  · exact W4_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn1 a ha)).trans (W3_args m ρ c a ha)
/-- The same read at the TensorCore's references (region 1's exit contents). -/
abbrev V4 : (c : Dev nD) → (b : Ref sig .tc) → Buf (Elt F) ((c : Thread nD τ).loc b) := fun c b => W4 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (region 2's entry). -/
abbrev W5 : Dev nD → Valuation τ sig (Elt F) := fun c => StableHlo.after hostOps2 (W4 m ρ c)
/-- A reference `hostOps2` does not write keeps its contents across it. -/
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
theorem W5_args (c : Dev nD) : ∀ a ∈ argRefs, W5 m ρ c (Proc.devRef .tc a) = m ((c : Thread nD τ).loc a) :=
  fun a ha => (W5_of m ρ c a (hostOps2_args a ha)).trans (W4_args m ρ c a ha)
/-- The same read at the TensorCore's references (what region 2's proof data take). -/
abbrev V5 : (c : Dev nD) → (b : Ref sig .tc) → Buf (Elt F) ((c : Thread nD τ).loc b) := fun c b => W5 m ρ c b
/-- At region 2's exit: its arrays at what the pipeline leaves (the inputs as entered, each output's write-backs
    folded: `Dat.arrAt … N`), every other buffer as entered (Lib/Pipeline/FrameSuffix.lean `withArrays`). -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- A reference that is none of region 2's OUTPUT arrays keeps its entry contents across it: an input window's
    array is never written back (`Dat.arrAt_in`, `A_eq2`); any other buffer is left as is. -/
theorem W6_of (c : Dev nD) (r : Ref sig .tc) (h : ∀ w : Fin cfg2.W, Pipeline.arrRef spec2 w = r → (cfg2.win w).isOut = false) :
    W6 m ρ c (Proc.devRef .tc r) = W5 m ρ c (Proc.devRef .tc r) := by
  by_cases hw : ∃ w : Fin cfg2.W, Pipeline.arrRef spec2 w = r
  · obtain ⟨w, rfl⟩ := hw
    exact (W6_arr m ρ c w).trans (((dat2 (V5 m ρ) c).arrAt_in w (h w rfl) _).trans (A_eq2 (V5 m ρ) c w))
  · exact W6_of_ne m ρ c r fun w e => hw ⟨w, e⟩
/-- Every argument among region 2's arrays is an input window's (checked: each argument against each window). -/
theorem argsIn2 : ∀ a ∈ argRefs, ∀ w : Fin cfg2.W, Pipeline.arrRef spec2 w = a → (cfg2.win w).isOut = false :=
  ListAll.forall_mem_of_all_decide (by decide +kernel)
theorem W6_args (c : Dev nD) : ∀ a ∈ argRefs, W6 m ρ c (Proc.devRef .tc a) = m ((c : Thread nD τ).loc a) :=
  fun a ha => (W6_of m ρ c a (argsIn2 a ha)).trans (W5_args m ρ c a ha)
/-- The same read at the TensorCore's references (region 2's exit contents). -/
abbrev V6 : (c : Dev nD) → (b : Ref sig .tc) → Buf (Elt F) ((c : Thread nD τ).loc b) := fun c b => W6 m ρ c b
/-- At region 2's exit each of its arrays holds what the pipeline leaves (`hF2`) and every other buffer what it
    held at entry (`hrest2`): the two hypotheses of Lib/Pipeline/RegionsLoop.lean `unscopedBufs_of_arrays`. -/
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-- After `hostOps3` (region 3's entry). -/
abbrev W7 : Dev nD → Valuation τ sig (Elt F) := fun c => StableHlo.after hostOps3 (W6 m ρ c)
/-- A reference `hostOps3` does not write keeps its contents across it. -/
theorem W7_of (c : Dev nD) (r : Ref sig .tc) (h : r ∉ hostOps3_W) : W7 m ρ c (Proc.devRef .tc r) = W6 m ρ c (Proc.devRef .tc r) :=
  StableHlo.after_of_writes_sub hostOps3 _ hostOps3_writes h
theorem W7_args (c : Dev nD) : ∀ a ∈ argRefs, W7 m ρ c (Proc.devRef .tc a) = m ((c : Thread nD τ).loc a) :=
  fun a ha => (W7_of m ρ c a (hostOps3_args a ha)).trans (W6_args m ρ c a ha)
/-- The same read at the TensorCore's references (what region 3's proof data take). -/
abbrev V7 : (c : Dev nD) → (b : Ref sig .tc) → Buf (Elt F) ((c : Thread nD τ).loc b) := fun c b => W7 m ρ c b
/-- At region 3's exit: its arrays at what the pipeline leaves (the inputs as entered, each output's write-backs
    folded: `Dat.arrAt … N`), every other buffer as entered (Lib/Pipeline/FrameSuffix.lean `withArrays`). -/
def W8 (c : Dev nD) : Valuation τ sig (Elt F) :=
  Pipeline.withArrays spec3 c (W7 m ρ c) fun w => (dat3 (V7 m ρ) c).arrAt w cfg3.N
theorem W8_arr (c : Dev nD) (w : Fin cfg3.W) :
    W8 m ρ c (Proc.devRef .tc (Pipeline.arrRef spec3 w)) = (dat3 (V7 m ρ) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m ρ c (Proc.devRef .tc b) = W7 m ρ c (Proc.devRef .tc b) := by
  unfold W8; exact Pipeline.withArrays_of_ne spec3 c _ _ b hb
/-- A reference that is none of region 3's OUTPUT arrays keeps its entry contents across it: an input window's
    array is never written back (`Dat.arrAt_in`, `A_eq3`); any other buffer is left as is. -/
theorem W8_of (c : Dev nD) (r : Ref sig .tc) (h : ∀ w : Fin cfg3.W, Pipeline.arrRef spec3 w = r → (cfg3.win w).isOut = false) :
    W8 m ρ c (Proc.devRef .tc r) = W7 m ρ c (Proc.devRef .tc r) := by
  by_cases hw : ∃ w : Fin cfg3.W, Pipeline.arrRef spec3 w = r
  · obtain ⟨w, rfl⟩ := hw
    exact (W8_arr m ρ c w).trans (((dat3 (V7 m ρ) c).arrAt_in w (h w rfl) _).trans (A_eq3 (V7 m ρ) c w))
  · exact W8_of_ne m ρ c r fun w e => hw ⟨w, e⟩
/-- Every argument among region 3's arrays is an input window's (checked: each argument against each window). -/
theorem argsIn3 : ∀ a ∈ argRefs, ∀ w : Fin cfg3.W, Pipeline.arrRef spec3 w = a → (cfg3.win w).isOut = false :=
  ListAll.forall_mem_of_all_decide (by decide +kernel)
theorem W8_args (c : Dev nD) : ∀ a ∈ argRefs, W8 m ρ c (Proc.devRef .tc a) = m ((c : Thread nD τ).loc a) :=
  fun a ha => (W8_of m ρ c a (argsIn3 a ha)).trans (W7_args m ρ c a ha)
/-- The same read at the TensorCore's references (region 3's exit contents). -/
abbrev V8 : (c : Dev nD) → (b : Ref sig .tc) → Buf (Elt F) ((c : Thread nD τ).loc b) := fun c b => W8 m ρ c b
/-- At region 3's exit each of its arrays holds what the pipeline leaves (`hF3`) and every other buffer what it
    held at entry (`hrest3`): the two hypotheses of Lib/Pipeline/RegionsLoop.lean `unscopedBufs_of_arrays`. -/
theorem hF3 (c : Dev nD) (w : Fin cfg3.W) : (dat3 (V7 m ρ) c).arrAt w cfg3.N = V8 m ρ c (Pipeline.arrRef spec3 w) :=
  (W8_arr m ρ c w).symm
theorem hrest3 (c : Dev nD) : ∀ b, b ∉ Finset.univ.image (Pipeline.arrRef spec3) → V8 m ρ c b = V7 m ρ c b :=
  fun b hb => W8_of_ne m ρ c b fun w e => hb (Finset.mem_image.mpr ⟨w, Finset.mem_univ _, e⟩)

/-! ### The arguments end as launched: no host stretch writes one and no region may change one (a region reads it
    through an input window or bypasses it) -/

theorem W8_main_arg0 (c : Dev nD) : W8 m ρ c (Proc.devRef .tc main_arg0) = m ((c : Thread nD τ).loc main_arg0) :=
  W8_args m ρ c main_arg0 (by decide)
theorem W8_main_arg1 (c : Dev nD) : W8 m ρ c (Proc.devRef .tc main_arg1) = m ((c : Thread nD τ).loc main_arg1) :=
  W8_args m ρ c main_arg1 (by decide)
theorem W8_main_arg2 (c : Dev nD) : W8 m ρ c (Proc.devRef .tc main_arg2) = m ((c : Thread nD τ).loc main_arg2) :=
  W8_args m ρ c main_arg2 (by decide)
theorem W8_main_arg3 (c : Dev nD) : W8 m ρ c (Proc.devRef .tc main_arg3) = m ((c : Thread nD τ).loc main_arg3) :=
  W8_args m ρ c main_arg3 (by decide)
theorem W8_main_arg4 (c : Dev nD) : W8 m ρ c (Proc.devRef .tc main_arg4) = m ((c : Thread nD τ).loc main_arg4) :=
  W8_args m ρ c main_arg4 (by decide)
theorem W8_main_arg5 (c : Dev nD) : W8 m ρ c (Proc.devRef .tc main_arg5) = m ((c : Thread nD τ).loc main_arg5) :=
  W8_args m ρ c main_arg5 (by decide)
theorem W8_main_arg6 (c : Dev nD) : W8 m ρ c (Proc.devRef .tc main_arg6) = m ((c : Thread nD τ).loc main_arg6) :=
  W8_args m ρ c main_arg6 (by decide)
theorem W8_main_arg7 (c : Dev nD) : W8 m ρ c (Proc.devRef .tc main_arg7) = m ((c : Thread nD τ).loc main_arg7) :=
  W8_args m ρ c main_arg7 (by decide)
theorem W8_main_arg8 (c : Dev nD) : W8 m ρ c (Proc.devRef .tc main_arg8) = m ((c : Thread nD τ).loc main_arg8) :=
  W8_args m ρ c main_arg8 (by decide)
theorem W8_main_arg9 (c : Dev nD) : W8 m ρ c (Proc.devRef .tc main_arg9) = m ((c : Thread nD τ).loc main_arg9) :=
  W8_args m ρ c main_arg9 (by decide)
theorem W8_main_arg10 (c : Dev nD) : W8 m ρ c (Proc.devRef .tc main_arg10) = m ((c : Thread nD τ).loc main_arg10) :=
  W8_args m ρ c main_arg10 (by decide)
theorem W8_main_arg11 (c : Dev nD) : W8 m ρ c (Proc.devRef .tc main_arg11) = m ((c : Thread nD τ).loc main_arg11) :=
  W8_args m ρ c main_arg11 (by decide)
theorem W8_main_arg12 (c : Dev nD) : W8 m ρ c (Proc.devRef .tc main_arg12) = m ((c : Thread nD τ).loc main_arg12) :=
  W8_args m ρ c main_arg12 (by decide)
theorem W8_main_arg13 (c : Dev nD) : W8 m ρ c (Proc.devRef .tc main_arg13) = m ((c : Thread nD τ).loc main_arg13) :=
  W8_args m ρ c main_arg13 (by decide)
theorem W8_main_arg14 (c : Dev nD) : W8 m ρ c (Proc.devRef .tc main_arg14) = m ((c : Thread nD τ).loc main_arg14) :=
  W8_args m ρ c main_arg14 (by decide)
theorem W8_main_arg15 (c : Dev nD) : W8 m ρ c (Proc.devRef .tc main_arg15) = m ((c : Thread nD τ).loc main_arg15) :=
  W8_args m ρ c main_arg15 (by decide)
theorem W8_main_arg16 (c : Dev nD) : W8 m ρ c (Proc.devRef .tc main_arg16) = m ((c : Thread nD τ).loc main_arg16) :=
  W8_args m ρ c main_arg16 (by decide)
theorem W8_main_arg17 (c : Dev nD) : W8 m ρ c (Proc.devRef .tc main_arg17) = m ((c : Thread nD τ).loc main_arg17) :=
  W8_args m ρ c main_arg17 (by decide)
theorem W8_main_arg18 (c : Dev nD) : W8 m ρ c (Proc.devRef .tc main_arg18) = m ((c : Thread nD τ).loc main_arg18) :=
  W8_args m ρ c main_arg18 (by decide)
theorem W8_main_arg19 (c : Dev nD) : W8 m ρ c (Proc.devRef .tc main_arg19) = m ((c : Thread nD τ).loc main_arg19) :=
  W8_args m ρ c main_arg19 (by decide)
theorem W8_main_arg20 (c : Dev nD) : W8 m ρ c (Proc.devRef .tc main_arg20) = m ((c : Thread nD τ).loc main_arg20) :=
  W8_args m ρ c main_arg20 (by decide)
theorem W8_main_arg21 (c : Dev nD) : W8 m ρ c (Proc.devRef .tc main_arg21) = m ((c : Thread nD τ).loc main_arg21) :=
  W8_args m ρ c main_arg21 (by decide)
end Cert.KernelIdeal.Gen

end
-- ==== Proof.Frame.State.lean ====
/-
  The proof data of the four regions at their entry contents, and the state carried between them.
  Restated from the generated frame, with larger budgets for two regions.
-/
module

public import proofs.«01_k».proof.Proof.Frame.Fold0

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V7 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W8`, the generator register at some state. -/
abbrev Tₙ (c : Dev nD) : sProp 𝕄 := iprop(StableHlo.held (c : Thread nD τ) (Pipeline.ucRefs τ sig) (W8 m ρ c) ∗ ∃ r, prngReg c r)

end Cert.KernelIdeal.Gen

end
-- ==== Proof.Frame.Record0.lean ====
/-
  Region 0 as a segment of the ideal kernel's run.
  Restated from the generated frame, with larger budgets for two regions.
-/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs_shared`) and put back at the exit contents (`unscopedBufs_of_arrays_shared`; its input windows on one array (`launch₀0.sharedIn`) each dealt their share of it, `Pipeline.shareOf`, by the proof data); the generator register into the
    class invariant `ΦA` and out; nothing owed; no semaphore of the kernel's own. -/
def reg0 : Pipeline.RegionSeg (pcfgs (F := F)) adm (pdats m ρ) () defs₀ 𝒱₀ L lv 0 where
  win := launch₀0.win
  block_pos := launch₀0.block_pos
  stage_whole := launch₀0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs_shared (p := 0) (pcfgs (F := F)) adm (pdats m ρ) launch₀0.win launch₀0.sharedIn launch₀0.arr_whole c
      (fun _ _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays_shared (p := 0) (pcfgs (F := F)) adm (Ix := Unit) (Name := ℕ) (U := UR sig nD τ) (Lvl := ℕ)
      launch₀0.win launch₀0.sharedIn launch₀0.arr_whole c (pdats m ρ) (fun _ _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record1.lean ====
/-
  Region 1 as a segment of the ideal kernel's run.
  Restated from the generated frame, with larger budgets for two regions.
-/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 1 (custom_call 1) over the thread state: entered from every unscoped buffer at `W3`, left at `W4`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) (A_eq1 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record2.lean ====
/-
  Region 2 as a segment of the ideal kernel's run.
  Restated from the generated frame, with larger budgets for two regions.
-/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 2 (custom_call 2) over the thread state: entered from every unscoped buffer at `W5`, left at `W6`
    (what the next segment is entered from). Its arrays split out of the unscoped buffers
    (`arrays_of_unscopedBufs`) and put back at the exit contents (`unscopedBufs_of_arrays`); the generator register into the
    class invariant `ΦA` and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) (A_eq2 (V5 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record3.lean ====
/-
  Region 3 as a segment of the ideal kernel's run.
  Restated from the generated frame, with larger budgets for two regions.
-/
module

public import proofs.«01_k».proof.Proof.Frame.State

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- `iapply` of a library lemma stated over `pin pcs a p` unifies with the pinned configuration only when unification may
-- unfold plain definitions in a metavariable's type
set_option backward.isDefEq.respectTransparency.types false in
/-- REGION 3 (custom_call 3) over the thread state: entered from every unscoped buffer at `W7`, left at `W8`
    (what the launch reads at the end). Its arrays split out of the unscoped buffers
    (`arrays_of_unscopedBufs`) and put back at the exit contents (`unscopedBufs_of_arrays`); the generator register into the
    class invariant `ΦA` and out; nothing owed; no semaphore of the kernel's own. -/
def reg3 : Pipeline.RegionSeg (pcfgs (F := F)) adm (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V7 m ρ) c).loose
  hwaits := Pipeline.hwaits_of_owed_zero _ _ _ _ L lv 3 fun _ _ => rfl
  pre c := iprop(StableHlo.held (c : Thread nD τ) (Pipeline.ucRefs τ sig) (W7 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec3 c (V7 m ρ c)
  hentry c := by
    rw [Pipeline.ownSems0_none]
    have hsplit := Pipeline.arrays_of_unscopedBufs (p := 3) (pcfgs (F := F)) adm (pdats m ρ) launch3.win launch3.arr_whole c
      ((pdats m ρ 3 c).share_full fun _ => rfl) (V7 m ρ c) (A_eq3 (V7 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m ρ) ((pdats m ρ 3 c).share_full fun _ => rfl)
      (V7 m ρ c) (V8 m ρ c) ((pdats m ρ 3 c).arrAt · cfg3.N) (hF3 m ρ c) (hrest3 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

end Cert.KernelIdeal.Gen

end
-- ==== Proof.Frame.Run.lean ====
/-
  The ideal kernel's run: its four regions among the host operations, from any memory with zero counters, ends with the
  result array at the last boundary's contents, every argument as launched and every counter at zero. The frame is a part
  of it. Restated from the generated frame, with the result's contents kept and with larger budgets for two regions.
-/
module

public import proofs.«01_k».proof.Proof.Frame.Record0
public import proofs.«01_k».proof.Proof.Frame.Record1
public import proofs.«01_k».proof.Proof.Frame.Record2
public import proofs.«01_k».proof.Proof.Frame.Record3

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main as segments, and the launch -/

/-- @main's 8 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ),
    .host (hseg hostOps3 hostOps3_sub hostOps3_fresh (W6 m ρ)),
    .region (reg3 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

-- `θ_run_regions_kit_sems`'s implicit arguments are found by unifying its conclusion with this one, which takes unfolding
-- plain definitions in a metavariable's type
set_option backward.isDefEq.respectTransparency.types false in
/-- The kernel's run at any floats: every weakly fair execution ends, nothing faulting, with the result array at the
    contents of the last boundary, the arguments as launched, and every counter at zero. -/
theorem run : θ_run defs (onTc (τ := τ) (main (F := F))) ⟨m, fun _ => 0, ρ⟩ (fun r => (∀ c : Dev nD,
      r.2.mem ((c.tc : Thread nD τ).loc main_v74) = W8 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨(fun c =>
      ⟨h c _ (mem_uc main_v74 (by decide)), (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c),
       (h c _ (mem_uc main_arg15 (by decide))).trans (W8_main_arg15 m ρ c),
       (h c _ (mem_uc main_arg16 (by decide))).trans (W8_main_arg16 m ρ c),
       (h c _ (mem_uc main_arg17 (by decide))).trans (W8_main_arg17 m ρ c),
       (h c _ (mem_uc main_arg18 (by decide))).trans (W8_main_arg18 m ρ c),
       (h c _ (mem_uc main_arg19 (by decide))).trans (W8_main_arg19 m ρ c),
       (h c _ (mem_uc main_arg20 (by decide))).trans (W8_main_arg20 m ρ c),
       (h c _ (mem_uc main_arg21 (by decide))).trans (W8_main_arg21 m ρ c)⟩), funext fun g => hz g (.inr (no_unscoped g.2))⟩)

/-- The frame: the run without the result's contents. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  (θ_run defs _ _).mono (fun _ h => ⟨fun c => (h.1 c).2, h.2⟩) (run m ρ)

end Cert.KernelIdeal.Gen

end
-- ==== Proof.FrameP.lean ====
/-
  The printed kernel's frame: the kernel and the ideal kernel are one program text, so the ideal kernel's frame, proved
  at any floats, is the kernel's.
-/
module

public import proofs.«01_k».proof.Defs
public import proofs.«01_k».proof.Proof.Gen.Kernel
public import proofs.«01_k».proof.Proof.Frame.Run
public import Idealize.ShloMosaic.Lib.Tactic

@[expose] public section

set_option maxRecDepth 16384

noncomputable section

namespace Cert.Proof

open Idealize.ShloMosaic Idealize.ShloMosaic.TcCoe Idealize.SL.Sem

/-- The frame statement of the kernel's program as the ideal kernel's module spells it, at the machine's floats. -/
def FrameAtBits : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

/-- The two programs' frame statements at the machine's floats are the same proposition. -/
theorem frame_same : Cert.quiescent_Kernel (hKernel := Cert.Kernel.Gen.facts) = FrameAtBits := by
  sl_kernel_rfl

/-- The printed kernel's frame. -/
theorem frame_p : Cert.quiescent_Kernel (hKernel := Cert.Kernel.Gen.facts) :=
  frame_same.mpr fun m ρ _ => Cert.KernelIdeal.Gen.frame (F := Bits) m ρ

end Cert.Proof

end
-- ==== Proof.Model.lean ====
/-
  The block's mathematics over the extended reals, one row at a time: the normalisation with given statistics, the
  gelu, a linear layer with a transposed weight, and the layers of the point transformer built from them. Both
  programs are read in these terms.
-/
module

public import Idealize.ShloMosaic.PureOps
public import Idealize.ShloMosaic.PureOps.Ideal

@[expose] public section

noncomputable section

namespace Cert.Model

open Idealize.ShloMosaic
open scoped BigOperators

/-- The small number added to a variance. -/
def eps : EReal := Ideal.ofBits .f32 0x3727C5AC#32

/-- The number one half. -/
def half : EReal := Ideal.ofBits .f32 0x3F000000#32

/-- The reciprocal of the square root of two, as both programs write it. -/
def rsqrt2 : EReal := Ideal.ofBits .f32 0x3F3504F3#32

/-- The number of rows a statistic is taken over. -/
def cnt : EReal := Ideal.ofBits .f32 0x49000000#32

/-- The gelu through the error function. -/
def gelu (x : EReal) : EReal := half * x * (1 + Ideal.erf (x * rsqrt2))

/-- The normalisation of `x` with mean `μ` and variance `v`, scaled by `g` and shifted by `b`. -/
def bn (μ v g b x : EReal) : EReal := Ideal.div (x - μ) (Ideal.sqrt (v + eps)) * g + b

/-- A linear layer, the weight's rows indexed by the input. -/
def lin {n : ℕ} {m : Type} (W : Fin n → m → EReal) (b : m → EReal) (x : Fin n → EReal) (j : m) : EReal :=
  (∑ i, x i * W i j) + b j

/-- Normalise and apply the gelu, entry by entry; the statistics' row 0 is the mean and row 1 the variance. -/
def act {n : ℕ} (s : Fin 2 → Fin n → EReal) (g b : Fin n → EReal) (x : Fin n → EReal) (i : Fin n) : EReal :=
  gelu (bn (s 0 i) (s 1 i) (g i) (b i) (x i))

/-- The weights and statistics the layers up to the first attention layer take. -/
structure Par1 where
  ds : Fin 2 → Fin 3 → EReal
  wd2 : Fin 3 → Fin 64 → EReal
  bd2 : Fin 64 → EReal
  dg : Fin 3 → EReal
  db : Fin 3 → EReal
  wq : Fin 64 → Fin 64 → EReal
  bq : Fin 64 → EReal
  wk : Fin 64 → Fin 64 → EReal
  bk : Fin 64 → EReal

/-- The position code of one neighbour. -/
def pos (P : Par1) (p1 : Fin 3 → EReal) : Fin 64 → EReal := lin P.wd2 P.bd2 (act P.ds P.dg P.db p1)

/-- The first attention row: query less key plus position code. -/
def g1 (P : Par1) (f kf : Fin 64 → EReal) (p1 : Fin 3 → EReal) (j : Fin 64) : EReal :=
  lin P.wq P.bq f j - lin P.wk P.bk kf j + pos P p1 j

/-- The weights and statistics of the second attention layer. -/
structure Par2 where
  s1 : Fin 2 → Fin 64 → EReal
  g : Fin 64 → EReal
  b : Fin 64 → EReal
  w : Fin 64 → Fin 64 → EReal
  c : Fin 64 → EReal

/-- One attention layer: normalise, gelu, linear. -/
def attn (P : Par2) (x : Fin 64 → EReal) : Fin 64 → EReal := lin P.w P.c (act P.s1 P.g P.b x)

/-- The largest entry of a column of sixteen, from minus infinity up. -/
def colMax (x : Fin 16 → EReal) : EReal := Finset.univ.fold max (Ideal.ofBits .f32 0xFF800000#32) x

/-- The softmax of a column of sixteen. -/
def softmax (x : Fin 16 → EReal) (k : Fin 16) : EReal :=
  Ideal.div (Ideal.exp (x k - colMax x)) (∑ k', Ideal.exp (x k' - colMax x))

/-- The block's output at one point and one feature: the values of the sixteen neighbours, weighted by the softmax. -/
def out (P1 : Par1) (P2 P3 : Par2) (wv : Fin 64 → Fin 64 → EReal) (bv : Fin 64 → EReal)
    (f : Fin 64 → EReal) (kf : Fin 16 → Fin 64 → EReal) (p1 : Fin 16 → Fin 3 → EReal) (j : Fin 64) : EReal :=
  ∑ k, softmax (fun k' => attn P3 (attn P2 (g1 P1 f (kf k') (p1 k'))) j) k * (lin wv bv (kf k) j + pos P1 (p1 k) j)

/-- The two quantities a statistic sums: the value (row 0) and its square (row 1). -/
def sel (r : Fin 2) (x : EReal) : EReal := if r = 0 then x else x * x

/-- The sums over every batch, point and neighbour of a feature's values (row 0) and of their squares (row 1). -/
def sums {n : ℕ} (x : Fin 4 → Fin 8192 → Fin 16 → Fin n → EReal) (r : Fin 2) (d : Fin n) : EReal :=
  ∑ b : Fin 4, ∑ i : Fin 8192, ∑ k : Fin 16, sel r (x b i k d)

/-- A sum over 64 blocks of 512 points of 16 neighbours is the sum over the batches, the points and the neighbours. -/
theorem sum_blocks512 (f : Fin 4 → Fin 8192 → Fin 16 → EReal) :
    (∑ t : Fin 64, ∑ p : Fin 8192, f ⟨t.val / 16, by omega⟩ ⟨(t.val % 16) * 512 + p.val / 16, by omega⟩ ⟨p.val % 16, by omega⟩)
      = ∑ b, ∑ i, ∑ k, f b i k := by
  have e1 : (∑ x : (Fin 64 × Fin 8192), f ⟨x.1.val / 16, by omega⟩ ⟨(x.1.val % 16) * 512 + x.2.val / 16, by omega⟩ ⟨x.2.val % 16, by omega⟩)
      = ∑ y : Fin 4 × Fin 8192 × Fin 16, f y.1 y.2.1 y.2.2 := by
    refine Fintype.sum_bijective (fun x : Fin 64 × Fin 8192 => ((⟨x.1.val / 16, by omega⟩, ⟨(x.1.val % 16) * 512 + x.2.val / 16, by omega⟩, ⟨x.2.val % 16, by omega⟩) : Fin 4 × Fin 8192 × Fin 16)) ⟨?_, ?_⟩ _ _ fun _ => rfl
    · rintro ⟨a, b⟩ ⟨a', b'⟩ h
      simp only [Prod.mk.injEq, Fin.mk.injEq] at h
      obtain ⟨h1, h2, h3⟩ := h
      refine Prod.ext (Fin.ext ?_) (Fin.ext ?_) <;> simp only <;> omega
    · rintro ⟨b, i, k⟩
      refine ⟨(⟨b.val * 16 + i.val / 512, by omega⟩, ⟨(i.val % 512) * 16 + k.val, by omega⟩), ?_⟩
      refine Prod.ext (Fin.ext ?_) (Prod.ext (Fin.ext ?_) (Fin.ext ?_)) <;> simp only <;> omega
  rw [Fintype.sum_prod_type] at e1
  refine e1.trans ?_
  rw [Fintype.sum_prod_type]
  exact Finset.sum_congr rfl fun b _ => Fintype.sum_prod_type _

/-- A sum over 128 blocks of 256 points, neighbour by neighbour, is the sum over the batches, the points and the neighbours. -/
theorem sum_blocks256 (f : Fin 4 → Fin 8192 → Fin 16 → EReal) :
    (∑ t : Fin 128, ∑ k : Fin 16, ∑ p : Fin 256, f ⟨t.val / 32, by omega⟩ ⟨(t.val % 32) * 256 + p.val, by omega⟩ k)
      = ∑ b, ∑ i, ∑ k, f b i k := by
  have e1 : (∑ x : (Fin 128 × Fin 256), ∑ k : Fin 16, f ⟨x.1.val / 32, by omega⟩ ⟨(x.1.val % 32) * 256 + x.2.val, by omega⟩ k)
      = ∑ y : Fin 4 × Fin 8192, ∑ k, f y.1 y.2 k := by
    refine Fintype.sum_bijective (fun x : Fin 128 × Fin 256 => ((⟨x.1.val / 32, by omega⟩, ⟨(x.1.val % 32) * 256 + x.2.val, by omega⟩) : Fin 4 × Fin 8192)) ⟨?_, ?_⟩ _ _ fun _ => rfl
    · rintro ⟨a, b⟩ ⟨a', b'⟩ h
      simp only [Prod.mk.injEq, Fin.mk.injEq] at h
      obtain ⟨h1, h2⟩ := h
      refine Prod.ext (Fin.ext ?_) (Fin.ext ?_) <;> simp only <;> omega
    · rintro ⟨b, i⟩
      refine ⟨(⟨b.val * 32 + i.val / 256, by omega⟩, ⟨i.val % 256, by omega⟩), ?_⟩
      refine Prod.ext (Fin.ext ?_) (Fin.ext ?_) <;> simp only <;> omega
  rw [Fintype.sum_prod_type, Fintype.sum_prod_type] at e1
  refine Eq.trans (Finset.sum_congr rfl fun t _ => ?_) e1
  exact Finset.sum_comm

end Cert.Model

end
-- ==== Proof.Pay3.lean ====
/-
  The last call's payload functions, read at an index down to scalars, in the model's terms.
-/
module

public import proofs.«01_k».proof.Proof.Gen.KernelIdeal.Skeleton
public import proofs.«01_k».proof.Proof.Gen.KernelIdeal.Launch
public import Idealize.ShloMosaic.Lib.Pipeline.ValueKit
public import Idealize.ShloMosaic.Lib.Pointwise
public import proofs.«01_k».proof.Proof.Model

@[expose] public section

set_option maxRecDepth 16384

noncomputable section

namespace Cert.KernelIdeal.Hand

open Idealize.ShloMosaic Idealize.ShloMosaic.TcCoe Idealize.SL.Sem
open Cert.KernelIdeal Cert.KernelIdeal.Gen

/-- A row of 64 of a one-row matrix. -/
abbrev row {n : ℕ} (v : Vec Ideal (⟨2, ![1, n]⟩ : Shape) .f32) : Fin n → EReal := fun b => v (ix2 0 b)

/-- A matrix by its two indices. -/
abbrev mat {n m : ℕ} (v : Vec Ideal (⟨2, ![n, m]⟩ : Shape) .f32) : Fin n → Fin m → EReal := fun a b => v (ix2 a b)

/-- The weights and statistics of the first layers, from the whole arrays of a call's arguments. -/
abbrev par1 (x3 : Vec Ideal S2x3 .f32) (x4 : Vec Ideal S3x64 .f32) (x5 : Vec Ideal S1x64 .f32) (x6 x7 : Vec Ideal S1x3 .f32)
    (x8 : Vec Ideal S64x64 .f32) (x9 : Vec Ideal S1x64 .f32) (x10 : Vec Ideal S64x64 .f32) (x11 : Vec Ideal S1x64 .f32) : Model.Par1 where
  ds := mat x3
  wd2 := mat x4
  bd2 := row x5
  dg := row x6
  db := row x7
  wq := mat x8
  bq := row x9
  wk := mat x10
  bk := row x11

/-- The weights and statistics of one attention layer, from whole arrays. -/
abbrev par2 (s : Vec Ideal S2x64 .f32) (g b : Vec Ideal S1x64 .f32) (w : Vec Ideal S64x64 .f32) (c : Vec Ideal S1x64 .f32) : Model.Par2 where
  s1 := mat s
  g := row g
  b := row b
  w := mat w
  c := row c

theorem k3_pay4_at (v4 : Vec Ideal S1x512x16x3 .f32) (v6 v8 v19 v24 : Vec Ideal S1x3 .f32) (i : Fin 512) (k : Fin 16) (d : Fin 3) :
    k3_pay4 (F := Ideal) v4 v6 v8 v19 v24 (ix3 i k d) = Model.bn (v6 (ix2 0 d)) (v8 (ix2 0 d)) (v19 (ix2 0 d)) (v24 (ix2 0 d)) (v4 (ix4 0 i k d)) := by
  pointwise [k3_pay4]
  rfl

theorem k3_pay5_at (v4 : Vec Ideal S1x512x16x3 .f32) (v6 v8 v19 v24 : Vec Ideal S1x3 .f32) (i : Fin 512) (k : Fin 16) (d : Fin 3) :
    k3_pay5 (F := Ideal) v4 v6 v8 v19 v24 (ix3 i k d) = Model.half * Model.bn (v6 (ix2 0 d)) (v8 (ix2 0 d)) (v19 (ix2 0 d)) (v24 (ix2 0 d)) (v4 (ix4 0 i k d)) := by
  pointwise [k3_pay5]
  rw [k3_pay4_at]
  rfl

theorem k3_pay6_at (v4 : Vec Ideal S1x512x16x3 .f32) (v6 v8 v19 v24 : Vec Ideal S1x3 .f32) (i : Fin 512) (k : Fin 16) (d : Fin 3) :
    k3_pay6 (F := Ideal) v4 v6 v8 v19 v24 (ix3 i k d) = Ideal.erf (Model.bn (v6 (ix2 0 d)) (v8 (ix2 0 d)) (v19 (ix2 0 d)) (v24 (ix2 0 d)) (v4 (ix4 0 i k d)) * Model.rsqrt2) := by
  pointwise [k3_pay6]
  rw [k3_pay4_at]
  rfl

theorem k3_pay7_at (i : Fin 512) (k : Fin 16) (d : Fin 3) : k3_pay7 (F := Ideal) (ix3 i k d) = 1 := by
  pointwise [k3_pay7]

theorem k3_pay8_at (v30 v33 v34 : FVec Ideal S512x16x3 .f32) (v38 : Vec Ideal S3x64 .f32) (v41 : Vec Ideal S1x64 .f32) (i : Fin 512) (k : Fin 16) (d : Fin 64) :
    k3_pay8 (F := Ideal) v30 v33 v34 v38 v41 (ix3 i k d) = Model.lin (mat v38) (row v41) (fun a => v30 (ix3 i k a) * (v34 (ix3 i k a) + v33 (ix3 i k a))) d := by
  pointwise [k3_pay8]
  rfl

theorem k3_pay2_at (v : Vec Ideal S1x512x64 .f32) (i : Fin 512) (d : Fin 64) : k3_pay2 (F := Ideal) v (ix2 i d) = v (ix3 0 i d) := by
  pointwise [k3_pay2]

theorem k3_pay3_at (v : Vec Ideal S1x512x16x64 .f32) (i : Fin 512) (k : Fin 16) (d : Fin 64) : k3_pay3 (F := Ideal) v (ix3 i k d) = v (ix4 0 i k d) := by
  pointwise [k3_pay3]

theorem k3_pay9_at (v : Vec Ideal S1x64 .f32) (d : Fin 64) : k3_pay9 (F := Ideal) v (ix1 d) = v (ix2 0 d) := by
  pointwise [k3_pay9]

theorem k3_pay11_at (v : Vec Ideal S1x64 .f32) (d : Fin 64) : k3_pay11 (F := Ideal) v (ix1 d) = v (ix2 0 d) := by
  pointwise [k3_pay11]

theorem k3_pay10_at (v1 : FVec Ideal S512x64 .f32) (v3 : FVec Ideal S512x16x64 .f32) (v30 v33 v34 : FVec Ideal S512x16x3 .f32) (v38 : Vec Ideal S3x64 .f32) (v41 : Vec Ideal S1x64 .f32)
    (v47 : Vec Ideal S64x64 .f32) (v50 : Vec Ideal S1x64 .f32) (v56 : Vec Ideal S64x64 .f32) (v59 v69 : Vec Ideal S1x64 .f32) (i : Fin 512) (k : Fin 16) (d : Fin 64) :
    k3_pay10 (F := Ideal) v1 v3 v30 v33 v34 v38 v41 v47 v50 v56 v59 v69 (ix3 i k d) =
      Model.lin (mat v47) (row v50) (fun a => v1 (ix2 i a)) d - Model.lin (mat v56) (row v59) (fun a => v3 (ix3 i k a)) d
        + Model.lin (mat v38) (row v41) (fun a => v30 (ix3 i k a) * (v34 (ix3 i k a) + v33 (ix3 i k a))) d - v69 (ix2 0 d) := by
  pointwise [k3_pay10]
  rw [k3_pay8_at]
  rfl

theorem k3_pay12_at (v72 : FVec Ideal S64 .f32) (v75 : FVec Ideal S512x16x64 .f32) (v82 v87 : Vec Ideal S1x64 .f32)
    (v101 : Vec Ideal S64x64 .f32) (v104 v110 : Vec Ideal S1x64 .f32) (i : Fin 512) (k : Fin 16) (d : Fin 64) :
    k3_pay12 (F := Ideal) v72 v75 v82 v87 v101 v104 v110 (ix3 i k d) =
      Model.lin (mat v101) (row v104) (fun a => Model.gelu (Ideal.div (v75 (ix3 i k a)) (Ideal.sqrt (v72 (ix1 a) + Model.eps)) * v82 (ix2 0 a) + v87 (ix2 0 a))) d - v110 (ix2 0 d) := by
  pointwise [k3_pay12]
  rfl

theorem k3_pay13_at (d : Fin 64) : k3_pay13 (F := Ideal) (ix1 d) = Model.eps := by
  pointwise [k3_pay13]
  rfl

theorem k3_pay14_at (v113 : FVec Ideal S64 .f32) (v116 : FVec Ideal S512x16x64 .f32) (v117 : FVec Ideal S64 .f32) (v123 v128 : Vec Ideal S1x64 .f32)
    (v142 : Vec Ideal S64x64 .f32) (v145 : Vec Ideal S1x64 .f32) (i : Fin 512) (k : Fin 16) (d : Fin 64) :
    k3_pay14 (F := Ideal) v113 v116 v117 v123 v128 v142 v145 (ix3 i k d) =
      Model.softmax (fun k' => Model.lin (mat v142) (row v145) (fun a => Model.gelu (Ideal.div (v116 (ix3 i k' a)) (Ideal.sqrt (v113 (ix1 a) + v117 (ix1 a))) * v123 (ix2 0 a) + v128 (ix2 0 a))) d) k := by
  pointwise [k3_pay14]
  rfl

theorem k3_pay1_at (v46 v159 : FVec Ideal S512x16x64 .f32) (v160 : FVec Ideal S8192x64 .f32) (v161 : Vec Ideal S64x64 .f32) (v164 : Vec Ideal S1x64 .f32) (i : Fin 512) (d : Fin 64) :
    k3_pay1 (F := Ideal) v46 v159 v160 v161 v164 (ix3 0 i d) =
      ∑ k : Fin 16, v159 (ix3 i k d) * (Model.lin (mat v161) (row v164) (fun a => v160 (ix2 (⟨i.val * 16 + k.val, by omega⟩ : Fin 8192) a)) d + v46 (ix3 i k d)) := by
  pointwise [k3_pay1]
  rfl

theorem k3_pay15_at (v3 : FVec Ideal S512x16x64 .f32) (i : Fin 512) (k : Fin 16) (d : Fin 64) :
    k3_pay15 (F := Ideal) v3 (ix2 (⟨i.val * 16 + k.val, by omega⟩ : Fin 8192) d) = v3 (ix3 i k d) := by
  pointwise [k3_pay15]

end Cert.KernelIdeal.Hand
end
-- ==== Proof.Knn.lean ====
/-
  The neighbour search's payload functions as whole vectors: every round of the search is the same function of the
  distances left, whatever values its printed form shares between its stores.
-/
module

public import proofs.«01_k».proof.Proof.Gen.KernelIdeal.Skeleton
public import proofs.«01_k».proof.Proof.Gen.KernelIdeal.Launch
public import proofs.«01_k».proof.Proof.Pay3

@[expose] public section

set_option maxRecDepth 16384

noncomputable section

namespace Cert.KernelIdeal.Hand

open Idealize.ShloMosaic Idealize.ShloMosaic.TcCoe Idealize.SL.Sem
open Cert.KernelIdeal Cert.KernelIdeal.Gen

variable {F : FTy → Type} [FloatOps F]

/-- The column numbers. -/
abbrev ioV : IVec S256x8192 32 := iota .tc S256x8192 32 [1] iota_S256x8192_d1_w32

/-- The smallest distance left in each row. -/
def minV (d : FVec F S256x8192 .f32) : FVec F S256 .f32 := multiReduction .minimumf [1] S256 d 0x7F800000#32 reduces_S256x8192_S256 (.inl rfl) rfl

/-- The same as a column. -/
def min1 (d : FVec F S256x8192 .f32) : FVec F S256x1 .f32 := shapeCast S256x1 (minV d) shapeCasts_S256_S256x1

/-- The same in every column. -/
def minB (d : FVec F S256x8192 .f32) : FVec F S256x8192 .f32 := broadcastTo S256x8192 (min1 d) broadcasts_S256x1_S256x8192

/-- Where a distance is the row's smallest. -/
def leV (d : FVec F S256x8192 .f32) : IVec S256x8192 1 := cmpf .ole d (minB d)

/-- The first column that has the row's smallest distance. -/
def idxV (io : IVec S256x8192 32) (d : FVec F S256x8192 .f32) : IVec S256 32 :=
  multiReductionI .minsi [1] S256 (select (leV d) io (broadcast S256x8192 8192#32)) 2147483647#32 reduces_S256x8192_S256 rfl

/-- One at that column, zero elsewhere. -/
def ohV (io : IVec S256x8192 32) (d : FVec F S256x8192 .f32) : FVec F S256x8192 .bf16 :=
  truncf .bf16 (sitofp .f32 (extui 32 (cmpi .eq io (broadcastTo S256x8192 (shapeCast S256x1 (idxV io d) shapeCasts_S256_S256x1) broadcasts_S256x1_S256x8192)) natLt_1_32)) bitsLt_bf16_f32

/-- Zero everywhere. -/
def zeroB : FVec F S256x8192 .bf16 := broadcast S256x8192 (Scalar.ofBits .bf16 0x0000#16)

/-- Plus infinity everywhere. -/
def infB : FVec F S256x8192 .f32 := broadcast S256x8192 (Scalar.ofBits .f32 0x7F800000#32)

/-- Where the chosen column is. -/
def gtV (io : IVec S256x8192 32) (d : FVec F S256x8192 .f32) : IVec S256x8192 1 := cmpf .ogt (ohV io d) zeroB

/-- The distances left after the chosen one is put to plus infinity. -/
def nextV (io : IVec S256x8192 32) (d : FVec F S256x8192 .f32) : FVec F S256x8192 .f32 := select (gtV io d) infB d

/-- The chosen rows of the features, by the one-hot product. -/
def kfV (io : IVec S256x8192 32) (fh fl : FVec F S8192x64 .bf16) (d : FVec F S256x8192 .f32) : FVec F S1x256x1x64 .f32 :=
  shapeCast S1x256x1x64
    (addf (matmul dot_S256x8192_S8192x64_S256x64_1_0_0_1_n_n none (ohV io d) fh (constant S256x64 .f32 0x00000000#32))
      (matmul dot_S256x8192_S8192x64_S256x64_1_0_0_1_n_n none (ohV io d) fl (constant S256x64 .f32 0x00000000#32))) shapeCasts_S256x64_S1x256x1x64

/-- The position layer's first linear map of a point less its chosen neighbour. -/
def p1V (io : IVec S256x8192 32) (q : FVec F S256x3 .f32) (w : FVec F S3x3 .f32) (b : FVec F S3 .f32) (ph pl : FVec F S8192x3 .bf16) (d : FVec F S256x8192 .f32) : FVec F S256x3 .f32 :=
  addf (matmul dot_S256x3_S3x3_S256x3_1_0_0_1_n_n (some .fp32)
      (subf q (addf (matmul dot_S256x8192_S8192x3_S256x3_1_0_0_1_n_n none (ohV io d) ph (constant S256x3 .f32 0x00000000#32))
        (matmul dot_S256x8192_S8192x3_S256x3_1_0_0_1_n_n none (ohV io d) pl (constant S256x3 .f32 0x00000000#32)))) w (constant S256x3 .f32 0x00000000#32))
    (broadcastTo S256x3 (shapeCast S1x3 b shapeCasts_S3_S1x3) broadcasts_S1x3_S256x3)

/-- The same in the shape it is stored in. -/
def p1C (x : FVec F S256x3 .f32) : FVec F S1x256x1x3 .f32 := shapeCast S1x256x1x3 x shapeCasts_S256x3_S1x256x1x3

/-- The sum over a block's rows. -/
def redV (x : FVec F S256x3 .f32) : FVec F S3 .f32 := multiReduction .add [0] S3 x 0x00000000#32 reduces_S256x3_S3 (.inl rfl) rfl

theorem k0_pay15_v (x0 : Vec F S1x8192x3 .f32) (x2 : Vec F S1x256x3 .f32) : k0_pay15 (F := F) x0 x2 = leV (k0_pay6 x0 x2) := rfl
theorem k0_pay61_v : k0_pay61 (F := F) = infB := rfl
theorem k0_pay85_v : k0_pay85 (F := F) = zeroB := rfl
theorem k0_pay107_v (a e : FVec F S3 .f32) : k0_pay107 (F := F) a e = addf a e := rfl
theorem k0_pay115_v (a : FVec F S3 .f32) (e : FVec F S256x3 .f32) : k0_pay115 (F := F) a e = addf a (redV e) := rfl
theorem k0_pay123_v (a : FVec F S3 .f32) (e : FVec F S256x3 .f32) : k0_pay123 (F := F) a e = addf a (redV e) := rfl
theorem k0_pay130_v (a : FVec F S3 .f32) (e : FVec F S256x3 .f32) : k0_pay130 (F := F) a e = addf a (redV (mulf e e)) := rfl
theorem k0_pay16_v (io : IVec S256x8192 32) (d : FVec F S256x8192 .f32) : k0_pay16 (F := F) io (leV d) = ohV io d := rfl
theorem k0_pay17_v (io : IVec S256x8192 32) (d : FVec F S256x8192 .f32) (fh : FVec F S8192x64 .bf16) (fl : FVec F S8192x64 .bf16) : k0_pay17 (F := F) io fh fl (leV d) = kfV io fh fl d := rfl
theorem k0_pay18_v (io : IVec S256x8192 32) (d : FVec F S256x8192 .f32) (q : FVec F S256x3 .f32) (w : FVec F S3x3 .f32) (b : FVec F S3 .f32) (ph : FVec F S8192x3 .bf16) (pl : FVec F S8192x3 .bf16) : k0_pay18 (F := F) q io w b ph pl (leV d) = p1V io q w b ph pl d := rfl
theorem k0_pay19_v (io : IVec S256x8192 32) (d : FVec F S256x8192 .f32) (q : FVec F S256x3 .f32) (w : FVec F S3x3 .f32) (b : FVec F S3 .f32) (ph : FVec F S8192x3 .bf16) (pl : FVec F S8192x3 .bf16) : k0_pay19 (F := F) q io w b ph pl (leV d) = p1C (p1V io q w b ph pl d) := rfl
theorem k0_pay20_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay20 (F := F) q io w b ph pl acc (leV d) = addf acc (redV (p1V io q w b ph pl d)) := rfl
theorem k0_pay21_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay21 (F := F) q io w b ph pl acc (leV d) = addf acc (redV (mulf (p1V io q w b ph pl d) (p1V io q w b ph pl d))) := rfl
theorem k0_pay22_v (io : IVec S256x8192 32) (d : FVec F S256x8192 .f32) : k0_pay22 (F := F) d io (leV d) = nextV io d := rfl
theorem k0_pay23_v (io : IVec S256x8192 32) (d : FVec F S256x8192 .f32) : k0_pay23 (F := F) d io (leV d) = minB (nextV io d) := rfl
theorem k0_pay24_v (io : IVec S256x8192 32) (d : FVec F S256x8192 .f32) : k0_pay24 (F := F) io d (minB d) = ohV io d := rfl
theorem k0_pay25_v (io : IVec S256x8192 32) (d : FVec F S256x8192 .f32) (fh : FVec F S8192x64 .bf16) (fl : FVec F S8192x64 .bf16) : k0_pay25 (F := F) io fh fl d (minB d) = kfV io fh fl d := rfl
theorem k0_pay26_v (io : IVec S256x8192 32) (d : FVec F S256x8192 .f32) (q : FVec F S256x3 .f32) (w : FVec F S3x3 .f32) (b : FVec F S3 .f32) (ph : FVec F S8192x3 .bf16) (pl : FVec F S8192x3 .bf16) : k0_pay26 (F := F) q io w b ph pl d (minB d) = p1V io q w b ph pl d := rfl
theorem k0_pay27_v (io : IVec S256x8192 32) (d : FVec F S256x8192 .f32) (q : FVec F S256x3 .f32) (w : FVec F S3x3 .f32) (b : FVec F S3 .f32) (ph : FVec F S8192x3 .bf16) (pl : FVec F S8192x3 .bf16) : k0_pay27 (F := F) q io w b ph pl d (minB d) = p1C (p1V io q w b ph pl d) := rfl
theorem k0_pay28_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay28 (F := F) q io w b ph pl acc d (minB d) = addf acc (redV (p1V io q w b ph pl d)) := rfl
theorem k0_pay29_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay29 (F := F) q io w b ph pl acc d (minB d) = addf acc (redV (mulf (p1V io q w b ph pl d) (p1V io q w b ph pl d))) := rfl
theorem k0_pay30_v (io : IVec S256x8192 32) (d : FVec F S256x8192 .f32) : k0_pay30 (F := F) io d (minB d) = nextV io d := rfl
theorem k0_pay31_v (io : IVec S256x8192 32) (d : FVec F S256x8192 .f32) : k0_pay31 (F := F) io d (minB d) = min1 (nextV io d) := rfl
theorem k0_pay32_v (io : IVec S256x8192 32) (d : FVec F S256x8192 .f32) : k0_pay32 (F := F) io d (min1 d) = ohV io d := rfl
theorem k0_pay33_v (io : IVec S256x8192 32) (d : FVec F S256x8192 .f32) (fh : FVec F S8192x64 .bf16) (fl : FVec F S8192x64 .bf16) : k0_pay33 (F := F) io fh fl d (min1 d) = kfV io fh fl d := rfl
theorem k0_pay34_v (io : IVec S256x8192 32) (d : FVec F S256x8192 .f32) (q : FVec F S256x3 .f32) (w : FVec F S3x3 .f32) (b : FVec F S3 .f32) (ph : FVec F S8192x3 .bf16) (pl : FVec F S8192x3 .bf16) : k0_pay34 (F := F) q io w b ph pl d (min1 d) = p1V io q w b ph pl d := rfl
theorem k0_pay35_v (io : IVec S256x8192 32) (d : FVec F S256x8192 .f32) (q : FVec F S256x3 .f32) (w : FVec F S3x3 .f32) (b : FVec F S3 .f32) (ph : FVec F S8192x3 .bf16) (pl : FVec F S8192x3 .bf16) : k0_pay35 (F := F) q io w b ph pl d (min1 d) = p1C (p1V io q w b ph pl d) := rfl
theorem k0_pay36_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay36 (F := F) q io w b ph pl acc d (min1 d) = addf acc (redV (p1V io q w b ph pl d)) := rfl
theorem k0_pay37_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay37 (F := F) q io w b ph pl acc d (min1 d) = addf acc (redV (mulf (p1V io q w b ph pl d) (p1V io q w b ph pl d))) := rfl
theorem k0_pay38_v (io : IVec S256x8192 32) (d : FVec F S256x8192 .f32) : k0_pay38 (F := F) io d (min1 d) = nextV io d := rfl
theorem k0_pay39_v (io : IVec S256x8192 32) (d : FVec F S256x8192 .f32) : k0_pay39 (F := F) io d (min1 d) = minV (nextV io d) := rfl
theorem k0_pay40_v (io : IVec S256x8192 32) (d : FVec F S256x8192 .f32) : k0_pay40 (F := F) io d (minV d) = ohV io d := rfl
theorem k0_pay41_v (io : IVec S256x8192 32) (d : FVec F S256x8192 .f32) (fh : FVec F S8192x64 .bf16) (fl : FVec F S8192x64 .bf16) : k0_pay41 (F := F) io fh fl d (minV d) = kfV io fh fl d := rfl
theorem k0_pay42_v (io : IVec S256x8192 32) (d : FVec F S256x8192 .f32) (q : FVec F S256x3 .f32) (w : FVec F S3x3 .f32) (b : FVec F S3 .f32) (ph : FVec F S8192x3 .bf16) (pl : FVec F S8192x3 .bf16) : k0_pay42 (F := F) q io w b ph pl d (minV d) = p1V io q w b ph pl d := rfl
theorem k0_pay43_v (io : IVec S256x8192 32) (d : FVec F S256x8192 .f32) (q : FVec F S256x3 .f32) (w : FVec F S3x3 .f32) (b : FVec F S3 .f32) (ph : FVec F S8192x3 .bf16) (pl : FVec F S8192x3 .bf16) : k0_pay43 (F := F) q io w b ph pl d (minV d) = p1C (p1V io q w b ph pl d) := rfl
theorem k0_pay44_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay44 (F := F) q io w b ph pl acc d (minV d) = addf acc (redV (p1V io q w b ph pl d)) := rfl
theorem k0_pay45_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay45 (F := F) q io w b ph pl acc d (minV d) = addf acc (redV (mulf (p1V io q w b ph pl d) (p1V io q w b ph pl d))) := rfl
theorem k0_pay46_v (io : IVec S256x8192 32) (d : FVec F S256x8192 .f32) : k0_pay46 (F := F) io d (minV d) = nextV io d := rfl
theorem k0_pay47_v (io : IVec S256x8192 32) (d : FVec F S256x8192 .f32) : k0_pay47 (F := F) io d = ohV io d := rfl
theorem k0_pay48_v (io : IVec S256x8192 32) (d : FVec F S256x8192 .f32) (fh : FVec F S8192x64 .bf16) (fl : FVec F S8192x64 .bf16) : k0_pay48 (F := F) io fh fl d = kfV io fh fl d := rfl
theorem k0_pay49_v (io : IVec S256x8192 32) (d : FVec F S256x8192 .f32) (q : FVec F S256x3 .f32) (w : FVec F S3x3 .f32) (b : FVec F S3 .f32) (ph : FVec F S8192x3 .bf16) (pl : FVec F S8192x3 .bf16) : k0_pay49 (F := F) q io w b ph pl d = p1V io q w b ph pl d := rfl
theorem k0_pay50_v (io : IVec S256x8192 32) (d : FVec F S256x8192 .f32) (q : FVec F S256x3 .f32) (w : FVec F S3x3 .f32) (b : FVec F S3 .f32) (ph : FVec F S8192x3 .bf16) (pl : FVec F S8192x3 .bf16) : k0_pay50 (F := F) q io w b ph pl d = p1C (p1V io q w b ph pl d) := rfl
theorem k0_pay51_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay51 (F := F) q io w b ph pl acc d = addf acc (redV (p1V io q w b ph pl d)) := rfl
theorem k0_pay52_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay52 (F := F) q io w b ph pl acc d = addf acc (redV (mulf (p1V io q w b ph pl d) (p1V io q w b ph pl d))) := rfl
theorem k0_pay53_v (io : IVec S256x8192 32) (d : FVec F S256x8192 .f32) : k0_pay53 (F := F) io d = nextV io d := rfl
theorem k0_pay54_v (io : IVec S256x8192 32) (d : FVec F S256x8192 .f32) : k0_pay54 (F := F) io d = ohV io d := rfl
theorem k0_pay55_v (io : IVec S256x8192 32) (d : FVec F S256x8192 .f32) (fh : FVec F S8192x64 .bf16) (fl : FVec F S8192x64 .bf16) : k0_pay55 (F := F) io fh fl d = kfV io fh fl d := rfl
theorem k0_pay56_v (io : IVec S256x8192 32) (d : FVec F S256x8192 .f32) (q : FVec F S256x3 .f32) (w : FVec F S3x3 .f32) (b : FVec F S3 .f32) (ph : FVec F S8192x3 .bf16) (pl : FVec F S8192x3 .bf16) : k0_pay56 (F := F) q io w b ph pl d = p1V io q w b ph pl d := rfl
theorem k0_pay57_v (io : IVec S256x8192 32) (d : FVec F S256x8192 .f32) (q : FVec F S256x3 .f32) (w : FVec F S3x3 .f32) (b : FVec F S3 .f32) (ph : FVec F S8192x3 .bf16) (pl : FVec F S8192x3 .bf16) : k0_pay57 (F := F) q io w b ph pl d = p1C (p1V io q w b ph pl d) := rfl
theorem k0_pay58_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay58 (F := F) q io w b ph pl acc d = addf acc (redV (p1V io q w b ph pl d)) := rfl
theorem k0_pay59_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay59 (F := F) q io w b ph pl acc d = addf acc (redV (mulf (p1V io q w b ph pl d) (p1V io q w b ph pl d))) := rfl
theorem k0_pay60_v (io : IVec S256x8192 32) (d : FVec F S256x8192 .f32) : k0_pay60 (F := F) io d = gtV io d := rfl
theorem k0_pay62_v (io : IVec S256x8192 32) (d : FVec F S256x8192 .f32) : k0_pay62 (F := F) d (gtV io d) infB = nextV io d := rfl
theorem k0_pay63_v (io : IVec S256x8192 32) (d : FVec F S256x8192 .f32) : k0_pay63 (F := F) io d (gtV io d) infB = ohV io (nextV io d) := rfl
theorem k0_pay64_v (io : IVec S256x8192 32) (d : FVec F S256x8192 .f32) (fh : FVec F S8192x64 .bf16) (fl : FVec F S8192x64 .bf16) : k0_pay64 (F := F) io fh fl d (gtV io d) infB = kfV io fh fl (nextV io d) := rfl
theorem k0_pay65_v (io : IVec S256x8192 32) (d : FVec F S256x8192 .f32) (q : FVec F S256x3 .f32) (w : FVec F S3x3 .f32) (b : FVec F S3 .f32) (ph : FVec F S8192x3 .bf16) (pl : FVec F S8192x3 .bf16) : k0_pay65 (F := F) q io w b ph pl d (gtV io d) infB = p1V io q w b ph pl (nextV io d) := rfl
theorem k0_pay66_v (io : IVec S256x8192 32) (d : FVec F S256x8192 .f32) (q : FVec F S256x3 .f32) (w : FVec F S3x3 .f32) (b : FVec F S3 .f32) (ph : FVec F S8192x3 .bf16) (pl : FVec F S8192x3 .bf16) : k0_pay66 (F := F) q io w b ph pl d (gtV io d) infB = p1C (p1V io q w b ph pl (nextV io d)) := rfl
theorem k0_pay67_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay67 (F := F) q io w b ph pl d acc (gtV io d) infB = addf acc (redV (p1V io q w b ph pl (nextV io d))) := rfl
theorem k0_pay68_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay68 (F := F) q io w b ph pl d acc (gtV io d) infB = addf acc (redV (mulf (p1V io q w b ph pl (nextV io d)) (p1V io q w b ph pl (nextV io d)))) := rfl
theorem k0_pay69_v (io : IVec S256x8192 32) (d : FVec F S256x8192 .f32) : k0_pay69 (F := F) io d (gtV io d) infB = gtV io (nextV io d) := rfl
theorem k0_pay70_v (io : IVec S256x8192 32) (d : FVec F S256x8192 .f32) : k0_pay70 (F := F) d (gtV io d) (Scalar.ofBits .f32 0x7F800000#32) = nextV io d := rfl
theorem k0_pay71_v (io : IVec S256x8192 32) (d : FVec F S256x8192 .f32) : k0_pay71 (F := F) io d (gtV io d) (Scalar.ofBits .f32 0x7F800000#32) = ohV io (nextV io d) := rfl
theorem k0_pay72_v (io : IVec S256x8192 32) (d : FVec F S256x8192 .f32) (fh : FVec F S8192x64 .bf16) (fl : FVec F S8192x64 .bf16) : k0_pay72 (F := F) io fh fl d (gtV io d) (Scalar.ofBits .f32 0x7F800000#32) = kfV io fh fl (nextV io d) := rfl
theorem k0_pay73_v (io : IVec S256x8192 32) (d : FVec F S256x8192 .f32) (q : FVec F S256x3 .f32) (w : FVec F S3x3 .f32) (b : FVec F S3 .f32) (ph : FVec F S8192x3 .bf16) (pl : FVec F S8192x3 .bf16) : k0_pay73 (F := F) q io w b ph pl d (gtV io d) (Scalar.ofBits .f32 0x7F800000#32) = p1V io q w b ph pl (nextV io d) := rfl
theorem k0_pay74_v (io : IVec S256x8192 32) (d : FVec F S256x8192 .f32) (q : FVec F S256x3 .f32) (w : FVec F S3x3 .f32) (b : FVec F S3 .f32) (ph : FVec F S8192x3 .bf16) (pl : FVec F S8192x3 .bf16) : k0_pay74 (F := F) q io w b ph pl d (gtV io d) (Scalar.ofBits .f32 0x7F800000#32) = p1C (p1V io q w b ph pl (nextV io d)) := rfl
theorem k0_pay75_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay75 (F := F) q io w b ph pl d acc (gtV io d) (Scalar.ofBits .f32 0x7F800000#32) = addf acc (redV (p1V io q w b ph pl (nextV io d))) := rfl
theorem k0_pay76_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay76 (F := F) q io w b ph pl d acc (gtV io d) (Scalar.ofBits .f32 0x7F800000#32) = addf acc (redV (mulf (p1V io q w b ph pl (nextV io d)) (p1V io q w b ph pl (nextV io d)))) := rfl
theorem k0_pay77_v (io : IVec S256x8192 32) (d : FVec F S256x8192 .f32) : k0_pay77 (F := F) io d (gtV io d) (Scalar.ofBits .f32 0x7F800000#32) = gtV io (nextV io d) := rfl
theorem k0_pay78_v (io : IVec S256x8192 32) (d : FVec F S256x8192 .f32) : k0_pay78 (F := F) d (gtV io d) = nextV io d := rfl
theorem k0_pay79_v (io : IVec S256x8192 32) (d : FVec F S256x8192 .f32) : k0_pay79 (F := F) io d (gtV io d) = ohV io (nextV io d) := rfl
theorem k0_pay80_v (io : IVec S256x8192 32) (d : FVec F S256x8192 .f32) (fh : FVec F S8192x64 .bf16) (fl : FVec F S8192x64 .bf16) : k0_pay80 (F := F) io fh fl d (gtV io d) = kfV io fh fl (nextV io d) := rfl
theorem k0_pay81_v (io : IVec S256x8192 32) (d : FVec F S256x8192 .f32) (q : FVec F S256x3 .f32) (w : FVec F S3x3 .f32) (b : FVec F S3 .f32) (ph : FVec F S8192x3 .bf16) (pl : FVec F S8192x3 .bf16) : k0_pay81 (F := F) q io w b ph pl d (gtV io d) = p1V io q w b ph pl (nextV io d) := rfl
theorem k0_pay82_v (io : IVec S256x8192 32) (d : FVec F S256x8192 .f32) (q : FVec F S256x3 .f32) (w : FVec F S3x3 .f32) (b : FVec F S3 .f32) (ph : FVec F S8192x3 .bf16) (pl : FVec F S8192x3 .bf16) : k0_pay82 (F := F) q io w b ph pl d (gtV io d) = p1C (p1V io q w b ph pl (nextV io d)) := rfl
theorem k0_pay83_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay83 (F := F) q io w b ph pl d acc (gtV io d) = addf acc (redV (p1V io q w b ph pl (nextV io d))) := rfl
theorem k0_pay84_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay84 (F := F) q io w b ph pl d acc (gtV io d) = addf acc (redV (mulf (p1V io q w b ph pl (nextV io d)) (p1V io q w b ph pl (nextV io d)))) := rfl
theorem k0_pay86_v (io : IVec S256x8192 32) (d : FVec F S256x8192 .f32) : k0_pay86 (F := F) d (ohV io d) zeroB = nextV io d := rfl
theorem k0_pay87_v (io : IVec S256x8192 32) (d : FVec F S256x8192 .f32) : k0_pay87 (F := F) io d (ohV io d) zeroB = ohV io (nextV io d) := rfl
theorem k0_pay88_v (io : IVec S256x8192 32) (d : FVec F S256x8192 .f32) (fh : FVec F S8192x64 .bf16) (fl : FVec F S8192x64 .bf16) : k0_pay88 (F := F) io fh fl d (ohV io d) zeroB = kfV io fh fl (nextV io d) := rfl
theorem k0_pay89_v (io : IVec S256x8192 32) (d : FVec F S256x8192 .f32) (q : FVec F S256x3 .f32) (w : FVec F S3x3 .f32) (b : FVec F S3 .f32) (ph : FVec F S8192x3 .bf16) (pl : FVec F S8192x3 .bf16) : k0_pay89 (F := F) q io w b ph pl d (ohV io d) zeroB = p1V io q w b ph pl (nextV io d) := rfl
theorem k0_pay90_v (io : IVec S256x8192 32) (d : FVec F S256x8192 .f32) (q : FVec F S256x3 .f32) (w : FVec F S3x3 .f32) (b : FVec F S3 .f32) (ph : FVec F S8192x3 .bf16) (pl : FVec F S8192x3 .bf16) : k0_pay90 (F := F) q io w b ph pl d (ohV io d) zeroB = p1C (p1V io q w b ph pl (nextV io d)) := rfl
theorem k0_pay91_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay91 (F := F) q io w b ph pl d (ohV io d) acc zeroB = addf acc (redV (p1V io q w b ph pl (nextV io d))) := rfl
theorem k0_pay92_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay92 (F := F) q io w b ph pl d (ohV io d) acc zeroB = addf acc (redV (mulf (p1V io q w b ph pl (nextV io d)) (p1V io q w b ph pl (nextV io d)))) := rfl
theorem k0_pay93_v (io : IVec S256x8192 32) (d : FVec F S256x8192 .f32) : k0_pay93 (F := F) d (ohV io d) (Scalar.ofBits .bf16 0x0000#16) = nextV io d := rfl
theorem k0_pay94_v (io : IVec S256x8192 32) (d : FVec F S256x8192 .f32) : k0_pay94 (F := F) io d (ohV io d) (Scalar.ofBits .bf16 0x0000#16) = ohV io (nextV io d) := rfl
theorem k0_pay95_v (io : IVec S256x8192 32) (d : FVec F S256x8192 .f32) (fh : FVec F S8192x64 .bf16) (fl : FVec F S8192x64 .bf16) : k0_pay95 (F := F) io fh fl d (ohV io d) (Scalar.ofBits .bf16 0x0000#16) = kfV io fh fl (nextV io d) := rfl
theorem k0_pay96_v (io : IVec S256x8192 32) (d : FVec F S256x8192 .f32) (q : FVec F S256x3 .f32) (w : FVec F S3x3 .f32) (b : FVec F S3 .f32) (ph : FVec F S8192x3 .bf16) (pl : FVec F S8192x3 .bf16) : k0_pay96 (F := F) q io w b ph pl d (ohV io d) (Scalar.ofBits .bf16 0x0000#16) = p1V io q w b ph pl (nextV io d) := rfl
theorem k0_pay97_v (io : IVec S256x8192 32) (d : FVec F S256x8192 .f32) (q : FVec F S256x3 .f32) (w : FVec F S3x3 .f32) (b : FVec F S3 .f32) (ph : FVec F S8192x3 .bf16) (pl : FVec F S8192x3 .bf16) : k0_pay97 (F := F) q io w b ph pl d (ohV io d) (Scalar.ofBits .bf16 0x0000#16) = p1C (p1V io q w b ph pl (nextV io d)) := rfl
theorem k0_pay98_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay98 (F := F) q io w b ph pl d (ohV io d) acc (Scalar.ofBits .bf16 0x0000#16) = addf acc (redV (p1V io q w b ph pl (nextV io d))) := rfl
theorem k0_pay99_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay99 (F := F) q io w b ph pl d (ohV io d) acc (Scalar.ofBits .bf16 0x0000#16) = addf acc (redV (mulf (p1V io q w b ph pl (nextV io d)) (p1V io q w b ph pl (nextV io d)))) := rfl
theorem k0_pay100_v (io : IVec S256x8192 32) (d : FVec F S256x8192 .f32) : k0_pay100 (F := F) d (ohV io d) = nextV io d := rfl
theorem k0_pay101_v (io : IVec S256x8192 32) (d : FVec F S256x8192 .f32) : k0_pay101 (F := F) io d (ohV io d) = ohV io (nextV io d) := rfl
theorem k0_pay102_v (io : IVec S256x8192 32) (d : FVec F S256x8192 .f32) (fh : FVec F S8192x64 .bf16) (fl : FVec F S8192x64 .bf16) : k0_pay102 (F := F) io fh fl d (ohV io d) = kfV io fh fl (nextV io d) := rfl
theorem k0_pay103_v (io : IVec S256x8192 32) (d : FVec F S256x8192 .f32) (q : FVec F S256x3 .f32) (w : FVec F S3x3 .f32) (b : FVec F S3 .f32) (ph : FVec F S8192x3 .bf16) (pl : FVec F S8192x3 .bf16) : k0_pay103 (F := F) q io w b ph pl d (ohV io d) = p1V io q w b ph pl (nextV io d) := rfl
theorem k0_pay104_v (io : IVec S256x8192 32) (d : FVec F S256x8192 .f32) (q : FVec F S256x3 .f32) (w : FVec F S3x3 .f32) (b : FVec F S3 .f32) (ph : FVec F S8192x3 .bf16) (pl : FVec F S8192x3 .bf16) : k0_pay104 (F := F) q io w b ph pl d (ohV io d) = p1C (p1V io q w b ph pl (nextV io d)) := rfl
theorem k0_pay105_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay105 (F := F) q io w b ph pl d (ohV io d) acc = addf acc (redV (p1V io q w b ph pl (nextV io d))) := rfl
theorem k0_pay106_v (io : IVec S256x8192 32) (d : FVec F S256x8192 .f32) (q : FVec F S256x3 .f32) (w : FVec F S3x3 .f32) (b : FVec F S3 .f32) (ph : FVec F S8192x3 .bf16) (pl : FVec F S8192x3 .bf16) : k0_pay106 (F := F) q io w b ph pl d (ohV io d) = redV (mulf (p1V io q w b ph pl (nextV io d)) (p1V io q w b ph pl (nextV io d))) := rfl
theorem k0_pay108_v (io : IVec S256x8192 32) (d : FVec F S256x8192 .f32) : k0_pay108 (F := F) d (ohV io d) = nextV io d := rfl
theorem k0_pay109_v (io : IVec S256x8192 32) (d : FVec F S256x8192 .f32) : k0_pay109 (F := F) io d (ohV io d) = ohV io (nextV io d) := rfl
theorem k0_pay110_v (io : IVec S256x8192 32) (d : FVec F S256x8192 .f32) (fh : FVec F S8192x64 .bf16) (fl : FVec F S8192x64 .bf16) : k0_pay110 (F := F) io fh fl d (ohV io d) = kfV io fh fl (nextV io d) := rfl
theorem k0_pay111_v (io : IVec S256x8192 32) (d : FVec F S256x8192 .f32) (q : FVec F S256x3 .f32) (w : FVec F S3x3 .f32) (b : FVec F S3 .f32) (ph : FVec F S8192x3 .bf16) (pl : FVec F S8192x3 .bf16) : k0_pay111 (F := F) q io w b ph pl d (ohV io d) = p1V io q w b ph pl (nextV io d) := rfl
theorem k0_pay112_v (io : IVec S256x8192 32) (d : FVec F S256x8192 .f32) (q : FVec F S256x3 .f32) (w : FVec F S3x3 .f32) (b : FVec F S3 .f32) (ph : FVec F S8192x3 .bf16) (pl : FVec F S8192x3 .bf16) : k0_pay112 (F := F) q io w b ph pl d (ohV io d) = p1C (p1V io q w b ph pl (nextV io d)) := rfl
theorem k0_pay113_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay113 (F := F) q io w b ph pl d (ohV io d) acc = addf acc (redV (p1V io q w b ph pl (nextV io d))) := rfl
theorem k0_pay114_v (io : IVec S256x8192 32) (d : FVec F S256x8192 .f32) (q : FVec F S256x3 .f32) (w : FVec F S3x3 .f32) (b : FVec F S3 .f32) (ph : FVec F S8192x3 .bf16) (pl : FVec F S8192x3 .bf16) : k0_pay114 (F := F) q io w b ph pl d (ohV io d) = mulf (p1V io q w b ph pl (nextV io d)) (p1V io q w b ph pl (nextV io d)) := rfl
theorem k0_pay116_v (io : IVec S256x8192 32) (d : FVec F S256x8192 .f32) : k0_pay116 (F := F) d (ohV io d) = nextV io d := rfl
theorem k0_pay117_v (io : IVec S256x8192 32) (d : FVec F S256x8192 .f32) : k0_pay117 (F := F) io d (ohV io d) = ohV io (nextV io d) := rfl
theorem k0_pay118_v (io : IVec S256x8192 32) (d : FVec F S256x8192 .f32) (fh : FVec F S8192x64 .bf16) (fl : FVec F S8192x64 .bf16) : k0_pay118 (F := F) io fh fl d (ohV io d) = kfV io fh fl (nextV io d) := rfl
theorem k0_pay119_v (io : IVec S256x8192 32) (d : FVec F S256x8192 .f32) (q : FVec F S256x3 .f32) (w : FVec F S3x3 .f32) (b : FVec F S3 .f32) (ph : FVec F S8192x3 .bf16) (pl : FVec F S8192x3 .bf16) : k0_pay119 (F := F) q io w b ph pl d (ohV io d) = p1V io q w b ph pl (nextV io d) := rfl
theorem k0_pay120_v (io : IVec S256x8192 32) (d : FVec F S256x8192 .f32) (q : FVec F S256x3 .f32) (w : FVec F S3x3 .f32) (b : FVec F S3 .f32) (ph : FVec F S8192x3 .bf16) (pl : FVec F S8192x3 .bf16) : k0_pay120 (F := F) q io w b ph pl d (ohV io d) = p1C (p1V io q w b ph pl (nextV io d)) := rfl
theorem k0_pay121_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay121 (F := F) q io w b ph pl d (ohV io d) acc = addf acc (redV (p1V io q w b ph pl (nextV io d))) := rfl
theorem k0_pay122_v (io : IVec S256x8192 32) (d : FVec F S256x8192 .f32) (q : FVec F S256x3 .f32) (w : FVec F S3x3 .f32) (b : FVec F S3 .f32) (ph : FVec F S8192x3 .bf16) (pl : FVec F S8192x3 .bf16) : k0_pay122 (F := F) q io w b ph pl d (ohV io d) = mulf (p1V io q w b ph pl (nextV io d)) (p1V io q w b ph pl (nextV io d)) := rfl
theorem k0_pay124_v (io : IVec S256x8192 32) (d : FVec F S256x8192 .f32) : k0_pay124 (F := F) d (ohV io d) = nextV io d := rfl
theorem k0_pay125_v (io : IVec S256x8192 32) (d : FVec F S256x8192 .f32) : k0_pay125 (F := F) io d (ohV io d) = ohV io (nextV io d) := rfl
theorem k0_pay126_v (io : IVec S256x8192 32) (d : FVec F S256x8192 .f32) (fh : FVec F S8192x64 .bf16) (fl : FVec F S8192x64 .bf16) : k0_pay126 (F := F) io fh fl d (ohV io d) = kfV io fh fl (nextV io d) := rfl
theorem k0_pay127_v (io : IVec S256x8192 32) (d : FVec F S256x8192 .f32) (q : FVec F S256x3 .f32) (w : FVec F S3x3 .f32) (b : FVec F S3 .f32) (ph : FVec F S8192x3 .bf16) (pl : FVec F S8192x3 .bf16) : k0_pay127 (F := F) q io w b ph pl d (ohV io d) = p1V io q w b ph pl (nextV io d) := rfl
theorem k0_pay128_v (io : IVec S256x8192 32) (d : FVec F S256x8192 .f32) (q : FVec F S256x3 .f32) (w : FVec F S3x3 .f32) (b : FVec F S3 .f32) (ph : FVec F S8192x3 .bf16) (pl : FVec F S8192x3 .bf16) : k0_pay128 (F := F) q io w b ph pl d (ohV io d) = p1C (p1V io q w b ph pl (nextV io d)) := rfl
theorem k0_pay129_v (io : IVec S256x8192 32) (d : FVec F S256x8192 .f32) (q : FVec F S256x3 .f32) (w : FVec F S3x3 .f32) (b : FVec F S3 .f32) (ph : FVec F S8192x3 .bf16) (pl : FVec F S8192x3 .bf16) (acc : FVec F S3 .f32) : k0_pay129 (F := F) q io w b ph pl d (ohV io d) acc = addf acc (redV (p1V io q w b ph pl (nextV io d))) := rfl
theorem k0_pay131_v (io : IVec S256x8192 32) (d : FVec F S256x8192 .f32) : k0_pay131 (F := F) io d (ohV io d) = ohV io (nextV io d) := rfl
theorem k0_pay132_v (io : IVec S256x8192 32) (d : FVec F S256x8192 .f32) (fh : FVec F S8192x64 .bf16) (fl : FVec F S8192x64 .bf16) : k0_pay132 (F := F) io fh fl d (ohV io d) = kfV io fh fl (nextV io d) := rfl
theorem k0_pay133_v (io : IVec S256x8192 32) (d : FVec F S256x8192 .f32) (q : FVec F S256x3 .f32) (w : FVec F S3x3 .f32) (b : FVec F S3 .f32) (ph : FVec F S8192x3 .bf16) (pl : FVec F S8192x3 .bf16) : k0_pay133 (F := F) q io w b ph pl d (ohV io d) = p1V io q w b ph pl (nextV io d) := rfl
theorem k0_pay134_v (io : IVec S256x8192 32) (d : FVec F S256x8192 .f32) (q : FVec F S256x3 .f32) (w : FVec F S3x3 .f32) (b : FVec F S3 .f32) (ph : FVec F S8192x3 .bf16) (pl : FVec F S8192x3 .bf16) : k0_pay134 (F := F) q io w b ph pl d (ohV io d) = p1C (p1V io q w b ph pl (nextV io d)) := rfl
theorem k0_pay135_v (io : IVec S256x8192 32) (d : FVec F S256x8192 .f32) (q : FVec F S256x3 .f32) (w : FVec F S3x3 .f32) (b : FVec F S3 .f32) (ph : FVec F S8192x3 .bf16) (pl : FVec F S8192x3 .bf16) : k0_pay135 (F := F) q io w b ph pl d (ohV io d) = redV (p1V io q w b ph pl (nextV io d)) := rfl

end Cert.KernelIdeal.Hand
end
-- ==== Proof.Pick.lean ====
/-
  The nearest elements of a finite family: the first smallest one, the family with it put to plus infinity, and the
  positions a stable sort puts first.
-/
module

public import Idealize.ShloMosaic.Lib.SortFacts
public import Mathlib.Data.EReal.Basic

@[expose] public section

noncomputable section

namespace Cert.Model

open Idealize.ShloMosaic

variable {n : ℕ}

/-- `p` is the first position at which the family is smallest. -/
def IsPick (d : Fin n → EReal) (p : Fin n) : Prop := (∀ j, d p ≤ d j) ∧ ∀ j, d j ≤ d p → p ≤ j

theorem IsPick.eq {d : Fin n → EReal} {p q : Fin n} (hp : IsPick d p) (hq : IsPick d q) : p = q :=
  le_antisymm (hp.2 q (hq.1 p)) (hq.2 p (hp.1 q))

theorem exists_isPick [NeZero n] (d : Fin n → EReal) : ∃ p, IsPick d p := by
  obtain ⟨m, -, hm⟩ := Finset.exists_min_image (Finset.univ : Finset (Fin n)) d ⟨0, Finset.mem_univ _⟩
  obtain ⟨p, hp, hp'⟩ := Finset.exists_min_image (Finset.univ.filter fun j => d j ≤ d m) id ⟨m, by simp⟩
  rw [Finset.mem_filter] at hp
  refine ⟨p, fun j => le_trans hp.2 (hm j (Finset.mem_univ _)), fun j hj => hp' j ?_⟩
  rw [Finset.mem_filter]
  exact ⟨Finset.mem_univ _, le_trans hj hp.2⟩

/-- The first position at which the family is smallest. -/
def pick [NeZero n] (d : Fin n → EReal) : Fin n := (exists_isPick d).choose

theorem pick_spec [NeZero n] (d : Fin n → EReal) : IsPick d (pick d) := (exists_isPick d).choose_spec

theorem pick_eq [NeZero n] {d : Fin n → EReal} {p : Fin n} (h : IsPick d p) : pick d = p := (pick_spec d).eq h

/-- The family with its first smallest element put to plus infinity. -/
def next [NeZero n] (d : Fin n → EReal) : Fin n → EReal := fun j => if j = pick d then ⊤ else d j

/-- The family after `r` rounds. -/
def rounds [NeZero n] (d : Fin n → EReal) : ℕ → Fin n → EReal
  | 0 => d
  | r + 1 => next (rounds d r)

/-- The position round `r` takes. -/
def near [NeZero n] (d : Fin n → EReal) (r : ℕ) : Fin n := pick (rounds d r)

/-- Smaller, or equal and earlier. -/
def lexB (d : Fin n → EReal) (a b : Fin n) : Bool := decide (d a < d b ∨ (d a = d b ∧ a < b))

/-- Smaller. -/
def ltB (d : Fin n → EReal) (a b : Fin n) : Bool := decide (d a < d b)

theorem stableSort_eq_lex (d : Fin n → EReal) : ∀ l : List (Fin n), l.Pairwise (· < ·) →
    stableSort (ltB d) l = stableSort (lexB d) l
  | [], _ => rfl
  | a :: l, h => by
    rw [List.pairwise_cons] at h
    unfold stableSort
    rw [stableSort_eq_lex d l h.2]
    refine insertBefore_congr _ _ _ _ fun b hb => ?_
    have hb' : a < b := h.1 b ((perm_stableSort _ _).mem_iff.mp hb)
    unfold ltB lexB
    have : ¬ (b < a) := not_lt.mpr hb'.le
    simp [this]

theorem sortedFrom_eq_lex (d : Fin n → EReal) : sortedFrom (ltB d) = sortedFrom (lexB d) := by
  have h : sortPositions n (ltB d) = sortPositions n (lexB d) := stableSort_eq_lex d _ (List.pairwise_lt_finRange n)
  funext k
  exact List.get_of_eq h _

theorem lexB_false {d : Fin n → EReal} {a b : Fin n} : lexB d a b = false ↔ d b < d a ∨ (d b = d a ∧ b ≤ a) := by
  unfold lexB
  rw [decide_eq_false_iff_not, not_or, not_and, not_lt]
  constructor
  · rintro ⟨h1, h2⟩
    rcases lt_or_eq_of_le h1 with h | h
    · exact .inl h
    · exact .inr ⟨h, not_lt.mp (h2 h.symm)⟩
  · rintro (h | ⟨h, h'⟩)
    · exact ⟨h.le, fun e => absurd e h.ne'⟩
    · exact ⟨h.le, fun _ => not_lt.mpr h'⟩

/-- A stable sort's later positions hold nothing before its earlier ones. -/
theorem sorted_le (d : Fin n → EReal) {i j : Fin n} (h : i ≤ j) :
    d (sortedFrom (ltB d) i) < d (sortedFrom (ltB d) j) ∨
      (d (sortedFrom (ltB d) i) = d (sortedFrom (ltB d) j) ∧ sortedFrom (ltB d) i ≤ sortedFrom (ltB d) j) := by
  rcases eq_or_lt_of_le h with e | h
  · subst e; exact .inr ⟨rfl, le_refl _⟩
  rw [sortedFrom_eq_lex]
  refine lexB_false.mp (sortedFrom_noInversion (lexB d) (lexB d) ?_ (fun _ _ h => h) ?_ i j h)
  · intro a b hab
    have hab' := of_decide_eq_true hab
    refine lexB_false.mpr ?_
    rcases hab' with h | ⟨h, h'⟩
    · exact .inl h
    · exact .inr ⟨h, h'.le⟩
  · intro a b c hab hbc
    refine lexB_false.mpr ?_
    rcases lexB_false.mp hab with h | ⟨h, h'⟩ <;> rcases lexB_false.mp hbc with k | ⟨k, k'⟩
    · exact .inl (k.trans h)
    · exact .inl (k ▸ h)
    · exact .inl (h ▸ k)
    · exact .inr ⟨k.trans h, k'.trans h'⟩

theorem rounds_eq [NeZero n] (d : Fin n → EReal) (hd : ∀ j, d j ≠ ⊤) : ∀ r : ℕ, r ≤ n →
    rounds d r = fun j => if ∃ s : Fin n, s.val < r ∧ sortedFrom (ltB d) s = j then ⊤ else d j
  | 0, _ => by funext j; simp [rounds]
  | r + 1, hr => by
    have ih := rounds_eq d hd r (by omega)
    have hp : pick (rounds d r) = sortedFrom (ltB d) ⟨r, hr⟩ := by
      apply pick_eq
      have hv : rounds d r (sortedFrom (ltB d) ⟨r, hr⟩) = d (sortedFrom (ltB d) ⟨r, hr⟩) := by
        rw [ih]
        refine if_neg ?_
        rintro ⟨s, hs, e⟩
        have := sortedFrom_injective _ e
        subst this
        exact absurd hs (lt_irrefl _)
      constructor
      · intro j
        rw [hv, ih]
        obtain ⟨s, rfl⟩ := sortedFrom_surjective (ltB d) j
        dsimp only
        split_ifs with h
        · exact le_top
        · have : r ≤ s.val := by
            by_contra hlt
            exact h ⟨s, not_le.mp hlt, rfl⟩
          rcases sorted_le d (i := ⟨r, hr⟩) (j := s) this with h | h
          · exact h.le
          · exact h.1.le
      · intro j hj
        rw [hv, ih] at hj
        obtain ⟨s, rfl⟩ := sortedFrom_surjective (ltB d) j
        dsimp only at hj
        split_ifs at hj with h
        · exact absurd (top_le_iff.mp hj) (hd _)
        · have : r ≤ s.val := by
            by_contra hlt
            exact h ⟨s, not_le.mp hlt, rfl⟩
          rcases sorted_le d (i := ⟨r, hr⟩) (j := s) this with h | h
          · exact absurd h (not_lt.mpr hj)
          · exact h.2
    funext j
    show next (rounds d r) j = _
    unfold next
    rw [hp, ih]
    by_cases hj : j = sortedFrom (ltB d) ⟨r, hr⟩
    · rw [if_pos hj, if_pos ⟨⟨r, hr⟩, Nat.lt_succ_self _, hj.symm⟩]
    · rw [if_neg hj]
      refine if_congr ⟨fun ⟨s, h, e⟩ => ⟨s, Nat.lt_succ_of_lt h, e⟩, fun ⟨s, h, e⟩ => ⟨s, ?_, e⟩⟩ rfl rfl
      rcases Nat.lt_succ_iff_lt_or_eq.mp h with h | h
      · exact h
      · exact absurd (by subst h; exact e.symm) hj

/-- Round `r` takes the position a stable sort puts at `r`. -/
theorem near_eq_sortedFrom [NeZero n] (d : Fin n → EReal) (hd : ∀ j, d j ≠ ⊤) (r : Fin n) :
    near d r.val = sortedFrom (ltB d) r := by
  have ih := rounds_eq d hd r.val r.isLt.le
  apply pick_eq
  have hv : rounds d r.val (sortedFrom (ltB d) r) = d (sortedFrom (ltB d) r) := by
    rw [ih]
    refine if_neg ?_
    rintro ⟨s, hs, e⟩
    have := sortedFrom_injective _ e
    subst this
    exact absurd hs (lt_irrefl _)
  constructor
  · intro j
    rw [hv, ih]
    obtain ⟨s, rfl⟩ := sortedFrom_surjective (ltB d) j
    dsimp only
    split_ifs with h
    · exact le_top
    · have : r ≤ s := by
        by_contra hlt
        exact h ⟨s, not_le.mp hlt, rfl⟩
      rcases sorted_le d this with h | h
      · exact h.le
      · exact h.1.le
  · intro j hj
    rw [hv, ih] at hj
    obtain ⟨s, rfl⟩ := sortedFrom_surjective (ltB d) j
    dsimp only at hj
    split_ifs at hj with h
    · exact absurd (top_le_iff.mp hj) (hd _)
    · have : r ≤ s := by
        by_contra hlt
        exact h ⟨s, not_le.mp hlt, rfl⟩
      rcases sorted_le d this with h | h
      · exact absurd h (not_lt.mpr hj)
      · exact h.2

end Cert.Model
-- ==== Proof.Lane.lean ====
/-
  One round of the neighbour search read at an index: a row's smallest distance, the first column that has it, the
  one-hot row at that column and the distances left.
-/
module

public import proofs.«01_k».proof.Proof.Knn
public import proofs.«01_k».proof.Proof.Pick
public import Idealize.ShloMosaic.Lib.Pointwise
public import Idealize.ShloMosaic.Lib.PlanTiles.Rows

@[expose] public section

noncomputable section

namespace Cert.KernelIdeal.Hand

open Idealize.ShloMosaic Idealize.ShloMosaic.TcCoe Idealize.SL.Sem
open Cert.KernelIdeal Cert.KernelIdeal.Gen

/-- Row `i` of the distances. -/
def lane (d : FVec Ideal S256x8192 .f32) (i : Fin 256) : Fin 8192 → EReal := fun j => d (ix2 i j)

theorem fold_min_pick (f : Fin 8192 → EReal) : Finset.fold min (⊤ : EReal) f Finset.univ = f (Model.pick f) := by
  apply le_antisymm
  · exact (Finset.fold_min_le (f (Model.pick f))).mpr (.inr ⟨Model.pick f, Finset.mem_univ _, le_refl _⟩)
  · exact (Finset.le_fold_min (f (Model.pick f))).mpr ⟨le_top, fun x _ => (Model.pick_spec f).1 x⟩

theorem inf_word : Ideal.ofBits .f32 2139095040#32 = (⊤ : EReal) := by
  simp [Ideal.ofBits, Ideal.ieee]

theorem minV_at (d : FVec Ideal S256x8192 .f32) (i : Fin 256) : minV d (ix1 i) = lane d i (Model.pick (lane d i)) := by
  rw [← fold_min_pick (lane d i)]
  pointwise [minV, inf_word]
  rfl

theorem fold_minsi_nat (s : Finset (Fin 8192)) (g : Fin 8192 → ℕ) (hg : ∀ j, g j < 2 ^ 31) :
    Finset.fold IntOp.minsi (2147483647#32) (fun j => BitVec.ofNat 32 (g j)) s =
      BitVec.ofNat 32 (Finset.fold min 2147483647 g s) ∧ Finset.fold min 2147483647 g s < 2 ^ 31 := by
  induction s using Finset.induction_on with
  | empty => exact ⟨rfl, by simp⟩
  | insert a s ha ih =>
    rw [Finset.fold_insert ha, Finset.fold_insert ha, ih.1]
    refine ⟨?_, lt_of_le_of_lt (min_le_left _ _) (hg a)⟩
    rw [PlanTiles.minsi_word (hg a) ih.2, min_comm]

theorem fold_min_first (f : Fin 8192 → EReal) (m : EReal) (hm : m = f (Model.pick f)) :
    Finset.fold min 2147483647 (fun j : Fin 8192 => if f j ≤ m then j.val else 8192) Finset.univ = (Model.pick f).val := by
  subst hm
  apply le_antisymm
  · exact (Finset.fold_min_le _).mpr (.inr ⟨Model.pick f, Finset.mem_univ _, by rw [if_pos (le_refl _)]⟩)
  · refine (Finset.le_fold_min _).mpr ⟨by have := (Model.pick f).isLt; omega, fun x _ => ?_⟩
    split_ifs with h
    · exact (Model.pick_spec f).2 x h
    · exact (Model.pick f).isLt.le

theorem idxV_at (d : FVec Ideal S256x8192 .f32) (i : Fin 256) :
    idxV ioV d (ix1 i) = BitVec.ofNat 32 (Model.pick (lane d i)).val := by
  rw [← fold_min_first (lane d i) (minV d (ix1 i)) (minV_at d i),
    ← (fold_minsi_nat Finset.univ _ fun j => by split_ifs <;> have := j.isLt <;> omega).1]
  pointwise [idxV, leV, minB, min1, ioV]
  refine congrArg (fun f => Finset.fold IntOp.minsi (2147483647#32) f Finset.univ) (funext fun j => ?_)
  unfold lane
  by_cases h : d (ix2 i j) ≤ minV d (ix1 i)
  · rw [if_pos h, if_pos h]
  · rw [if_neg h, if_neg h]

theorem ohV_at (d : FVec Ideal S256x8192 .f32) (i : Fin 256) (j : Fin 8192) :
    ohV ioV d (ix2 i j) = if j = Model.pick (lane d i) then 1 else 0 := by
  pointwise [ohV, ioV]
  rw [show idxV (iota Kind.tc S256x8192 32 [1] iota_S256x8192_d1_w32) d (ix1 i) = _ from idxV_at d i]
  by_cases h : j = Model.pick (lane d i)
  · subst h
    rw [if_pos rfl]
    have hc : IntOp.cmpi .eq (BitVec.ofNat 32 (Model.pick (lane d i)).val) (BitVec.ofNat 32 (Model.pick (lane d i)).val) = 1#1 := by
      simp [IntOp.cmpi]
    rw [hc]
    show (((BitVec.setWidth 32 1#1).toInt : ℝ) : EReal) = 1
    rw [show (BitVec.setWidth 32 1#1).toInt = 1 by decide]
    simp
  · rw [if_neg h]
    have hn : ¬ BitVec.ofNat 32 j.val = BitVec.ofNat 32 (Model.pick (lane d i)).val := fun e => h (by
      have := congrArg BitVec.toNat e
      rw [BitVec.toNat_ofNat, BitVec.toNat_ofNat] at this
      have h1 := j.isLt
      have h2 := (Model.pick (lane d i)).isLt
      exact Fin.ext (by omega))
    have hc : IntOp.cmpi .eq (BitVec.ofNat 32 j.val) (BitVec.ofNat 32 (Model.pick (lane d i)).val) = 0#1 := by
      show BitVec.ofBool (_ == _) = 0#1
      rw [beq_eq_false_iff_ne.mpr hn]
      rfl
    rw [hc]
    show (((BitVec.setWidth 32 0#1).toInt : ℝ) : EReal) = 0
    rw [show (BitVec.setWidth 32 0#1).toInt = 0 by decide]
    simp

theorem nextV_at (d : FVec Ideal S256x8192 .f32) (i : Fin 256) : lane (nextV ioV d) i = Model.next (lane d i) := by
  funext j
  unfold lane
  pointwise [nextV, gtV, infB, zeroB, inf_word]
  rw [ohV_at]
  unfold Model.next
  show (if 0 < (if j = Model.pick (lane d i) then (1 : EReal) else 0) then (⊤ : EReal) else lane d i j) = if j = Model.pick (lane d i) then ⊤ else lane d i j
  by_cases h : j = Model.pick (lane d i)
  · rw [if_pos h, if_pos h, if_pos zero_lt_one]
  · rw [if_neg h, if_neg h, if_neg (lt_irrefl _)]

theorem kfV_at (fh fl : FVec Ideal S8192x64 .bf16) (d : FVec Ideal S256x8192 .f32) (i : Fin 256) (a : Fin 64) :
    kfV ioV fh fl d (ix4 0 i 0 a) = fh (ix2 (Model.pick (lane d i)) a) + fl (ix2 (Model.pick (lane d i)) a) := by
  pointwise [kfV]
  simp only [ohV_at, ite_mul, one_mul, zero_mul, Finset.sum_ite_eq', Finset.mem_univ, if_true]

/-- The position layer's first linear map, at an index. -/
theorem p1V_at (q : FVec Ideal S256x3 .f32) (w : FVec Ideal S3x3 .f32) (b : FVec Ideal S3 .f32) (ph pl : FVec Ideal S8192x3 .bf16)
    (d : FVec Ideal S256x8192 .f32) (i : Fin 256) (a : Fin 3) :
    p1V ioV q w b ph pl d (ix2 i a) =
      (∑ e : Fin 3, (q (ix2 i e) - (ph (ix2 (Model.pick (lane d i)) e) + pl (ix2 (Model.pick (lane d i)) e))) * w (ix2 e a)) + b (ix1 a) := by
  pointwise [p1V]
  simp only [ohV_at, ite_mul, one_mul, zero_mul, Finset.sum_ite_eq', Finset.mem_univ, if_true]

theorem p1C_at (x : FVec Ideal S256x3 .f32) (i : Fin 256) (a : Fin 3) : p1C x (ix4 0 i 0 a) = x (ix2 i a) := by
  pointwise [p1C]

theorem redV_at (x : FVec Ideal S256x3 .f32) (a : Fin 3) : redV x (ix1 a) = ∑ i : Fin 256, x (ix2 i a) := by
  pointwise [redV]

end Cert.KernelIdeal.Hand
-- ==== Proof.Near.lean ====
/-
  The neighbour search as the kernel computes it: distances, the neighbours' features and the position layer's first
  linear map.
-/
module

public import proofs.«01_k».proof.Proof.Pick
public import proofs.«01_k».proof.Proof.Model

@[expose] public section

noncomputable section

namespace Cert.Model

open Idealize.ShloMosaic

/-- The squared distances of a point from every point, as the square of one plus the square of the other less twice the
    product. -/
def dist (q : Fin 3 → EReal) (p : Fin 8192 → Fin 3 → EReal) (j : Fin 8192) : EReal :=
  (∑ x, q x * q x + ∑ x, p j x * p j x) - Ideal.ofBits .f32 1073741824#32 * ∑ x, q x * p j x

/-- A value as its rounding and what the rounding leaves. -/
def hl (x : EReal) : EReal := x + (x - x)

/-- The position of neighbour `r`. -/
def nb (q : Fin 3 → EReal) (p : Fin 8192 → Fin 3 → EReal) (r : ℕ) : Fin 8192 := near (dist q p) r

/-- The position layer's first linear map of a point less its neighbour. -/
def p1 (q : Fin 3 → EReal) (p : Fin 8192 → Fin 3 → EReal) (w : Fin 3 → Fin 3 → EReal) (b : Fin 3 → EReal) (r : ℕ) (a : Fin 3) : EReal :=
  (∑ e : Fin 3, (q e - hl (p (nb q p r) e)) * w e a) + b a

end Cert.Model
-- ==== Proof.Spec.lean ====
/-
  The whole layer as plain mathematics of its arguments, with the batch statistics taken in either of
  the two ways: from the sums of values and of squares, or from the mean and the mean square deviation.
-/
module

public import proofs.«01_k».proof.Proof.Near
public import proofs.«01_k».proof.Proof.Model

@[expose] public section

noncomputable section

namespace Cert.Model

open Idealize.ShloMosaic
open scoped BigOperators
/-- The arguments, indexed by plain numbers; a weight is indexed by (output, input). -/
structure Args where
  feats : Fin 4 → Fin 8192 → Fin 64 → EReal
  points : Fin 4 → Fin 8192 → Fin 3 → EReal
  wq : Fin 64 → Fin 64 → EReal
  bq : Fin 64 → EReal
  wk : Fin 64 → Fin 64 → EReal
  bk : Fin 64 → EReal
  wv : Fin 64 → Fin 64 → EReal
  bv : Fin 64 → EReal
  wd1 : Fin 3 → Fin 3 → EReal
  bd1 : Fin 3 → EReal
  wd2 : Fin 64 → Fin 3 → EReal
  bd2 : Fin 64 → EReal
  wg1 : Fin 64 → Fin 64 → EReal
  bg1 : Fin 64 → EReal
  wg2 : Fin 64 → Fin 64 → EReal
  bg2 : Fin 64 → EReal
  dg : Fin 3 → EReal
  db : Fin 3 → EReal
  g1g : Fin 64 → EReal
  g1b : Fin 64 → EReal
  g2g : Fin 64 → EReal
  g2b : Fin 64 → EReal

/-- A vector of `n` numbers for every batch, point and neighbour. -/
abbrev Rows (n : ℕ) := Fin 4 → Fin 8192 → Fin 16 → Fin n → EReal

/-- The statistics from the sums: row 0 the mean, row 1 the mean square less the squared mean. -/
def kStat {n : ℕ} (x : Rows n) (r : Fin 2) (d : Fin n) : EReal :=
  if r = 0 then Ideal.div (sums x 0 d) cnt
  else Ideal.div (sums x 1 d) cnt - Ideal.div (sums x 0 d) cnt * Ideal.div (sums x 0 d) cnt

/-- The mean. -/
def mean {n : ℕ} (x : Rows n) (d : Fin n) : EReal :=
  Ideal.div (∑ b, ∑ i, ∑ k, x b i k d) cnt

/-- The statistics by definition: row 0 the mean, row 1 the mean square deviation from it. -/
def rStat {n : ℕ} (x : Rows n) (r : Fin 2) (d : Fin n) : EReal :=
  if r = 0 then mean x d
  else Ideal.div (∑ b, ∑ i, ∑ k, (x b i k d - mean x d) * (x b i k d - mean x d)) cnt

/-- The parameters up to the first attention row. -/
def parA (A : Args) (s : Fin 2 → Fin 3 → EReal) : Par1 where
  ds := s
  wd2 := fun i j => A.wd2 j i
  bd2 := A.bd2
  dg := A.dg
  db := A.db
  wq := fun i j => A.wq j i
  bq := A.bq
  wk := fun i j => A.wk j i
  bk := A.bk

/-- The parameters of the first attention layer. -/
def parB (A : Args) (s : Fin 2 → Fin 64 → EReal) : Par2 where
  s1 := s
  g := A.g1g
  b := A.g1b
  w := fun i j => A.wg1 j i
  c := A.bg1

/-- The parameters of the second attention layer. -/
def parC (A : Args) (s : Fin 2 → Fin 64 → EReal) : Par2 where
  s1 := s
  g := A.g2g
  b := A.g2b
  w := fun i j => A.wg2 j i
  c := A.bg2

/-- The number of the `r`-th nearest neighbour of a point. -/
def nbr (A : Args) (b : Fin 4) (n : Fin 8192) (r : Fin 16) : Fin 8192 :=
  nb (A.points b n) (A.points b) r.val

/-- The neighbours' features through a two part split. -/
def kKf (A : Args) : Rows 64 := fun b n r a => hl (A.feats b (nbr A b n r) a)

/-- The first position layer through a two part split. -/
def kP1 (A : Args) : Rows 3 := fun b n r a =>
  p1 (A.points b n) (A.points b) (fun e a => A.wd1 a e) A.bd1 r.val a

/-- The neighbours' features. -/
def rKf (A : Args) : Rows 64 := fun b n r a => A.feats b (nbr A b n r) a

/-- The first position layer. -/
def rP1 (A : Args) : Rows 3 := fun b n r a =>
  (∑ e, (A.points b n e - A.points b (nbr A b n r) e) * A.wd1 a e) + A.bd1 a

/-- The rows entering the attention layers. -/
def rowsA (A : Args) (s : Fin 2 → Fin 3 → EReal) (kf : Rows 64) (q : Rows 3) : Rows 64 :=
  fun b n k d => g1 (parA A s) (A.feats b n) (kf b n k) (q b n k) d

/-- The rows after the first attention layer. -/
def rowsB (A : Args) (s1 : Fin 2 → Fin 64 → EReal) (x : Rows 64) : Rows 64 :=
  fun b n k d => attn (parB A s1) (x b n k) d

/-- The layer's result. -/
def layer (A : Args) (s : Fin 2 → Fin 3 → EReal) (s1 s2 : Fin 2 → Fin 64 → EReal)
    (kf : Rows 64) (q : Rows 3) (b : Fin 4) (n : Fin 8192) (j : Fin 64) : EReal :=
  out (parA A s) (parB A s1) (parC A s2) (fun i j => A.wv j i) A.bv (A.feats b n) (kf b n) (q b n) j

/-- The statistics of the first position layer, from sums. -/
def kS (A : Args) := kStat (kP1 A)
/-- The rows entering the attention layers, from sums. -/
def kX (A : Args) : Rows 64 := rowsA A (kS A) (kKf A) (kP1 A)
/-- Their statistics, from sums. -/
def kS1 (A : Args) := kStat (kX A)
/-- The rows after the first attention layer, from sums. -/
def kY (A : Args) : Rows 64 := rowsB A (kS1 A) (kX A)
/-- Their statistics, from sums. -/
def kS2 (A : Args) := kStat (kY A)
/-- The result, from sums. -/
def kOut (A : Args) := layer A (kS A) (kS1 A) (kS2 A) (kKf A) (kP1 A)

/-- The statistics of the first position layer, by definition. -/
def rS (A : Args) := rStat (rP1 A)
/-- The rows entering the attention layers, by definition. -/
def rX (A : Args) : Rows 64 := rowsA A (rS A) (rKf A) (rP1 A)
/-- Their statistics, by definition. -/
def rS1 (A : Args) := rStat (rX A)
/-- The rows after the first attention layer, by definition. -/
def rY (A : Args) : Rows 64 := rowsB A (rS1 A) (rX A)
/-- Their statistics, by definition. -/
def rS2 (A : Args) := rStat (rY A)
/-- The result, by definition. -/
def rOut (A : Args) := layer A (rS A) (rS1 A) (rS2 A) (rKf A) (rP1 A)

end Cert.Model
-- ==== Proof.Alg.lean ====
/-
  Finite numbers among the extended reals: what the layers keep finite, and the two ways of taking the batch
  statistics agreeing on finite rows.
-/
module

public import proofs.«01_k».proof.Proof.Spec
public import Idealize.ShloMosaic.PureOps.Ideal.Laws

@[expose] public section

noncomputable section

namespace Cert.Model

open Idealize.ShloMosaic
open scoped BigOperators

/-- A number is finite: it is a real. -/
def Fin' (x : EReal) : Prop := ∃ r : ℝ, x = (r : EReal)

theorem fin_add {x y : EReal} (hx : Fin' x) (hy : Fin' y) : Fin' (x + y) := by
  obtain ⟨a, rfl⟩ := hx; obtain ⟨b, rfl⟩ := hy
  exact ⟨a + b, (EReal.coe_add a b).symm⟩

theorem fin_sub {x y : EReal} (hx : Fin' x) (hy : Fin' y) : Fin' (x - y) := by
  obtain ⟨a, rfl⟩ := hx; obtain ⟨b, rfl⟩ := hy
  exact ⟨a - b, (EReal.coe_sub a b).symm⟩

theorem fin_mul {x y : EReal} (hx : Fin' x) (hy : Fin' y) : Fin' (x * y) := by
  obtain ⟨a, rfl⟩ := hx; obtain ⟨b, rfl⟩ := hy
  exact ⟨a * b, (EReal.coe_mul a b).symm⟩

/-- A finite sum of reals, as an extended real. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem fin_sum {ι : Type} (s : Finset ι) {f : ι → EReal} (h : ∀ i, Fin' (f i)) : Fin' (∑ i ∈ s, f i) := by
  choose g hg using h
  exact ⟨∑ i ∈ s, g i, by rw [coe_sum']; exact Finset.sum_congr rfl fun i _ => hg i⟩

/-- Taking a finite number away from itself and adding the rest back changes nothing. -/
theorem hl_fin {x : EReal} (hx : Fin' x) : hl x = x := by
  obtain ⟨a, rfl⟩ := hx
  rw [hl, ← EReal.coe_sub, ← EReal.coe_add, sub_self, add_zero]

theorem cnt_eq : cnt = ((524288 : ℝ) : EReal) := by
  unfold cnt; simp [Ideal.ofBits, Ideal.ieee]; rw [← EReal.coe_mul]; norm_num

theorem half_fin : Fin' half := by
  unfold half; simp only [Ideal.ofBits, Ideal.ieee]; simp; exact ⟨_, rfl⟩

theorem rsqrt2_fin : Fin' rsqrt2 := by
  unfold rsqrt2; simp only [Ideal.ofBits, Ideal.ieee]; simp; exact ⟨_, by push_cast; rfl⟩

theorem eps_pos : ∃ r : ℝ, 0 < r ∧ eps = (r : EReal) := by
  refine ⟨10995116 * (2:ℝ)^(-40 : ℤ), by positivity, ?_⟩
  unfold eps; simp [Ideal.ofBits, Ideal.ieee]; try norm_num

theorem div_coe (a b : ℝ) (hb : b ≠ 0) : Ideal.div (a : EReal) (b : EReal) = ((a / b : ℝ) : EReal) := by
  rw [Ideal.div, if_neg (by exact_mod_cast hb), ← EReal.coe_inv, ← EReal.coe_mul, div_eq_mul_inv]

theorem div_cnt {x : EReal} (hx : Fin' x) : Fin' (Ideal.div x cnt) := by
  obtain ⟨a, rfl⟩ := hx
  rw [cnt_eq, div_coe _ _ (by norm_num)]; exact ⟨_, rfl⟩

theorem erf_fin (x : EReal) : Fin' (Ideal.erf x) := by
  induction x with
  | bot => exact ⟨-1, by simp⟩
  | top => exact ⟨1, by simp⟩
  | coe r => exact ⟨_, Ideal.erf_coe ..⟩

theorem fin_one : Fin' 1 := ⟨1, by simp⟩

theorem gelu_fin {x : EReal} (hx : Fin' x) : Fin' (gelu x) :=
  fin_mul (fin_mul half_fin hx) (fin_add fin_one (erf_fin _))

theorem lin_fin {n m : ℕ} {W : Fin n → Fin m → EReal} {b : Fin m → EReal} {x : Fin n → EReal} (hW : ∀ i j, Fin' (W i j))
    (hb : ∀ j, Fin' (b j)) (hx : ∀ i, Fin' (x i)) (j : Fin m) : Fin' (lin W b x j) :=
  fin_add (fin_sum _ fun i => fin_mul (hx i) (hW i j)) (hb j)

/-- Normalising a finite number with a finite mean and a variance that is a real and not negative is finite. -/
theorem bn_fin {μ v g b x : EReal} (hμ : Fin' μ) (hv : ∃ r : ℝ, 0 ≤ r ∧ v = (r : EReal)) (hg : Fin' g) (hb : Fin' b)
    (hx : Fin' x) : Fin' (bn μ v g b x) := by
  refine fin_add (fin_mul ?_ hg) hb
  obtain ⟨a, ha⟩ := fin_sub hx hμ
  obtain ⟨r, hr, rfl⟩ := hv
  obtain ⟨e, he, hee⟩ := eps_pos
  rw [ha, hee, ← EReal.coe_add, Ideal.sqrt_coe, if_neg (by linarith),
    div_coe _ _ (Real.sqrt_pos.mpr (by linarith)).ne']
  exact ⟨_, rfl⟩

/-- Statistics that normalise: a finite mean and a real variance that is not negative. -/
structure Good {n : ℕ} (s : Fin 2 → Fin n → EReal) : Prop where
  mean : ∀ d, Fin' (s 0 d)
  var : ∀ d, ∃ r : ℝ, 0 ≤ r ∧ s 1 d = (r : EReal)

theorem act_fin {n : ℕ} {s : Fin 2 → Fin n → EReal} {g b x : Fin n → EReal} (hs : Good s) (hg : ∀ i, Fin' (g i))
    (hb : ∀ i, Fin' (b i)) (hx : ∀ i, Fin' (x i)) (i : Fin n) : Fin' (act s g b x i) :=
  gelu_fin (bn_fin (hs.mean i) (hs.var i) (hg i) (hb i) (hx i))

/-- Every row of a family is finite. -/
def FinRows {n : ℕ} (x : Rows n) : Prop := ∀ b i k d, Fin' (x b i k d)

theorem mean_fin {n : ℕ} {x : Rows n} (hx : FinRows x) (d : Fin n) : Fin' (mean x d) :=
  div_cnt (fin_sum _ fun b => fin_sum _ fun i => fin_sum _ fun k => hx b i k d)

theorem rStat_good {n : ℕ} {x : Rows n} (hx : FinRows x) : Good (rStat x) where
  mean d := by rw [rStat, if_pos rfl]; exact mean_fin hx d
  var d := by
    rw [rStat, if_neg (by decide)]
    have h : ∀ b i k, ∃ r : ℝ, x b i k d - mean x d = (r : EReal) := fun b i k => fin_sub (hx b i k d) (mean_fin hx d)
    choose y hy using h
    refine ⟨(∑ b, ∑ i, ∑ k, y b i k * y b i k) / 524288, ?_, ?_⟩
    · exact div_nonneg (Finset.sum_nonneg fun b _ => Finset.sum_nonneg fun i _ => Finset.sum_nonneg fun k _ =>
        mul_self_nonneg _) (by norm_num)
    · rw [← div_coe _ _ (by norm_num), ← cnt_eq]
      simp only [hy, coe_sum', EReal.coe_mul]

/-- Over the reals the mean square deviation is the mean square less the squared mean. -/
theorem var_real {ι : Type} [Fintype ι] (y : ι → ℝ) (N : ℝ) (hN : N ≠ 0) (hc : (Fintype.card ι : ℝ) = N) :
    (∑ i, (y i - (∑ j, y j) / N) * (y i - (∑ j, y j) / N)) / N
      = (∑ i, y i * y i) / N - (∑ j, y j) / N * ((∑ j, y j) / N) := by
  set m := (∑ j, y j) / N with hm
  have hs : ∑ j, y j = N * m := by rw [hm]; field_simp
  have : ∑ i, (y i - m) * (y i - m) = (∑ i, y i * y i) - N * (m * m) := by
    have e : ∀ i, (y i - m) * (y i - m) = y i * y i - 2 * m * y i + m * m := fun i => by ring
    simp only [e, Finset.sum_add_distrib, Finset.sum_sub_distrib, ← Finset.mul_sum, Finset.sum_const, Finset.card_univ,
      nsmul_eq_mul, hc, hs]
    ring
  rw [this]; field_simp

/-- On finite rows the two ways of taking the statistics agree. -/
theorem stat_eq {n : ℕ} {x : Rows n} (hx : FinRows x) : kStat x = rStat x := by
  funext r d
  have h0 : sums x 0 d = ∑ b, ∑ i, ∑ k, x b i k d := by simp [sums, sel]
  have h1 : sums x 1 d = ∑ b, ∑ i, ∑ k, x b i k d * x b i k d := by simp [sums, sel]
  have hxx : ∀ b i k, ∃ r : ℝ, x b i k d = (r : EReal) := fun b i k => hx b i k d
  choose y hy using hxx
  by_cases hr : r = 0
  · subst hr; simp only [kStat, rStat, if_true, mean, h0]
  · simp only [kStat, rStat, if_neg hr, mean, h0, h1, hy, cnt_eq]
    simp only [← EReal.coe_mul, ← coe_sum']
    simp only [div_coe _ _ (show (524288 : ℝ) ≠ 0 by norm_num), ← EReal.coe_mul, ← EReal.coe_sub, ← coe_sum']
    have := var_real (ι := Fin 4 × Fin 8192 × Fin 16) (fun t => y t.1 t.2.1 t.2.2) 524288 (by norm_num)
      (by simp only [Fintype.card_prod, Fintype.card_fin]; norm_num)
    simp only [Fintype.sum_prod_type] at this
    rw [this]

/-- The arguments the statistics pass through are finite. -/
structure Args.Finite (A : Args) : Prop where
  feats : ∀ b n a, Fin' (A.feats b n a)
  points : ∀ b n a, Fin' (A.points b n a)
  wq : ∀ i j, Fin' (A.wq i j)
  bq : ∀ i, Fin' (A.bq i)
  wk : ∀ i j, Fin' (A.wk i j)
  bk : ∀ i, Fin' (A.bk i)
  wd1 : ∀ i j, Fin' (A.wd1 i j)
  bd1 : ∀ i, Fin' (A.bd1 i)
  wd2 : ∀ i j, Fin' (A.wd2 i j)
  bd2 : ∀ i, Fin' (A.bd2 i)
  wg1 : ∀ i j, Fin' (A.wg1 i j)
  bg1 : ∀ i, Fin' (A.bg1 i)
  dg : ∀ i, Fin' (A.dg i)
  db : ∀ i, Fin' (A.db i)
  g1g : ∀ i, Fin' (A.g1g i)
  g1b : ∀ i, Fin' (A.g1b i)

variable {A : Args} (h : A.Finite)
include h

theorem kKf_eq : kKf A = rKf A := by
  funext b n r a; exact hl_fin (h.feats ..)

theorem kP1_eq : kP1 A = rP1 A := by
  funext b n r a
  simp only [kP1, rP1, p1, nbr]
  congr 1
  exact Finset.sum_congr rfl fun e _ => by rw [hl_fin (h.points ..)]

theorem rP1_fin : FinRows (rP1 A) := fun b n r a =>
  fin_add (fin_sum _ fun e => fin_mul (fin_sub (h.points ..) (h.points ..)) (h.wd1 ..)) (h.bd1 a)

theorem rX_fin : FinRows (rX A) := fun b n k d =>
  fin_add (fin_sub (lin_fin (fun i j => h.wq j i) h.bq (fun i => h.feats ..) d)
    (lin_fin (fun i j => h.wk j i) h.bk (fun i => h.feats ..) d))
    (lin_fin (fun i j => h.wd2 j i) h.bd2
      (act_fin (rStat_good (rP1_fin h)) h.dg h.db (fun i => rP1_fin h b n k i)) d)

theorem rY_fin : FinRows (rY A) := fun b n k d =>
  lin_fin (fun i j => h.wg1 j i) h.bg1 (act_fin (rStat_good (rX_fin h)) h.g1g h.g1b (fun i => rX_fin h b n k i)) d

/-- The result from sums is the result by definition. -/
theorem kOut_eq : kOut A = rOut A := by
  have hS : kS A = rS A := by rw [kS, rS, kP1_eq h]; exact stat_eq (rP1_fin h)
  have hX : kX A = rX A := by rw [kX, rX, hS, kKf_eq h, kP1_eq h]
  have hS1 : kS1 A = rS1 A := by rw [kS1, rS1, hX]; exact stat_eq (rX_fin h)
  have hY : kY A = rY A := by rw [kY, rY, hS1, hX]
  have hS2 : kS2 A = rS2 A := by rw [kS2, rS2, hY]; exact stat_eq (rY_fin h)
  rw [kOut, rOut, hS, hS1, hS2, kKf_eq h, kP1_eq h]

/-- The distances are finite, so none is the top. -/
theorem dist_ne_top (b : Fin 4) (n j : Fin 8192) : dist (A.points b n) (A.points b) j ≠ ⊤ := by
  have t : Fin' (Ideal.ofBits .f32 1073741824#32) := by
    simp only [Ideal.ofBits, Ideal.ieee]; simp; exact ⟨_, (EReal.coe_mul _ _).symm⟩
  obtain ⟨r, hr⟩ : Fin' (dist (A.points b n) (A.points b) j) :=
    fin_sub (fin_add (fin_sum _ fun e => fin_mul (h.points ..) (h.points ..))
      (fin_sum _ fun e => fin_mul (h.points ..) (h.points ..)))
      (fin_mul t (fin_sum _ fun e => fin_mul (h.points ..) (h.points ..)))
  rw [hr]; exact EReal.coe_ne_top r

end Cert.Model
-- ==== Proof.Pre.lean ====
/-
  The precondition read: every entry of the arrays it names is a real number.
-/
module

public import proofs.«01_k».proof.Pre_finite
public import proofs.«01_k».proof.Proof.Lane
public import proofs.«01_k».proof.Proof.Alg

@[expose] public section

noncomputable section

namespace Cert.Pre_finite

open Idealize.ShloMosaic

/-- The function's shape relations. -/
instance facts : Facts where
  bcast_S_S4x8192x64 := by decide
  reducesTo_S4x8192x64_S_d0_1_2 := by decide
  h_S_ := by decide
  bcast_S_S4x8192x3 := by decide
  reducesTo_S4x8192x3_S_d0_1_2 := by decide
  bcast_S_S64x64 := by decide
  reducesTo_S64x64_S_d0_1 := by decide
  bcast_S_S64 := by decide
  reducesTo_S64_S_d0 := by decide
  bcast_S_S3x3 := by decide
  reducesTo_S3x3_S_d0_1 := by decide
  bcast_S_S3 := by decide
  reducesTo_S3_S_d0 := by decide
  bcast_S_S64x3 := by decide
  reducesTo_S64x3_S_d0_1 := by decide

/-- A conjunction of two bits is one when both are. -/
theorem and_bit (a b : BitVec 1) (h : IntOp.andi a b = 1#1) : a = 1#1 ∧ b = 1#1 := by
  revert a b
  decide

/-- A conjunction of two bit arrays is all ones when both are. -/
theorem and_split {x y : IVec S_ 1} (h : andi x y = fun _ => 1#1) : x = (fun _ => 1#1) ∧ y = fun _ => 1#1 :=
  ⟨funext fun i => (and_bit _ _ (congrFun h i)).1, funext fun i => (and_bit _ _ (congrFun h i)).2⟩

/-- A running conjunction that ends at one has met only ones. -/
theorem all_of_foldl {ι : Type} (g : ι → BitVec 1) (l : List ι) (a : BitVec 1)
    (h : l.foldl (fun r n => IntOp.andi r (g n)) a = 1#1) : a = 1#1 ∧ ∀ n ∈ l, g n = 1#1 := by
  induction l generalizing a with
  | nil => exact ⟨h, fun n hn => absurd hn (List.not_mem_nil)⟩
  | cons n l ih =>
    obtain ⟨h1, h2⟩ := ih _ h
    obtain ⟨h3, h4⟩ := and_bit _ _ h1
    refine ⟨h3, fun k hk => ?_⟩
    rcases List.mem_cons.1 hk with rfl | hk
    · exact h4
    · exact h2 k hk

/-- A number whose absolute value is less than infinity is a real. -/
theorem fin_of_abs (x : EReal) (h : FloatOps.cmpf (F := Ideal) (φ := .f32) .olt (FloatOps.absf (F := Ideal) (φ := .f32) x)
    (Ideal.ofBits .f32 0x7F800000#32) = 1#1) : Cert.Model.Fin' x := by
  have e : Ideal.ofBits .f32 0x7F800000#32 = (⊤ : EReal) := Cert.KernelIdeal.Hand.inf_word
  rw [e] at h
  induction x with
  | bot =>
    have h' : BitVec.ofBool (decide (max (⊥ : EReal) (-⊥) < ⊤)) = 1#1 := h
    simp at h'
  | top =>
    have h' : BitVec.ofBool (decide (max (⊤ : EReal) (-⊤) < ⊤)) = 1#1 := h
    simp at h'
  | coe r => exact ⟨r, rfl⟩

/-- An array the check passes has only real entries. -/
theorem fin_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu
      = fun _ => 1#1) (i : s.Idx) : Cert.Model.Fin' (x i) := by
  have h0 := congrFun h (fun a => a.elim0)
  have h1 := (all_of_foldl _ _ _ h0).2 (s.rowMajor i) (List.mem_filter.2 ⟨List.mem_finRange _, decide_eq_true (funext fun a => a.elim0)⟩)
  rw [Equiv.symm_apply_apply] at h1
  exact fin_of_abs _ h1

/-- The precondition's arrays have only real entries. -/
theorem reads (a0 : FVec Ideal S4x8192x64 .f32) (a1 : FVec Ideal S4x8192x3 .f32) (a2 : FVec Ideal S64x64 .f32) (a3 : FVec Ideal S64 .f32) (a4 : FVec Ideal S64x64 .f32) (a5 : FVec Ideal S64 .f32) (a6 : FVec Ideal S64x64 .f32) (a7 : FVec Ideal S64 .f32) (a8 : FVec Ideal S3x3 .f32) (a9 : FVec Ideal S3 .f32) (a10 : FVec Ideal S64x3 .f32) (a11 : FVec Ideal S64 .f32) (a12 : FVec Ideal S64x64 .f32) (a13 : FVec Ideal S64 .f32) (a14 : FVec Ideal S64x64 .f32) (a15 : FVec Ideal S64 .f32) (a16 : FVec Ideal S3 .f32) (a17 : FVec Ideal S3 .f32) (a18 : FVec Ideal S64 .f32) (a19 : FVec Ideal S64 .f32) (a20 : FVec Ideal S64 .f32) (a21 : FVec Ideal S64 .f32)
    (h : fn (F := Ideal) a0 a1 a2 a3 a4 a5 a6 a7 a8 a9 a10 a11 a12 a13 a14 a15 a16 a17 a18 a19 a20 a21 = fun _ => 1#1) :
    (∀ i, Cert.Model.Fin' (a0 i))
      ∧ (∀ i, Cert.Model.Fin' (a1 i))
      ∧ (∀ i, Cert.Model.Fin' (a2 i))
      ∧ (∀ i, Cert.Model.Fin' (a3 i))
      ∧ (∀ i, Cert.Model.Fin' (a4 i))
      ∧ (∀ i, Cert.Model.Fin' (a5 i))
      ∧ (∀ i, Cert.Model.Fin' (a8 i))
      ∧ (∀ i, Cert.Model.Fin' (a9 i))
      ∧ (∀ i, Cert.Model.Fin' (a10 i))
      ∧ (∀ i, Cert.Model.Fin' (a11 i))
      ∧ (∀ i, Cert.Model.Fin' (a12 i))
      ∧ (∀ i, Cert.Model.Fin' (a13 i))
      ∧ (∀ i, Cert.Model.Fin' (a16 i))
      ∧ (∀ i, Cert.Model.Fin' (a17 i))
      ∧ (∀ i, Cert.Model.Fin' (a18 i))
      ∧ (∀ i, Cert.Model.Fin' (a19 i)) := by
  obtain ⟨h, r19⟩ := and_split h
  obtain ⟨h, r18⟩ := and_split h
  obtain ⟨h, r17⟩ := and_split h
  obtain ⟨h, r16⟩ := and_split h
  obtain ⟨h, r13⟩ := and_split h
  obtain ⟨h, r12⟩ := and_split h
  obtain ⟨h, r11⟩ := and_split h
  obtain ⟨h, r10⟩ := and_split h
  obtain ⟨h, r9⟩ := and_split h
  obtain ⟨h, r8⟩ := and_split h
  obtain ⟨h, r5⟩ := and_split h
  obtain ⟨h, r4⟩ := and_split h
  obtain ⟨h, r3⟩ := and_split h
  obtain ⟨h, r2⟩ := and_split h
  obtain ⟨h, r1⟩ := and_split h
  exact ⟨fin_of_all a0 _ _ _ h, fin_of_all a1 _ _ _ r1, fin_of_all a2 _ _ _ r2, fin_of_all a3 _ _ _ r3, fin_of_all a4 _ _ _ r4, fin_of_all a5 _ _ _ r5, fin_of_all a8 _ _ _ r8, fin_of_all a9 _ _ _ r9, fin_of_all a10 _ _ _ r10, fin_of_all a11 _ _ _ r11, fin_of_all a12 _ _ _ r12, fin_of_all a13 _ _ _ r13, fin_of_all a16 _ _ _ r16, fin_of_all a17 _ _ _ r17, fin_of_all a18 _ _ _ r18, fin_of_all a19 _ _ _ r19⟩

end Cert.Pre_finite
end
-- ==== Proof.Hosts.lean ====
/-
  What the host operations between the calls leave in the calls' arguments, read entry by entry.
-/
module

public import proofs.«01_k».proof.Proof.Frame.Fold0
public import proofs.«01_k».proof.Proof.Pay3
public import proofs.«01_k».proof.Proof.Spec
public import Idealize.ShloMosaic.Lib.Pointwise

@[expose] public section

noncomputable section

namespace Cert.KernelIdeal.Hand

open Idealize.ShloMosaic Idealize.ShloMosaic.TcCoe Idealize.ShloMosaic.Tactic
open Cert.KernelIdeal.Gen

/-- The contents of a device's buffers. -/
abbrev Cont := Valuation τ sig (Elt Ideal)

/-- The statistics a host stretch makes of the sums a call leaves. -/
def statOf {n : ℕ} (x : Fin 2 → Fin n → EReal) (r : Fin 2) (d : Fin n) : EReal :=
  if r = 0 then Ideal.div (x 0 d) Model.cnt
  else Ideal.div (x 1 d) Model.cnt - Ideal.div (x 0 d) Model.cnt * Ideal.div (x 0 d) Model.cnt

variable (X : Cont)

theorem h0_v0 : mat (StableHlo.after hostOps0 X (Proc.devRef .tc main_v0) : Vec Ideal S64x64 .f32)
    = fun i j => (X (Proc.devRef .tc main_arg2) : Vec Ideal S64x64 .f32) (ix2 j i) := by
  funext i j
  after_results
  pointwise <;> rfl

theorem h0_v1 : mat (StableHlo.after hostOps0 X (Proc.devRef .tc main_v1) : Vec Ideal S64x64 .f32)
    = fun i j => (X (Proc.devRef .tc main_arg4) : Vec Ideal S64x64 .f32) (ix2 j i) := by
  funext i j
  after_results
  pointwise <;> rfl

theorem h0_v2 : mat (StableHlo.after hostOps0 X (Proc.devRef .tc main_v2) : Vec Ideal S64x64 .f32)
    = fun i j => (X (Proc.devRef .tc main_arg6) : Vec Ideal S64x64 .f32) (ix2 j i) := by
  funext i j
  after_results
  pointwise <;> rfl

theorem h0_v3 : mat (StableHlo.after hostOps0 X (Proc.devRef .tc main_v3) : Vec Ideal S3x3 .f32)
    = fun i j => (X (Proc.devRef .tc main_arg8) : Vec Ideal S3x3 .f32) (ix2 j i) := by
  funext i j
  after_results
  pointwise <;> rfl

theorem h0_v4 : mat (StableHlo.after hostOps0 X (Proc.devRef .tc main_v4) : Vec Ideal S3x64 .f32)
    = fun i j => (X (Proc.devRef .tc main_arg10) : Vec Ideal S64x3 .f32) (ix2 j i) := by
  funext i j
  after_results
  pointwise <;> rfl

theorem h0_v5 : mat (StableHlo.after hostOps0 X (Proc.devRef .tc main_v5) : Vec Ideal S64x64 .f32)
    = fun i j => (X (Proc.devRef .tc main_arg12) : Vec Ideal S64x64 .f32) (ix2 j i) := by
  funext i j
  after_results
  pointwise <;> rfl

theorem h0_v6 : mat (StableHlo.after hostOps0 X (Proc.devRef .tc main_v6) : Vec Ideal S64x64 .f32)
    = fun i j => (X (Proc.devRef .tc main_arg14) : Vec Ideal S64x64 .f32) (ix2 j i) := by
  funext i j
  after_results
  pointwise <;> rfl

theorem h0_v7 : row (StableHlo.after hostOps0 X (Proc.devRef .tc main_v7) : Vec Ideal S1x3 .f32)
    = fun i => (X (Proc.devRef .tc main_arg9) : Vec Ideal S3 .f32) (ix1 i) := by
  funext i
  after_results
  pointwise <;> rfl

theorem h1_v25 : mat (StableHlo.after hostOps1 X (Proc.devRef .tc main_v25) : Vec Ideal S2x3 .f32)
    = statOf (mat (X (Proc.devRef .tc main_v8_2) : Vec Ideal S2x3 .f32)) := by
  funext r d
  after_results
  fin_cases r
  · pointwise [statOf] <;> rfl
  · pointwise [statOf] <;> rfl

theorem h1_v26 : row (StableHlo.after hostOps1 X (Proc.devRef .tc main_v26) : Vec Ideal S1x64 .f32)
    = fun i => (X (Proc.devRef .tc main_arg11) : Vec Ideal S64 .f32) (ix1 i) := by
  funext i
  after_results
  pointwise <;> rfl

theorem h1_v27 : row (StableHlo.after hostOps1 X (Proc.devRef .tc main_v27) : Vec Ideal S1x3 .f32)
    = fun i => (X (Proc.devRef .tc main_arg16) : Vec Ideal S3 .f32) (ix1 i) := by
  funext i
  after_results
  pointwise <;> rfl

theorem h1_v28 : row (StableHlo.after hostOps1 X (Proc.devRef .tc main_v28) : Vec Ideal S1x3 .f32)
    = fun i => (X (Proc.devRef .tc main_arg17) : Vec Ideal S3 .f32) (ix1 i) := by
  funext i
  after_results
  pointwise <;> rfl

theorem h1_v29 : row (StableHlo.after hostOps1 X (Proc.devRef .tc main_v29) : Vec Ideal S1x64 .f32)
    = fun i => (X (Proc.devRef .tc main_arg3) : Vec Ideal S64 .f32) (ix1 i) := by
  funext i
  after_results
  pointwise <;> rfl

theorem h1_v30 : row (StableHlo.after hostOps1 X (Proc.devRef .tc main_v30) : Vec Ideal S1x64 .f32)
    = fun i => (X (Proc.devRef .tc main_arg5) : Vec Ideal S64 .f32) (ix1 i) := by
  funext i
  after_results
  pointwise <;> rfl

theorem h2_v48 : mat (StableHlo.after hostOps2 X (Proc.devRef .tc main_v48) : Vec Ideal S2x64 .f32)
    = statOf (mat (X (Proc.devRef .tc main_v31) : Vec Ideal S2x64 .f32)) := by
  funext r d
  after_results
  fin_cases r
  · pointwise [statOf] <;> rfl
  · pointwise [statOf] <;> rfl

theorem h2_v49 : row (StableHlo.after hostOps2 X (Proc.devRef .tc main_v49) : Vec Ideal S1x64 .f32)
    = fun i => (X (Proc.devRef .tc main_arg18) : Vec Ideal S64 .f32) (ix1 i) := by
  funext i
  after_results
  pointwise <;> rfl

theorem h2_v50 : row (StableHlo.after hostOps2 X (Proc.devRef .tc main_v50) : Vec Ideal S1x64 .f32)
    = fun i => (X (Proc.devRef .tc main_arg19) : Vec Ideal S64 .f32) (ix1 i) := by
  funext i
  after_results
  pointwise <;> rfl

theorem h2_v51 : row (StableHlo.after hostOps2 X (Proc.devRef .tc main_v51) : Vec Ideal S1x64 .f32)
    = fun i => (X (Proc.devRef .tc main_arg13) : Vec Ideal S64 .f32) (ix1 i) := by
  funext i
  after_results
  pointwise <;> rfl

theorem h3_v69 : mat (StableHlo.after hostOps3 X (Proc.devRef .tc main_v69) : Vec Ideal S2x64 .f32)
    = statOf (mat (X (Proc.devRef .tc main_v52) : Vec Ideal S2x64 .f32)) := by
  funext r d
  after_results
  fin_cases r
  · pointwise [statOf] <;> rfl
  · pointwise [statOf] <;> rfl

theorem h3_v70 : row (StableHlo.after hostOps3 X (Proc.devRef .tc main_v70) : Vec Ideal S1x64 .f32)
    = fun i => (X (Proc.devRef .tc main_arg20) : Vec Ideal S64 .f32) (ix1 i) := by
  funext i
  after_results
  pointwise <;> rfl

theorem h3_v71 : row (StableHlo.after hostOps3 X (Proc.devRef .tc main_v71) : Vec Ideal S1x64 .f32)
    = fun i => (X (Proc.devRef .tc main_arg21) : Vec Ideal S64 .f32) (ix1 i) := by
  funext i
  after_results
  pointwise <;> rfl

theorem h3_v72 : row (StableHlo.after hostOps3 X (Proc.devRef .tc main_v72) : Vec Ideal S1x64 .f32)
    = fun i => (X (Proc.devRef .tc main_arg15) : Vec Ideal S64 .f32) (ix1 i) := by
  funext i
  after_results
  pointwise <;> rfl

theorem h3_v73 : row (StableHlo.after hostOps3 X (Proc.devRef .tc main_v73) : Vec Ideal S1x64 .f32)
    = fun i => (X (Proc.devRef .tc main_arg7) : Vec Ideal S64 .f32) (ix1 i) := by
  funext i
  after_results
  pointwise <;> rfl

end Cert.KernelIdeal.Hand
end
-- ==== Proof.Blk0.lean ====
/-
  The first call's blocks: sixteen rounds of the neighbour search over one block of points.
-/
module

public import proofs.«01_k».proof.Proof.Lane
public import proofs.«01_k».proof.Proof.Near
public import proofs.«01_k».proof.Proof.Gen.KernelIdeal.Frame.Region0
public import Idealize.ShloMosaic.Lib.Pipeline.ValueKit

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

/-- The distances left after `r` rounds. -/
def dV (d : FVec Ideal S256x8192 .f32) : ℕ → FVec Ideal S256x8192 .f32
  | 0 => d
  | r + 1 => nextV ioV (dV d r)

theorem dV_lane (d : FVec Ideal S256x8192 .f32) (i : Fin 256) : ∀ r, lane (dV d r) i = Model.rounds (lane d i) r
  | 0 => rfl
  | r + 1 => by
    show lane (nextV ioV (dV d r)) i = Model.next (Model.rounds (lane d i) r)
    rw [nextV_at, dV_lane d i r]

/-- The running sum of the rounds' row sums. -/
def accV (f : ℕ → FVec Ideal S256x3 .f32) (z : FVec Ideal S3 .f32) : ℕ → FVec Ideal S3 .f32
  | 0 => z
  | r + 1 => addf (accV f z r) (redV (f r))

theorem accV_at (f : ℕ → FVec Ideal S256x3 .f32) (z : FVec Ideal S3 .f32) (a : Fin 3) : ∀ r,
    accV f z r (ix1 a) = z (ix1 a) + ∑ k ∈ Finset.range r, ∑ i : Fin 256, f k (ix2 i a)
  | 0 => by simp [accV]
  | r + 1 => by
    show accV f z r (ix1 a) + redV (f r) (ix1 a) = _
    rw [accV_at f z a r, redV_at, Finset.sum_range_succ, add_assoc]

theorem k0_pay3_at (x : Vec Ideal S1x8192x3 .f32) (j : Fin 8192) (a : Fin 3) : k0_pay3 x (ix2 j a) = x (ix3 0 j a) := by
  pointwise [k0_pay3]
theorem k0_pay4_at (x : Vec Ideal S1x8192x64 .f32) (j : Fin 8192) (a : Fin 64) : k0_pay4 x (ix2 j a) = x (ix3 0 j a) := by
  pointwise [k0_pay4]
theorem k0_pay5_at (x : Vec Ideal S1x256x3 .f32) (j : Fin 256) (a : Fin 3) : k0_pay5 x (ix2 j a) = x (ix3 0 j a) := by
  pointwise [k0_pay5]
theorem k0_pay7_at (x : Vec Ideal S3x3 .f32) (e a : Fin 3) : k0_pay7 x (ix2 e a) = x (ix2 e a) := by
  pointwise [k0_pay7]
theorem k0_pay8_at (x : Vec Ideal S1x3 .f32) (a : Fin 3) : k0_pay8 x (ix1 a) = x (ix2 0 a) := by
  pointwise [k0_pay8]
theorem k0_pay13_at (a : Fin 3) : k0_pay13 (F := Ideal) (ix1 a) = 0 := by
  pointwise [k0_pay13]
theorem k0_pay14_at (a : Fin 3) : k0_pay14 (F := Ideal) (ix1 a) = 0 := by
  pointwise [k0_pay14]
theorem k0_pay1_at (r : Fin 2) (a : Fin 3) : k0_pay1 (F := Ideal) (ix2 r a) = 0 := by
  pointwise [k0_pay1]

theorem k0_pay2_at0 (u w v : FVec Ideal S3 .f32) (p : FVec Ideal S256x3 .f32) (acc : Vec Ideal S2x3 .f32) (a : Fin 3) :
    k0_pay2 u w p v acc (ix2 0 a) = acc (ix2 0 a) + (u (ix1 a) + v (ix1 a)) := by
  pointwise [k0_pay2]

theorem k0_pay2_at1 (u w v : FVec Ideal S3 .f32) (p : FVec Ideal S256x3 .f32) (acc : Vec Ideal S2x3 .f32) (a : Fin 3) :
    k0_pay2 u w p v acc (ix2 1 a) = acc (ix2 1 a) + (w (ix1 a) + ∑ i : Fin 256, p (ix2 i a) * p (ix2 i a)) := by
  pointwise [k0_pay2]

/-- The distances of a block's row. -/
theorem lane6 (x0 : Vec Ideal S1x8192x3 .f32) (x2 : Vec Ideal S1x256x3 .f32) (i : Fin 256) :
    lane (k0_pay6 x0 x2) i = Model.dist (fun e => x2 (ix3 0 i e)) (fun j e => x0 (ix3 0 j e)) := by
  funext j
  unfold lane
  pointwise [k0_pay6]
  simp only [k0_pay3_at, k0_pay5_at]
  rfl

/-- Round `r`'s row of neighbours' features. -/
def kfB (x0 : Vec Ideal S1x8192x3 .f32) (x1 : Vec Ideal S1x8192x64 .f32) (x2 : Vec Ideal S1x256x3 .f32) (r : ℕ) : FVec Ideal S1x256x1x64 .f32 :=
  kfV ioV (k0_pay9 x1) (k0_pay10 x1) (dV (k0_pay6 x0 x2) r)

theorem kfB_at (x0 : Vec Ideal S1x8192x3 .f32) (x1 : Vec Ideal S1x8192x64 .f32) (x2 : Vec Ideal S1x256x3 .f32) (r : ℕ) (i : Fin 256) (a : Fin 64) :
    kfB x0 x1 x2 r (ix4 0 i 0 a) = Model.hl (x1 (ix3 0 (Model.nb (fun e => x2 (ix3 0 i e)) (fun j e => x0 (ix3 0 j e)) r) a)) := by
  unfold kfB Model.nb Model.near
  rw [kfV_at, dV_lane, lane6]
  pointwise [k0_pay9, k0_pay10]
  simp only [k0_pay4_at]
  rfl

/-- Round `r`'s rows of the position layer's first linear map. -/
def p1B (x0 : Vec Ideal S1x8192x3 .f32) (x2 : Vec Ideal S1x256x3 .f32) (x3 : Vec Ideal S3x3 .f32) (x4 : Vec Ideal S1x3 .f32) (r : ℕ) : FVec Ideal S256x3 .f32 :=
  p1V ioV (k0_pay5 x2) (k0_pay7 x3) (k0_pay8 x4) (k0_pay11 x0) (k0_pay12 x0) (dV (k0_pay6 x0 x2) r)

theorem p1B_at (x0 : Vec Ideal S1x8192x3 .f32) (x2 : Vec Ideal S1x256x3 .f32) (x3 : Vec Ideal S3x3 .f32) (x4 : Vec Ideal S1x3 .f32) (r : ℕ) (i : Fin 256) (a : Fin 3) :
    p1B x0 x2 x3 x4 r (ix2 i a) = Model.p1 (fun e => x2 (ix3 0 i e)) (fun j e => x0 (ix3 0 j e)) (fun e a => x3 (ix2 e a)) (fun a => x4 (ix2 0 a)) r a := by
  unfold p1B Model.p1 Model.nb Model.near
  rw [p1V_at, dV_lane, lane6, k0_pay8_at]
  simp only [k0_pay7_at]
  refine congrArg (· + x4 (ix2 0 a)) (Finset.sum_congr rfl fun e _ => congrArg (· * x3 (ix2 e a)) ?_)
  rw [k0_pay5_at]
  refine congrArg (x2 (ix3 0 i e) - ·) ?_
  pointwise [k0_pay11, k0_pay12]
  simp only [k0_pay3_at]
  rfl

/-- A piece of the neighbours' features at its own place. -/
theorem tile5 (f : ℕ → FVec Ideal S1x256x1x64 .f32) (k : ℕ) (i : Fin 256) (r : Fin 16) (a : Fin 64) :
    View.TileAt (Val := Elt Ideal) (S := S1x256x16x64) (e := .f32) (ix4 0 i r a) ![0, 0, k, 0] ![1, 256, 1, 64] (f k) (f r.val (ix4 0 i 0 a)) := by
  intro x hx
  have h1 : i.val = 0 + (x 1).val := hx 1
  have h2 : r.val = k + (x 2).val := hx 2
  have h3 : a.val = 0 + (x 3).val := hx 3
  have h2' : (x 2).val < 1 := (x 2).isLt
  have hk : k = r.val := by omega
  subst hk
  refine congrArg (f r.val) ?_
  refine (eq_ix4 (n0 := 1) (n1 := 256) (n2 := 1) (n3 := 64) x).trans ?_
  have e0 : x 0 = (0 : Fin 1) := Subsingleton.elim (α := Fin 1) _ _
  have e1 : x 1 = i := Fin.ext (by omega)
  have e2 : x 2 = (0 : Fin 1) := Subsingleton.elim (α := Fin 1) _ _
  have e3 : x 3 = a := Fin.ext (by omega)
  rw [e0, e1, e2, e3]

/-- A piece of the first linear map at its own place. -/
theorem tile6 (f : ℕ → FVec Ideal S1x256x1x3 .f32) (k : ℕ) (i : Fin 256) (r : Fin 16) (a : Fin 3) :
    View.TileAt (Val := Elt Ideal) (S := S1x256x16x3) (e := .f32) (ix4 0 i r a) ![0, 0, k, 0] ![1, 256, 1, 3] (f k) (f r.val (ix4 0 i 0 a)) := by
  intro x hx
  have h1 : i.val = 0 + (x 1).val := hx 1
  have h2 : r.val = k + (x 2).val := hx 2
  have h3 : a.val = 0 + (x 3).val := hx 3
  have h2' : (x 2).val < 1 := (x 2).isLt
  have hk : k = r.val := by omega
  subst hk
  refine congrArg (f r.val) ?_
  refine (eq_ix4 (n0 := 1) (n1 := 256) (n2 := 1) (n3 := 3) x).trans ?_
  have e0 : x 0 = (0 : Fin 1) := Subsingleton.elim (α := Fin 1) _ _
  have e1 : x 1 = i := Fin.ext (by omega)
  have e2 : x 2 = (0 : Fin 1) := Subsingleton.elim (α := Fin 1) _ _
  have e3 : x 3 = a := Fin.ext (by omega)
  rw [e0, e1, e2, e3]

/-- One block's contribution to the running sums. -/
theorem step7 (p : ℕ → FVec Ideal S256x3 .f32) (acc : Vec Ideal S2x3 .f32) (y : S2x3.Idx) :
    k0_pay2 (accV p k0_pay13 15) (accV (fun r => mulf (p r) (p r)) k0_pay14 15) (p 15) (redV (p 15)) acc y =
      acc y + ∑ r : Fin 16, ∑ i : Fin 256, Model.sel (y 0) (p r.val (ix2 i (y 1))) := by
  obtain ⟨r, a, rfl⟩ : ∃ (r : Fin 2) (a : Fin 3), y = ix2 r a := ⟨y 0, y 1, eq_ix2 y⟩
  rw [← Finset.sum_range (fun k => ∑ i : Fin 256, Model.sel ((ix2 r a : S2x3.Idx) 0) (p k (ix2 i ((ix2 r a : S2x3.Idx) 1)))), Finset.sum_range_succ]
  fin_cases r
  · refine (k0_pay2_at0 _ _ _ _ acc a).trans (congrArg (acc (ix2 0 a) + ·) ?_)
    rw [accV_at, redV_at, k0_pay13_at, zero_add]
    rfl
  · refine (k0_pay2_at1 _ _ _ _ acc a).trans (congrArg (acc (ix2 1 a) + ·) ?_)
    rw [accV_at, k0_pay14_at, zero_add]
    rfl

end Cert.KernelIdeal.Hand
-- ==== Proof.Val0.lean ====
/-
  The first call's results: the neighbours' features, the position layer's first linear map and its sums.
-/
module

public import proofs.«01_k».proof.Proof.Blk0

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

set_option maxHeartbeats 2000000 in
theorem out0_A5 (c : Dev nD) (t : Fin cfg0.N) (h : t.val % 128 = 0) (i : Fin 256) (r : Fin 16) (a : Fin 64) :
    (outsAt0 V c t.val t.isLt).1 (ix4 0 i r a) = kfB (iblk0 V c 0 t) (iblk0 V c 1 t) (iblk0 V c 2 t) r.val (ix4 0 i 0 a) := by
  rw [outsAt0_A V c t h]
  frame_out
  simp only [k0_pay15_v, k0_pay61_v, k0_pay85_v, k0_pay107_v, k0_pay115_v, k0_pay123_v, k0_pay130_v, k0_pay16_v, k0_pay17_v, k0_pay18_v, k0_pay19_v, k0_pay20_v, k0_pay21_v, k0_pay22_v, k0_pay23_v, k0_pay24_v, k0_pay25_v, k0_pay26_v, k0_pay27_v, k0_pay28_v, k0_pay29_v, k0_pay30_v, k0_pay31_v, k0_pay32_v, k0_pay33_v, k0_pay34_v, k0_pay35_v, k0_pay36_v, k0_pay37_v, k0_pay38_v, k0_pay39_v, k0_pay40_v, k0_pay41_v, k0_pay42_v, k0_pay43_v, k0_pay44_v, k0_pay45_v, k0_pay46_v, k0_pay47_v, k0_pay48_v, k0_pay49_v, k0_pay50_v, k0_pay51_v, k0_pay52_v, k0_pay53_v, k0_pay54_v, k0_pay55_v, k0_pay56_v, k0_pay57_v, k0_pay58_v, k0_pay59_v, k0_pay60_v, k0_pay62_v, k0_pay63_v, k0_pay64_v, k0_pay65_v, k0_pay66_v, k0_pay67_v, k0_pay68_v, k0_pay69_v, k0_pay70_v, k0_pay71_v, k0_pay72_v, k0_pay73_v, k0_pay74_v, k0_pay75_v, k0_pay76_v, k0_pay77_v, k0_pay78_v, k0_pay79_v, k0_pay80_v, k0_pay81_v, k0_pay82_v, k0_pay83_v, k0_pay84_v, k0_pay86_v, k0_pay87_v, k0_pay88_v, k0_pay89_v, k0_pay90_v, k0_pay91_v, k0_pay92_v, k0_pay93_v, k0_pay94_v, k0_pay95_v, k0_pay96_v, k0_pay97_v, k0_pay98_v, k0_pay99_v, k0_pay100_v, k0_pay101_v, k0_pay102_v, k0_pay103_v, k0_pay104_v, k0_pay105_v, k0_pay106_v, k0_pay108_v, k0_pay109_v, k0_pay110_v, k0_pay111_v, k0_pay112_v, k0_pay113_v, k0_pay114_v, k0_pay116_v, k0_pay117_v, k0_pay118_v, k0_pay119_v, k0_pay120_v, k0_pay121_v, k0_pay122_v, k0_pay124_v, k0_pay125_v, k0_pay126_v, k0_pay127_v, k0_pay128_v, k0_pay129_v, k0_pay131_v, k0_pay132_v, k0_pay133_v, k0_pay134_v, k0_pay135_v]
  refine View.canon_eq_of_allAt _ _ _ ?_ ?_
  · exact View.cover_of_tiled_head _ _ _ rfl _
  refine View.allAt_cons_unit _ _ _ _ _ (tile5 (kfB (iblk0 V c 0 t) (iblk0 V c 1 t) (iblk0 V c 2 t)) 15 i r a) ?_
  refine View.allAt_cons_unit _ _ _ _ _ (tile5 (kfB (iblk0 V c 0 t) (iblk0 V c 1 t) (iblk0 V c 2 t)) 14 i r a) ?_
  refine View.allAt_cons_unit _ _ _ _ _ (tile5 (kfB (iblk0 V c 0 t) (iblk0 V c 1 t) (iblk0 V c 2 t)) 13 i r a) ?_
  refine View.allAt_cons_unit _ _ _ _ _ (tile5 (kfB (iblk0 V c 0 t) (iblk0 V c 1 t) (iblk0 V c 2 t)) 12 i r a) ?_
  refine View.allAt_cons_unit _ _ _ _ _ (tile5 (kfB (iblk0 V c 0 t) (iblk0 V c 1 t) (iblk0 V c 2 t)) 11 i r a) ?_
  refine View.allAt_cons_unit _ _ _ _ _ (tile5 (kfB (iblk0 V c 0 t) (iblk0 V c 1 t) (iblk0 V c 2 t)) 10 i r a) ?_
  refine View.allAt_cons_unit _ _ _ _ _ (tile5 (kfB (iblk0 V c 0 t) (iblk0 V c 1 t) (iblk0 V c 2 t)) 9 i r a) ?_
  refine View.allAt_cons_unit _ _ _ _ _ (tile5 (kfB (iblk0 V c 0 t) (iblk0 V c 1 t) (iblk0 V c 2 t)) 8 i r a) ?_
  refine View.allAt_cons_unit _ _ _ _ _ (tile5 (kfB (iblk0 V c 0 t) (iblk0 V c 1 t) (iblk0 V c 2 t)) 7 i r a) ?_
  refine View.allAt_cons_unit _ _ _ _ _ (tile5 (kfB (iblk0 V c 0 t) (iblk0 V c 1 t) (iblk0 V c 2 t)) 6 i r a) ?_
  refine View.allAt_cons_unit _ _ _ _ _ (tile5 (kfB (iblk0 V c 0 t) (iblk0 V c 1 t) (iblk0 V c 2 t)) 5 i r a) ?_
  refine View.allAt_cons_unit _ _ _ _ _ (tile5 (kfB (iblk0 V c 0 t) (iblk0 V c 1 t) (iblk0 V c 2 t)) 4 i r a) ?_
  refine View.allAt_cons_unit _ _ _ _ _ (tile5 (kfB (iblk0 V c 0 t) (iblk0 V c 1 t) (iblk0 V c 2 t)) 3 i r a) ?_
  refine View.allAt_cons_unit _ _ _ _ _ (tile5 (kfB (iblk0 V c 0 t) (iblk0 V c 1 t) (iblk0 V c 2 t)) 2 i r a) ?_
  refine View.allAt_cons_unit _ _ _ _ _ (tile5 (kfB (iblk0 V c 0 t) (iblk0 V c 1 t) (iblk0 V c 2 t)) 1 i r a) ?_
  refine View.allAt_cons_unit _ _ _ _ _ (tile5 (kfB (iblk0 V c 0 t) (iblk0 V c 1 t) (iblk0 V c 2 t)) 0 i r a) ?_
  exact View.allAt_nil _ _

set_option maxHeartbeats 2000000 in
theorem out0_B5 (c : Dev nD) (t : Fin cfg0.N) (h : ¬ t.val % 128 = 0) (i : Fin 256) (r : Fin 16) (a : Fin 64) :
    (outsAt0 V c t.val t.isLt).1 (ix4 0 i r a) = kfB (iblk0 V c 0 t) (iblk0 V c 1 t) (iblk0 V c 2 t) r.val (ix4 0 i 0 a) := by
  rw [outsAt0_B V c t h]
  frame_out
  simp only [k0_pay15_v, k0_pay61_v, k0_pay85_v, k0_pay107_v, k0_pay115_v, k0_pay123_v, k0_pay130_v, k0_pay16_v, k0_pay17_v, k0_pay18_v, k0_pay19_v, k0_pay20_v, k0_pay21_v, k0_pay22_v, k0_pay23_v, k0_pay24_v, k0_pay25_v, k0_pay26_v, k0_pay27_v, k0_pay28_v, k0_pay29_v, k0_pay30_v, k0_pay31_v, k0_pay32_v, k0_pay33_v, k0_pay34_v, k0_pay35_v, k0_pay36_v, k0_pay37_v, k0_pay38_v, k0_pay39_v, k0_pay40_v, k0_pay41_v, k0_pay42_v, k0_pay43_v, k0_pay44_v, k0_pay45_v, k0_pay46_v, k0_pay47_v, k0_pay48_v, k0_pay49_v, k0_pay50_v, k0_pay51_v, k0_pay52_v, k0_pay53_v, k0_pay54_v, k0_pay55_v, k0_pay56_v, k0_pay57_v, k0_pay58_v, k0_pay59_v, k0_pay60_v, k0_pay62_v, k0_pay63_v, k0_pay64_v, k0_pay65_v, k0_pay66_v, k0_pay67_v, k0_pay68_v, k0_pay69_v, k0_pay70_v, k0_pay71_v, k0_pay72_v, k0_pay73_v, k0_pay74_v, k0_pay75_v, k0_pay76_v, k0_pay77_v, k0_pay78_v, k0_pay79_v, k0_pay80_v, k0_pay81_v, k0_pay82_v, k0_pay83_v, k0_pay84_v, k0_pay86_v, k0_pay87_v, k0_pay88_v, k0_pay89_v, k0_pay90_v, k0_pay91_v, k0_pay92_v, k0_pay93_v, k0_pay94_v, k0_pay95_v, k0_pay96_v, k0_pay97_v, k0_pay98_v, k0_pay99_v, k0_pay100_v, k0_pay101_v, k0_pay102_v, k0_pay103_v, k0_pay104_v, k0_pay105_v, k0_pay106_v, k0_pay108_v, k0_pay109_v, k0_pay110_v, k0_pay111_v, k0_pay112_v, k0_pay113_v, k0_pay114_v, k0_pay116_v, k0_pay117_v, k0_pay118_v, k0_pay119_v, k0_pay120_v, k0_pay121_v, k0_pay122_v, k0_pay124_v, k0_pay125_v, k0_pay126_v, k0_pay127_v, k0_pay128_v, k0_pay129_v, k0_pay131_v, k0_pay132_v, k0_pay133_v, k0_pay134_v, k0_pay135_v]
  refine View.canon_eq_of_allAt _ _ _ ?_ ?_
  · exact View.cover_of_tiled_head _ _ _ rfl _
  refine View.allAt_cons_unit _ _ _ _ _ (tile5 (kfB (iblk0 V c 0 t) (iblk0 V c 1 t) (iblk0 V c 2 t)) 15 i r a) ?_
  refine View.allAt_cons_unit _ _ _ _ _ (tile5 (kfB (iblk0 V c 0 t) (iblk0 V c 1 t) (iblk0 V c 2 t)) 14 i r a) ?_
  refine View.allAt_cons_unit _ _ _ _ _ (tile5 (kfB (iblk0 V c 0 t) (iblk0 V c 1 t) (iblk0 V c 2 t)) 13 i r a) ?_
  refine View.allAt_cons_unit _ _ _ _ _ (tile5 (kfB (iblk0 V c 0 t) (iblk0 V c 1 t) (iblk0 V c 2 t)) 12 i r a) ?_
  refine View.allAt_cons_unit _ _ _ _ _ (tile5 (kfB (iblk0 V c 0 t) (iblk0 V c 1 t) (iblk0 V c 2 t)) 11 i r a) ?_
  refine View.allAt_cons_unit _ _ _ _ _ (tile5 (kfB (iblk0 V c 0 t) (iblk0 V c 1 t) (iblk0 V c 2 t)) 10 i r a) ?_
  refine View.allAt_cons_unit _ _ _ _ _ (tile5 (kfB (iblk0 V c 0 t) (iblk0 V c 1 t) (iblk0 V c 2 t)) 9 i r a) ?_
  refine View.allAt_cons_unit _ _ _ _ _ (tile5 (kfB (iblk0 V c 0 t) (iblk0 V c 1 t) (iblk0 V c 2 t)) 8 i r a) ?_
  refine View.allAt_cons_unit _ _ _ _ _ (tile5 (kfB (iblk0 V c 0 t) (iblk0 V c 1 t) (iblk0 V c 2 t)) 7 i r a) ?_
  refine View.allAt_cons_unit _ _ _ _ _ (tile5 (kfB (iblk0 V c 0 t) (iblk0 V c 1 t) (iblk0 V c 2 t)) 6 i r a) ?_
  refine View.allAt_cons_unit _ _ _ _ _ (tile5 (kfB (iblk0 V c 0 t) (iblk0 V c 1 t) (iblk0 V c 2 t)) 5 i r a) ?_
  refine View.allAt_cons_unit _ _ _ _ _ (tile5 (kfB (iblk0 V c 0 t) (iblk0 V c 1 t) (iblk0 V c 2 t)) 4 i r a) ?_
  refine View.allAt_cons_unit _ _ _ _ _ (tile5 (kfB (iblk0 V c 0 t) (iblk0 V c 1 t) (iblk0 V c 2 t)) 3 i r a) ?_
  refine View.allAt_cons_unit _ _ _ _ _ (tile5 (kfB (iblk0 V c 0 t) (iblk0 V c 1 t) (iblk0 V c 2 t)) 2 i r a) ?_
  refine View.allAt_cons_unit _ _ _ _ _ (tile5 (kfB (iblk0 V c 0 t) (iblk0 V c 1 t) (iblk0 V c 2 t)) 1 i r a) ?_
  refine View.allAt_cons_unit _ _ _ _ _ (tile5 (kfB (iblk0 V c 0 t) (iblk0 V c 1 t) (iblk0 V c 2 t)) 0 i r a) ?_
  exact View.allAt_nil _ _

set_option maxHeartbeats 2000000 in
theorem out0_A6 (c : Dev nD) (t : Fin cfg0.N) (h : t.val % 128 = 0) (i : Fin 256) (r : Fin 16) (a : Fin 3) :
    (outsAt0 V c t.val t.isLt).2.1 (ix4 0 i r a) = p1B (iblk0 V c 0 t) (iblk0 V c 2 t) (iblk0 V c 3 t) (iblk0 V c 4 t) r.val (ix2 i a) := by
  rw [outsAt0_A V c t h]
  frame_out
  simp only [k0_pay15_v, k0_pay61_v, k0_pay85_v, k0_pay107_v, k0_pay115_v, k0_pay123_v, k0_pay130_v, k0_pay16_v, k0_pay17_v, k0_pay18_v, k0_pay19_v, k0_pay20_v, k0_pay21_v, k0_pay22_v, k0_pay23_v, k0_pay24_v, k0_pay25_v, k0_pay26_v, k0_pay27_v, k0_pay28_v, k0_pay29_v, k0_pay30_v, k0_pay31_v, k0_pay32_v, k0_pay33_v, k0_pay34_v, k0_pay35_v, k0_pay36_v, k0_pay37_v, k0_pay38_v, k0_pay39_v, k0_pay40_v, k0_pay41_v, k0_pay42_v, k0_pay43_v, k0_pay44_v, k0_pay45_v, k0_pay46_v, k0_pay47_v, k0_pay48_v, k0_pay49_v, k0_pay50_v, k0_pay51_v, k0_pay52_v, k0_pay53_v, k0_pay54_v, k0_pay55_v, k0_pay56_v, k0_pay57_v, k0_pay58_v, k0_pay59_v, k0_pay60_v, k0_pay62_v, k0_pay63_v, k0_pay64_v, k0_pay65_v, k0_pay66_v, k0_pay67_v, k0_pay68_v, k0_pay69_v, k0_pay70_v, k0_pay71_v, k0_pay72_v, k0_pay73_v, k0_pay74_v, k0_pay75_v, k0_pay76_v, k0_pay77_v, k0_pay78_v, k0_pay79_v, k0_pay80_v, k0_pay81_v, k0_pay82_v, k0_pay83_v, k0_pay84_v, k0_pay86_v, k0_pay87_v, k0_pay88_v, k0_pay89_v, k0_pay90_v, k0_pay91_v, k0_pay92_v, k0_pay93_v, k0_pay94_v, k0_pay95_v, k0_pay96_v, k0_pay97_v, k0_pay98_v, k0_pay99_v, k0_pay100_v, k0_pay101_v, k0_pay102_v, k0_pay103_v, k0_pay104_v, k0_pay105_v, k0_pay106_v, k0_pay108_v, k0_pay109_v, k0_pay110_v, k0_pay111_v, k0_pay112_v, k0_pay113_v, k0_pay114_v, k0_pay116_v, k0_pay117_v, k0_pay118_v, k0_pay119_v, k0_pay120_v, k0_pay121_v, k0_pay122_v, k0_pay124_v, k0_pay125_v, k0_pay126_v, k0_pay127_v, k0_pay128_v, k0_pay129_v, k0_pay131_v, k0_pay132_v, k0_pay133_v, k0_pay134_v, k0_pay135_v]
  refine Eq.trans ?_ (p1C_at _ i a)
  refine View.canon_eq_of_allAt _ _ _ ?_ ?_
  · exact View.cover_of_tiled_head _ _ _ rfl _
  refine View.allAt_cons_unit _ _ _ _ _ (tile6 (fun r => p1C (p1B (iblk0 V c 0 t) (iblk0 V c 2 t) (iblk0 V c 3 t) (iblk0 V c 4 t) r)) 15 i r a) ?_
  refine View.allAt_cons_unit _ _ _ _ _ (tile6 (fun r => p1C (p1B (iblk0 V c 0 t) (iblk0 V c 2 t) (iblk0 V c 3 t) (iblk0 V c 4 t) r)) 14 i r a) ?_
  refine View.allAt_cons_unit _ _ _ _ _ (tile6 (fun r => p1C (p1B (iblk0 V c 0 t) (iblk0 V c 2 t) (iblk0 V c 3 t) (iblk0 V c 4 t) r)) 13 i r a) ?_
  refine View.allAt_cons_unit _ _ _ _ _ (tile6 (fun r => p1C (p1B (iblk0 V c 0 t) (iblk0 V c 2 t) (iblk0 V c 3 t) (iblk0 V c 4 t) r)) 12 i r a) ?_
  refine View.allAt_cons_unit _ _ _ _ _ (tile6 (fun r => p1C (p1B (iblk0 V c 0 t) (iblk0 V c 2 t) (iblk0 V c 3 t) (iblk0 V c 4 t) r)) 11 i r a) ?_
  refine View.allAt_cons_unit _ _ _ _ _ (tile6 (fun r => p1C (p1B (iblk0 V c 0 t) (iblk0 V c 2 t) (iblk0 V c 3 t) (iblk0 V c 4 t) r)) 10 i r a) ?_
  refine View.allAt_cons_unit _ _ _ _ _ (tile6 (fun r => p1C (p1B (iblk0 V c 0 t) (iblk0 V c 2 t) (iblk0 V c 3 t) (iblk0 V c 4 t) r)) 9 i r a) ?_
  refine View.allAt_cons_unit _ _ _ _ _ (tile6 (fun r => p1C (p1B (iblk0 V c 0 t) (iblk0 V c 2 t) (iblk0 V c 3 t) (iblk0 V c 4 t) r)) 8 i r a) ?_
  refine View.allAt_cons_unit _ _ _ _ _ (tile6 (fun r => p1C (p1B (iblk0 V c 0 t) (iblk0 V c 2 t) (iblk0 V c 3 t) (iblk0 V c 4 t) r)) 7 i r a) ?_
  refine View.allAt_cons_unit _ _ _ _ _ (tile6 (fun r => p1C (p1B (iblk0 V c 0 t) (iblk0 V c 2 t) (iblk0 V c 3 t) (iblk0 V c 4 t) r)) 6 i r a) ?_
  refine View.allAt_cons_unit _ _ _ _ _ (tile6 (fun r => p1C (p1B (iblk0 V c 0 t) (iblk0 V c 2 t) (iblk0 V c 3 t) (iblk0 V c 4 t) r)) 5 i r a) ?_
  refine View.allAt_cons_unit _ _ _ _ _ (tile6 (fun r => p1C (p1B (iblk0 V c 0 t) (iblk0 V c 2 t) (iblk0 V c 3 t) (iblk0 V c 4 t) r)) 4 i r a) ?_
  refine View.allAt_cons_unit _ _ _ _ _ (tile6 (fun r => p1C (p1B (iblk0 V c 0 t) (iblk0 V c 2 t) (iblk0 V c 3 t) (iblk0 V c 4 t) r)) 3 i r a) ?_
  refine View.allAt_cons_unit _ _ _ _ _ (tile6 (fun r => p1C (p1B (iblk0 V c 0 t) (iblk0 V c 2 t) (iblk0 V c 3 t) (iblk0 V c 4 t) r)) 2 i r a) ?_
  refine View.allAt_cons_unit _ _ _ _ _ (tile6 (fun r => p1C (p1B (iblk0 V c 0 t) (iblk0 V c 2 t) (iblk0 V c 3 t) (iblk0 V c 4 t) r)) 1 i r a) ?_
  refine View.allAt_cons_unit _ _ _ _ _ (tile6 (fun r => p1C (p1B (iblk0 V c 0 t) (iblk0 V c 2 t) (iblk0 V c 3 t) (iblk0 V c 4 t) r)) 0 i r a) ?_
  exact View.allAt_nil _ _

set_option maxHeartbeats 2000000 in
theorem out0_B6 (c : Dev nD) (t : Fin cfg0.N) (h : ¬ t.val % 128 = 0) (i : Fin 256) (r : Fin 16) (a : Fin 3) :
    (outsAt0 V c t.val t.isLt).2.1 (ix4 0 i r a) = p1B (iblk0 V c 0 t) (iblk0 V c 2 t) (iblk0 V c 3 t) (iblk0 V c 4 t) r.val (ix2 i a) := by
  rw [outsAt0_B V c t h]
  frame_out
  simp only [k0_pay15_v, k0_pay61_v, k0_pay85_v, k0_pay107_v, k0_pay115_v, k0_pay123_v, k0_pay130_v, k0_pay16_v, k0_pay17_v, k0_pay18_v, k0_pay19_v, k0_pay20_v, k0_pay21_v, k0_pay22_v, k0_pay23_v, k0_pay24_v, k0_pay25_v, k0_pay26_v, k0_pay27_v, k0_pay28_v, k0_pay29_v, k0_pay30_v, k0_pay31_v, k0_pay32_v, k0_pay33_v, k0_pay34_v, k0_pay35_v, k0_pay36_v, k0_pay37_v, k0_pay38_v, k0_pay39_v, k0_pay40_v, k0_pay41_v, k0_pay42_v, k0_pay43_v, k0_pay44_v, k0_pay45_v, k0_pay46_v, k0_pay47_v, k0_pay48_v, k0_pay49_v, k0_pay50_v, k0_pay51_v, k0_pay52_v, k0_pay53_v, k0_pay54_v, k0_pay55_v, k0_pay56_v, k0_pay57_v, k0_pay58_v, k0_pay59_v, k0_pay60_v, k0_pay62_v, k0_pay63_v, k0_pay64_v, k0_pay65_v, k0_pay66_v, k0_pay67_v, k0_pay68_v, k0_pay69_v, k0_pay70_v, k0_pay71_v, k0_pay72_v, k0_pay73_v, k0_pay74_v, k0_pay75_v, k0_pay76_v, k0_pay77_v, k0_pay78_v, k0_pay79_v, k0_pay80_v, k0_pay81_v, k0_pay82_v, k0_pay83_v, k0_pay84_v, k0_pay86_v, k0_pay87_v, k0_pay88_v, k0_pay89_v, k0_pay90_v, k0_pay91_v, k0_pay92_v, k0_pay93_v, k0_pay94_v, k0_pay95_v, k0_pay96_v, k0_pay97_v, k0_pay98_v, k0_pay99_v, k0_pay100_v, k0_pay101_v, k0_pay102_v, k0_pay103_v, k0_pay104_v, k0_pay105_v, k0_pay106_v, k0_pay108_v, k0_pay109_v, k0_pay110_v, k0_pay111_v, k0_pay112_v, k0_pay113_v, k0_pay114_v, k0_pay116_v, k0_pay117_v, k0_pay118_v, k0_pay119_v, k0_pay120_v, k0_pay121_v, k0_pay122_v, k0_pay124_v, k0_pay125_v, k0_pay126_v, k0_pay127_v, k0_pay128_v, k0_pay129_v, k0_pay131_v, k0_pay132_v, k0_pay133_v, k0_pay134_v, k0_pay135_v]
  refine Eq.trans ?_ (p1C_at _ i a)
  refine View.canon_eq_of_allAt _ _ _ ?_ ?_
  · exact View.cover_of_tiled_head _ _ _ rfl _
  refine View.allAt_cons_unit _ _ _ _ _ (tile6 (fun r => p1C (p1B (iblk0 V c 0 t) (iblk0 V c 2 t) (iblk0 V c 3 t) (iblk0 V c 4 t) r)) 15 i r a) ?_
  refine View.allAt_cons_unit _ _ _ _ _ (tile6 (fun r => p1C (p1B (iblk0 V c 0 t) (iblk0 V c 2 t) (iblk0 V c 3 t) (iblk0 V c 4 t) r)) 14 i r a) ?_
  refine View.allAt_cons_unit _ _ _ _ _ (tile6 (fun r => p1C (p1B (iblk0 V c 0 t) (iblk0 V c 2 t) (iblk0 V c 3 t) (iblk0 V c 4 t) r)) 13 i r a) ?_
  refine View.allAt_cons_unit _ _ _ _ _ (tile6 (fun r => p1C (p1B (iblk0 V c 0 t) (iblk0 V c 2 t) (iblk0 V c 3 t) (iblk0 V c 4 t) r)) 12 i r a) ?_
  refine View.allAt_cons_unit _ _ _ _ _ (tile6 (fun r => p1C (p1B (iblk0 V c 0 t) (iblk0 V c 2 t) (iblk0 V c 3 t) (iblk0 V c 4 t) r)) 11 i r a) ?_
  refine View.allAt_cons_unit _ _ _ _ _ (tile6 (fun r => p1C (p1B (iblk0 V c 0 t) (iblk0 V c 2 t) (iblk0 V c 3 t) (iblk0 V c 4 t) r)) 10 i r a) ?_
  refine View.allAt_cons_unit _ _ _ _ _ (tile6 (fun r => p1C (p1B (iblk0 V c 0 t) (iblk0 V c 2 t) (iblk0 V c 3 t) (iblk0 V c 4 t) r)) 9 i r a) ?_
  refine View.allAt_cons_unit _ _ _ _ _ (tile6 (fun r => p1C (p1B (iblk0 V c 0 t) (iblk0 V c 2 t) (iblk0 V c 3 t) (iblk0 V c 4 t) r)) 8 i r a) ?_
  refine View.allAt_cons_unit _ _ _ _ _ (tile6 (fun r => p1C (p1B (iblk0 V c 0 t) (iblk0 V c 2 t) (iblk0 V c 3 t) (iblk0 V c 4 t) r)) 7 i r a) ?_
  refine View.allAt_cons_unit _ _ _ _ _ (tile6 (fun r => p1C (p1B (iblk0 V c 0 t) (iblk0 V c 2 t) (iblk0 V c 3 t) (iblk0 V c 4 t) r)) 6 i r a) ?_
  refine View.allAt_cons_unit _ _ _ _ _ (tile6 (fun r => p1C (p1B (iblk0 V c 0 t) (iblk0 V c 2 t) (iblk0 V c 3 t) (iblk0 V c 4 t) r)) 5 i r a) ?_
  refine View.allAt_cons_unit _ _ _ _ _ (tile6 (fun r => p1C (p1B (iblk0 V c 0 t) (iblk0 V c 2 t) (iblk0 V c 3 t) (iblk0 V c 4 t) r)) 4 i r a) ?_
  refine View.allAt_cons_unit _ _ _ _ _ (tile6 (fun r => p1C (p1B (iblk0 V c 0 t) (iblk0 V c 2 t) (iblk0 V c 3 t) (iblk0 V c 4 t) r)) 3 i r a) ?_
  refine View.allAt_cons_unit _ _ _ _ _ (tile6 (fun r => p1C (p1B (iblk0 V c 0 t) (iblk0 V c 2 t) (iblk0 V c 3 t) (iblk0 V c 4 t) r)) 2 i r a) ?_
  refine View.allAt_cons_unit _ _ _ _ _ (tile6 (fun r => p1C (p1B (iblk0 V c 0 t) (iblk0 V c 2 t) (iblk0 V c 3 t) (iblk0 V c 4 t) r)) 1 i r a) ?_
  refine View.allAt_cons_unit _ _ _ _ _ (tile6 (fun r => p1C (p1B (iblk0 V c 0 t) (iblk0 V c 2 t) (iblk0 V c 3 t) (iblk0 V c 4 t) r)) 0 i r a) ?_
  exact View.allAt_nil _ _

end Cert.KernelIdeal.Hand
-- ==== Proof.Sum0.lean ====
/-
  The first call's result arrays: every point's neighbours' features and rows of the position layer's first linear map,
  and the sums of those rows and of their squares.
-/
module

public import proofs.«01_k».proof.Proof.Val0

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx0_0 : ∀ t : Fin cfg0.N, win0_0.index t = ![t.val / 32, 0, 0] := by decide +kernel
theorem idx0_1 : ∀ t : Fin cfg0.N, win0_1.index t = ![t.val / 32, 0, 0] := by decide +kernel
theorem idx0_2 : ∀ t : Fin cfg0.N, win0_2.index t = ![t.val / 32, t.val % 32, 0] := by decide +kernel
theorem idx0_3 : ∀ t : Fin cfg0.N, win0_3.index t = ![0, 0] := by decide +kernel
theorem idx0_4 : ∀ t : Fin cfg0.N, win0_4.index t = ![0, 0] := by decide +kernel
theorem idx0_5 : ∀ t : Fin cfg0.N, win0_5.index t = ![t.val / 32, t.val % 32, 0, 0] := by decide +kernel
theorem idx0_6 : ∀ t : Fin cfg0.N, win0_6.index t = ![t.val / 32, t.val % 32, 0, 0] := by decide +kernel

theorem iblk0_0_at (c : Dev nD) (t : Fin cfg0.N) (j : Fin 8192) (a : Fin 3) (b : Fin 4) (hb : b.val = t.val / 32) :
    iblk0 V c 0 t (ix3 0 j a) = (V c (Pipeline.arrRef spec0 0) : Vec Ideal S4x8192x3 .f32) (ix3 b j a) := by
  blk_ext! [iblk0, idx0_0 t]

theorem iblk0_1_at (c : Dev nD) (t : Fin cfg0.N) (j : Fin 8192) (a : Fin 64) (b : Fin 4) (hb : b.val = t.val / 32) :
    iblk0 V c 1 t (ix3 0 j a) = (V c (Pipeline.arrRef spec0 1) : Vec Ideal S4x8192x64 .f32) (ix3 b j a) := by
  blk_ext! [iblk0, idx0_1 t]

theorem iblk0_2_at (c : Dev nD) (t : Fin cfg0.N) (i : Fin 256) (a : Fin 3) (b : Fin 4) (n : Fin 8192) (hb : b.val = t.val / 32) (hn : n.val = (t.val % 32) * 256 + i.val) :
    iblk0 V c 2 t (ix3 0 i a) = (V c (Pipeline.arrRef spec0 2) : Vec Ideal S4x8192x3 .f32) (ix3 b n a) := by
  blk_ext! [iblk0, idx0_2 t]

theorem iblk0_3_eq (c : Dev nD) (t : Fin cfg0.N) : iblk0 V c 3 t = (V c (Pipeline.arrRef spec0 3) : Vec Ideal S3x3 .f32) := by
  funext y
  blk_ext! [iblk0, idx0_3 t]

theorem iblk0_4_eq (c : Dev nD) (t : Fin cfg0.N) : iblk0 V c 4 t = (V c (Pipeline.arrRef spec0 4) : Vec Ideal S1x3 .f32) := by
  funext y
  blk_ext! [iblk0, idx0_4 t]

/-- A neighbour's features, from the call's arrays. -/
def rowKf (c : Dev nD) (b : Fin 4) (n : Fin 8192) (r : Fin 16) (a : Fin 64) : EReal :=
  Model.hl ((V c (Pipeline.arrRef spec0 1) : Vec Ideal S4x8192x64 .f32) (ix3 b (Model.nb (fun e => (V c (Pipeline.arrRef spec0 2) : Vec Ideal S4x8192x3 .f32) (ix3 b n e)) (fun j e => (V c (Pipeline.arrRef spec0 0) : Vec Ideal S4x8192x3 .f32) (ix3 b j e)) r.val) a))

/-- A row of the position layer's first linear map, from the call's arrays. -/
def rowP1 (c : Dev nD) (b : Fin 4) (n : Fin 8192) (r : Fin 16) (a : Fin 3) : EReal :=
  Model.p1 (fun e => (V c (Pipeline.arrRef spec0 2) : Vec Ideal S4x8192x3 .f32) (ix3 b n e)) (fun j e => (V c (Pipeline.arrRef spec0 0) : Vec Ideal S4x8192x3 .f32) (ix3 b j e)) (fun e a => (V c (Pipeline.arrRef spec0 3) : Vec Ideal S3x3 .f32) (ix2 e a)) (fun a => (V c (Pipeline.arrRef spec0 4) : Vec Ideal S1x3 .f32) (ix2 0 a)) r.val a

theorem blkKf (c : Dev nD) (t : Fin cfg0.N) (i : Fin 256) (r : Fin 16) (a : Fin 64) (b : Fin 4) (n : Fin 8192) (hb : b.val = t.val / 32) (hn : n.val = (t.val % 32) * 256 + i.val) :
    kfB (iblk0 V c 0 t) (iblk0 V c 1 t) (iblk0 V c 2 t) r.val (ix4 0 i 0 a) = rowKf V c b n r a := by
  rw [kfB_at]
  unfold rowKf
  simp only [iblk0_0_at V c t _ _ b hb, iblk0_1_at V c t _ _ b hb, iblk0_2_at V c t i _ b n hb hn]

theorem blkP1 (c : Dev nD) (t : Fin cfg0.N) (i : Fin 256) (r : Fin 16) (a : Fin 3) (b : Fin 4) (n : Fin 8192) (hb : b.val = t.val / 32) (hn : n.val = (t.val % 32) * 256 + i.val) :
    p1B (iblk0 V c 0 t) (iblk0 V c 2 t) (iblk0 V c 3 t) (iblk0 V c 4 t) r.val (ix2 i a) = rowP1 V c b n r a := by
  rw [p1B_at]
  unfold rowP1
  simp only [iblk0_0_at V c t _ _ b hb, iblk0_2_at V c t i _ b n hb hn, iblk0_3_eq V c t, iblk0_4_eq V c t]

/-- What one point of the grid adds. -/
def term0 (c : Dev nD) (t : Fin cfg0.N) (y : S2x3.Idx) : EReal :=
  ∑ r : Fin 16, ∑ i : Fin 256, Model.sel (y 0) (rowP1 V c ⟨t.val / 32, by have : t.val < 128 := t.isLt; omega⟩ ⟨(t.val % 32) * 256 + i.val, by omega⟩ r (y 1))

theorem term0_eq (c : Dev nD) (t : Fin cfg0.N) (y : S2x3.Idx) :
    (∑ r : Fin 16, ∑ i : Fin 256, Model.sel (y 0) (p1B (iblk0 V c 0 t) (iblk0 V c 2 t) (iblk0 V c 3 t) (iblk0 V c 4 t) r.val (ix2 i (y 1)))) = term0 V c t y := by
  unfold term0
  exact Finset.sum_congr rfl fun r _ => Finset.sum_congr rfl fun i _ => congrArg (Model.sel (y 0)) (blkP1 V c t i r (y 1) _ _ rfl rfl)

set_option maxHeartbeats 2000000 in
theorem stepA0 (c : Dev nD) (t : Fin cfg0.N) (h : t.val % 128 = 0) (y : S2x3.Idx) : (outsAt0 V c t.val t.isLt).2.2 y = 0 + term0 V c t y := by
  rw [outsAt0_A V c t h]
  frame_out
  simp only [k0_pay15_v, k0_pay61_v, k0_pay85_v, k0_pay107_v, k0_pay115_v, k0_pay123_v, k0_pay130_v, k0_pay16_v, k0_pay17_v, k0_pay18_v, k0_pay19_v, k0_pay20_v, k0_pay21_v, k0_pay22_v, k0_pay23_v, k0_pay24_v, k0_pay25_v, k0_pay26_v, k0_pay27_v, k0_pay28_v, k0_pay29_v, k0_pay30_v, k0_pay31_v, k0_pay32_v, k0_pay33_v, k0_pay34_v, k0_pay35_v, k0_pay36_v, k0_pay37_v, k0_pay38_v, k0_pay39_v, k0_pay40_v, k0_pay41_v, k0_pay42_v, k0_pay43_v, k0_pay44_v, k0_pay45_v, k0_pay46_v, k0_pay47_v, k0_pay48_v, k0_pay49_v, k0_pay50_v, k0_pay51_v, k0_pay52_v, k0_pay53_v, k0_pay54_v, k0_pay55_v, k0_pay56_v, k0_pay57_v, k0_pay58_v, k0_pay59_v, k0_pay60_v, k0_pay62_v, k0_pay63_v, k0_pay64_v, k0_pay65_v, k0_pay66_v, k0_pay67_v, k0_pay68_v, k0_pay69_v, k0_pay70_v, k0_pay71_v, k0_pay72_v, k0_pay73_v, k0_pay74_v, k0_pay75_v, k0_pay76_v, k0_pay77_v, k0_pay78_v, k0_pay79_v, k0_pay80_v, k0_pay81_v, k0_pay82_v, k0_pay83_v, k0_pay84_v, k0_pay86_v, k0_pay87_v, k0_pay88_v, k0_pay89_v, k0_pay90_v, k0_pay91_v, k0_pay92_v, k0_pay93_v, k0_pay94_v, k0_pay95_v, k0_pay96_v, k0_pay97_v, k0_pay98_v, k0_pay99_v, k0_pay100_v, k0_pay101_v, k0_pay102_v, k0_pay103_v, k0_pay104_v, k0_pay105_v, k0_pay106_v, k0_pay108_v, k0_pay109_v, k0_pay110_v, k0_pay111_v, k0_pay112_v, k0_pay113_v, k0_pay114_v, k0_pay116_v, k0_pay117_v, k0_pay118_v, k0_pay119_v, k0_pay120_v, k0_pay121_v, k0_pay122_v, k0_pay124_v, k0_pay125_v, k0_pay126_v, k0_pay127_v, k0_pay128_v, k0_pay129_v, k0_pay131_v, k0_pay132_v, k0_pay133_v, k0_pay134_v, k0_pay135_v]
  refine (step7 (p1B (iblk0 V c 0 t) (iblk0 V c 2 t) (iblk0 V c 3 t) (iblk0 V c 4 t)) _ y).trans ?_
  rw [term0_eq]
  refine congrArg (· + term0 V c t y) ?_
  obtain ⟨r, d, rfl⟩ : ∃ (r : Fin 2) (d : Fin 3), y = ix2 r d := ⟨y 0, y 1, eq_ix2 y⟩
  exact k0_pay1_at r d

set_option maxHeartbeats 2000000 in
theorem stepB0 (c : Dev nD) (t : Fin cfg0.N) (h : ¬ t.val % 128 = 0) (y : S2x3.Idx) : (outsAt0 V c t.val t.isLt).2.2 y = (outsAt0 V c (t.val - 1) (Nat.lt_of_le_of_lt (Nat.sub_le _ _) t.isLt)).2.2 y + term0 V c t y := by
  rw [outsAt0_B V c t h]
  frame_out
  simp only [k0_pay15_v, k0_pay61_v, k0_pay85_v, k0_pay107_v, k0_pay115_v, k0_pay123_v, k0_pay130_v, k0_pay16_v, k0_pay17_v, k0_pay18_v, k0_pay19_v, k0_pay20_v, k0_pay21_v, k0_pay22_v, k0_pay23_v, k0_pay24_v, k0_pay25_v, k0_pay26_v, k0_pay27_v, k0_pay28_v, k0_pay29_v, k0_pay30_v, k0_pay31_v, k0_pay32_v, k0_pay33_v, k0_pay34_v, k0_pay35_v, k0_pay36_v, k0_pay37_v, k0_pay38_v, k0_pay39_v, k0_pay40_v, k0_pay41_v, k0_pay42_v, k0_pay43_v, k0_pay44_v, k0_pay45_v, k0_pay46_v, k0_pay47_v, k0_pay48_v, k0_pay49_v, k0_pay50_v, k0_pay51_v, k0_pay52_v, k0_pay53_v, k0_pay54_v, k0_pay55_v, k0_pay56_v, k0_pay57_v, k0_pay58_v, k0_pay59_v, k0_pay60_v, k0_pay62_v, k0_pay63_v, k0_pay64_v, k0_pay65_v, k0_pay66_v, k0_pay67_v, k0_pay68_v, k0_pay69_v, k0_pay70_v, k0_pay71_v, k0_pay72_v, k0_pay73_v, k0_pay74_v, k0_pay75_v, k0_pay76_v, k0_pay77_v, k0_pay78_v, k0_pay79_v, k0_pay80_v, k0_pay81_v, k0_pay82_v, k0_pay83_v, k0_pay84_v, k0_pay86_v, k0_pay87_v, k0_pay88_v, k0_pay89_v, k0_pay90_v, k0_pay91_v, k0_pay92_v, k0_pay93_v, k0_pay94_v, k0_pay95_v, k0_pay96_v, k0_pay97_v, k0_pay98_v, k0_pay99_v, k0_pay100_v, k0_pay101_v, k0_pay102_v, k0_pay103_v, k0_pay104_v, k0_pay105_v, k0_pay106_v, k0_pay108_v, k0_pay109_v, k0_pay110_v, k0_pay111_v, k0_pay112_v, k0_pay113_v, k0_pay114_v, k0_pay116_v, k0_pay117_v, k0_pay118_v, k0_pay119_v, k0_pay120_v, k0_pay121_v, k0_pay122_v, k0_pay124_v, k0_pay125_v, k0_pay126_v, k0_pay127_v, k0_pay128_v, k0_pay129_v, k0_pay131_v, k0_pay132_v, k0_pay133_v, k0_pay134_v, k0_pay135_v]
  refine (step7 (p1B (iblk0 V c 0 t) (iblk0 V c 2 t) (iblk0 V c 3 t) (iblk0 V c 4 t)) _ y).trans ?_
  rw [term0_eq]

/-- The last point of the grid. -/
abbrev last0 : Fin cfg0.N := ⟨127, by decide⟩

theorem total0 (c : Dev nD) (y : S2x3.Idx) : (outsAt0 V c (last0).val (last0).isLt).2.2 y = Model.sums (rowP1 V c) (y 0) (y 1) := by
  have h := Pipeline.eq_sum_of_reset_step_apply_single (N := cfg0.N) (fun n h => (outsAt0 V c n h).2.2) 128 (fun _ => 0)
    (fun n y => if h : n < 128 then term0 V c ⟨n, h⟩ y else 0)
    (fun t h y => by rw [stepA0 V c t h y, dif_pos (show t.val < 128 from t.isLt)])
    (fun t h y => by rw [stepB0 V c t h y, dif_pos (show t.val < 128 from t.isLt)])
    (le_of_eq rfl) last0 y
  refine h.trans ?_
  rw [zero_add]
  refine (Finset.sum_range _).trans ?_
  unfold Model.sums
  rw [← Model.sum_blocks256 (fun b i k => Model.sel (y 0) (rowP1 V c b i k (y 1)))]
  refine Finset.sum_congr rfl fun t _ => ?_
  exact dif_pos t.isLt

theorem arr0_7 (c : Dev nD) : (dat0 V c).arrAt 7 cfg0.N = fun y : S2x3.Idx => Model.sums (rowP1 V c) (y 0) (y 1) := by
  refine (dat0 V c).arrAt_eq_of_after_last 7 last0 (by decide +kernel) _ fun j => ?_
  blk_simp
  rw [after0_7]
  exact total0 V c j

theorem emb0_5 (t : Fin cfg0.N) (y : S1x256x16x64.Idx) : ((win0_5.blk t).view.emb y 0).val = t.val / 32 ∧ ((win0_5.blk t).view.emb y 1).val = (t.val % 32) * 256 + (y 1).val ∧ (win0_5.blk t).view.emb y 2 = y 2 ∧ (win0_5.blk t).view.emb y 3 = y 3 := by
  refine ⟨?_, ?_, Fin.ext ?_, Fin.ext ?_⟩ <;> blk_simp [idx0_5 t]

theorem point0_5 (c : Dev nD) (t : Fin cfg0.N) (y : S1x256x16x64.Idx) : (outsAt0 V c t.val t.isLt).1 y =
    rowKf V c ((win0_5.blk t).view.emb y 0) ((win0_5.blk t).view.emb y 1) ((win0_5.blk t).view.emb y 2) ((win0_5.blk t).view.emb y 3) := by
  obtain ⟨h0, h1, h2, h3⟩ := emb0_5 t y
  rw [h2, h3]
  refine Eq.trans ?_ (blkKf V c t (y 1) (y 2) (y 3) _ _ h0 h1)
  have hy : y = ix4 0 (y 1) (y 2) (y 3) := (eq_ix4 y).trans (congrArg (fun z => ix4 z (y 1) (y 2) (y 3)) (Subsingleton.elim (α := Fin 1) _ _))
  by_cases h : t.val % 128 = 0
  · exact (congrArg (outsAt0 V c t.val t.isLt).1 hy).trans (out0_A5 V c t h (y 1) (y 2) (y 3))
  · exact (congrArg (outsAt0 V c t.val t.isLt).1 hy).trans (out0_B5 V c t h (y 1) (y 2) (y 3))

theorem arr0_5 (c : Dev nD) : (dat0 V c).arrAt 5 cfg0.N = fun y : S4x8192x16x64.Idx => rowKf V c (y 0) (y 1) (y 2) (y 3) := by
  refine (dat0 V c).arrAt_eq_of_covers 5 _ (by decide +kernel) fun t hf y => ?_
  blk_simp
  rw [after0_5]
  exact point0_5 V c t y

theorem emb0_6 (t : Fin cfg0.N) (y : S1x256x16x3.Idx) : ((win0_6.blk t).view.emb y 0).val = t.val / 32 ∧ ((win0_6.blk t).view.emb y 1).val = (t.val % 32) * 256 + (y 1).val ∧ (win0_6.blk t).view.emb y 2 = y 2 ∧ (win0_6.blk t).view.emb y 3 = y 3 := by
  refine ⟨?_, ?_, Fin.ext ?_, Fin.ext ?_⟩ <;> blk_simp [idx0_6 t]

theorem point0_6 (c : Dev nD) (t : Fin cfg0.N) (y : S1x256x16x3.Idx) : (outsAt0 V c t.val t.isLt).2.1 y =
    rowP1 V c ((win0_6.blk t).view.emb y 0) ((win0_6.blk t).view.emb y 1) ((win0_6.blk t).view.emb y 2) ((win0_6.blk t).view.emb y 3) := by
  obtain ⟨h0, h1, h2, h3⟩ := emb0_6 t y
  rw [h2, h3]
  refine Eq.trans ?_ (blkP1 V c t (y 1) (y 2) (y 3) _ _ h0 h1)
  have hy : y = ix4 0 (y 1) (y 2) (y 3) := (eq_ix4 y).trans (congrArg (fun z => ix4 z (y 1) (y 2) (y 3)) (Subsingleton.elim (α := Fin 1) _ _))
  by_cases h : t.val % 128 = 0
  · exact (congrArg (outsAt0 V c t.val t.isLt).2.1 hy).trans (out0_A6 V c t h (y 1) (y 2) (y 3))
  · exact (congrArg (outsAt0 V c t.val t.isLt).2.1 hy).trans (out0_B6 V c t h (y 1) (y 2) (y 3))

theorem arr0_6 (c : Dev nD) : (dat0 V c).arrAt 6 cfg0.N = fun y : S4x8192x16x3.Idx => rowP1 V c (y 0) (y 1) (y 2) (y 3) := by
  refine (dat0 V c).arrAt_eq_of_covers 6 _ (by decide +kernel) fun t hf y => ?_
  blk_simp
  rw [after0_6]
  exact point0_6 V c t y

end Cert.KernelIdeal.Hand
-- ==== Proof.Pay1.lean ====
/-
  The second call's payload functions, read at an index down to scalars, in the model's terms.
-/
module

public import proofs.«01_k».proof.Proof.Gen.KernelIdeal.Skeleton
public import proofs.«01_k».proof.Proof.Gen.KernelIdeal.Launch
public import Idealize.ShloMosaic.Lib.Pipeline.ValueKit
public import Idealize.ShloMosaic.Lib.Pointwise
public import proofs.«01_k».proof.Proof.Pay3

@[expose] public section

set_option maxRecDepth 16384

noncomputable section

namespace Cert.KernelIdeal.Hand

open Idealize.ShloMosaic Idealize.ShloMosaic.TcCoe Idealize.SL.Sem
open Cert.KernelIdeal Cert.KernelIdeal.Gen

theorem k1_pay2_at (v : Vec Ideal S1x512x64 .f32) (i : Fin 512) (d : Fin 64) : k1_pay2 (F := Ideal) v (ix2 i d) = v (ix3 0 i d) := by
  pointwise [k1_pay2]

theorem k1_pay3_at (v : Vec Ideal S1x512x16x64 .f32) (i : Fin 512) (k : Fin 16) (d : Fin 64) : k1_pay3 (F := Ideal) v (ix3 i k d) = v (ix4 0 i k d) := by
  pointwise [k1_pay3]

theorem k1_pay4_at (v4 : Vec Ideal S1x512x16x3 .f32) (v6 v8 v19 v24 : Vec Ideal S1x3 .f32) (i : Fin 512) (k : Fin 16) (d : Fin 3) :
    k1_pay4 (F := Ideal) v4 v6 v8 v19 v24 (ix3 i k d) = Model.bn (v6 (ix2 0 d)) (v8 (ix2 0 d)) (v19 (ix2 0 d)) (v24 (ix2 0 d)) (v4 (ix4 0 i k d)) := by
  pointwise [k1_pay4]
  rfl

theorem k1_pay5_at (v4 : Vec Ideal S1x512x16x3 .f32) (v6 v8 v19 v24 : Vec Ideal S1x3 .f32) (i : Fin 512) (k : Fin 16) (d : Fin 3) :
    k1_pay5 (F := Ideal) v4 v6 v8 v19 v24 (ix3 i k d) = Model.half * Model.bn (v6 (ix2 0 d)) (v8 (ix2 0 d)) (v19 (ix2 0 d)) (v24 (ix2 0 d)) (v4 (ix4 0 i k d)) := by
  pointwise [k1_pay5]
  rw [k1_pay4_at]
  rfl

theorem k1_pay6_at (v4 : Vec Ideal S1x512x16x3 .f32) (v6 v8 v19 v24 : Vec Ideal S1x3 .f32) (i : Fin 512) (k : Fin 16) (d : Fin 3) :
    k1_pay6 (F := Ideal) v4 v6 v8 v19 v24 (ix3 i k d) = Ideal.erf (Model.bn (v6 (ix2 0 d)) (v8 (ix2 0 d)) (v19 (ix2 0 d)) (v24 (ix2 0 d)) (v4 (ix4 0 i k d)) * Model.rsqrt2) := by
  pointwise [k1_pay6]
  rw [k1_pay4_at]
  rfl

theorem k1_pay7_at (i : Fin 512) (k : Fin 16) (d : Fin 3) : k1_pay7 (F := Ideal) (ix3 i k d) = 1 := by
  pointwise [k1_pay7]

theorem k1_pay8_at (v1 : FVec Ideal S512x64 .f32) (v3 : FVec Ideal S512x16x64 .f32) (v30 v33 v34 : FVec Ideal S512x16x3 .f32) (v38 : Vec Ideal S3x64 .f32) (v41 : Vec Ideal S1x64 .f32)
    (v47 : Vec Ideal S64x64 .f32) (v50 : Vec Ideal S1x64 .f32) (v56 : Vec Ideal S64x64 .f32) (v59 : Vec Ideal S1x64 .f32) (i : Fin 512) (k : Fin 16) (d : Fin 64) :
    k1_pay8 (F := Ideal) v1 v3 v30 v33 v34 v38 v41 v47 v50 v56 v59 (ix3 i k d) =
      Model.lin (mat v47) (row v50) (fun a => v1 (ix2 i a)) d - Model.lin (mat v56) (row v59) (fun a => v3 (ix3 i k a)) d
        + Model.lin (mat v38) (row v41) (fun a => v30 (ix3 i k a) * (v34 (ix3 i k a) + v33 (ix3 i k a))) d := by
  pointwise [k1_pay8]
  rfl

theorem k1_pay10_at (v1 : FVec Ideal S512x64 .f32) (v3 : FVec Ideal S512x16x64 .f32) (v30 v33 v34 : FVec Ideal S512x16x3 .f32) (v38 : Vec Ideal S3x64 .f32) (v41 : Vec Ideal S1x64 .f32)
    (v47 : Vec Ideal S64x64 .f32) (v50 : Vec Ideal S1x64 .f32) (v56 : Vec Ideal S64x64 .f32) (v59 : Vec Ideal S1x64 .f32) (i : Fin 512) (k : Fin 16) (d : Fin 64) :
    k1_pay10 (F := Ideal) v1 v3 v30 v33 v34 v38 v41 v47 v50 v56 v59 (ix2 (⟨i.val * 16 + k.val, by omega⟩ : Fin 8192) d) =
      Model.lin (mat v47) (row v50) (fun a => v1 (ix2 i a)) d - Model.lin (mat v56) (row v59) (fun a => v3 (ix3 i k a)) d
        + Model.lin (mat v38) (row v41) (fun a => v30 (ix3 i k a) * (v34 (ix3 i k a) + v33 (ix3 i k a))) d := by
  pointwise [k1_pay10]
  rw [k1_pay8_at]

theorem k1_pay9_at (r : Fin 2) (d : Fin 64) : k1_pay9 (F := Ideal) (ix2 r d) = 0 := by
  pointwise [k1_pay9]

theorem k1_pay1_at0 (v68 : FVec Ideal S512x16x64 .f32) (v74 : FVec Ideal S8192x64 .f32) (v79 : Vec Ideal S2x64 .f32) (d : Fin 64) :
    k1_pay1 (F := Ideal) v68 v74 v79 (ix2 0 d) = v79 (ix2 0 d) + ∑ p : Fin 8192, v74 (ix2 p d) := by
  pointwise [k1_pay1]

theorem k1_pay1_at1 (v68 : FVec Ideal S512x16x64 .f32) (v74 : FVec Ideal S8192x64 .f32) (v79 : Vec Ideal S2x64 .f32) (d : Fin 64) :
    k1_pay1 (F := Ideal) v68 v74 v79 (ix2 1 d) = v79 (ix2 1 d) + ∑ p : Fin 8192, v68 (ix3 (⟨p.val / 16, by omega⟩ : Fin 512) (⟨p.val % 16, by omega⟩ : Fin 16) d) * v68 (ix3 (⟨p.val / 16, by omega⟩ : Fin 512) (⟨p.val % 16, by omega⟩ : Fin 16) d) := by
  pointwise [k1_pay1]

end Cert.KernelIdeal.Hand
end
-- ==== Proof.Blk1.lean ====
/-
  The second call's input blocks read at coordinates.
-/
module

public import proofs.«01_k».proof.Proof.Pay1
public import proofs.«01_k».proof.Proof.Gen.KernelIdeal.Frame.Region1

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx1_0 : ∀ t : Fin cfg1.N, win1_0.index t = ![t.val / 16, t.val % 16, 0] := by decide +kernel
theorem idx1_1 : ∀ t : Fin cfg1.N, win1_1.index t = ![t.val / 16, t.val % 16, 0, 0] := by decide +kernel
theorem idx1_2 : ∀ t : Fin cfg1.N, win1_2.index t = ![t.val / 16, t.val % 16, 0, 0] := by decide +kernel
theorem idx1_3 : ∀ t : Fin cfg1.N, win1_3.index t = ![0, 0] := by decide +kernel
theorem idx1_4 : ∀ t : Fin cfg1.N, win1_4.index t = ![0, 0] := by decide +kernel
theorem idx1_5 : ∀ t : Fin cfg1.N, win1_5.index t = ![0, 0] := by decide +kernel
theorem idx1_6 : ∀ t : Fin cfg1.N, win1_6.index t = ![0, 0] := by decide +kernel
theorem idx1_7 : ∀ t : Fin cfg1.N, win1_7.index t = ![0, 0] := by decide +kernel
theorem idx1_8 : ∀ t : Fin cfg1.N, win1_8.index t = ![0, 0] := by decide +kernel
theorem idx1_9 : ∀ t : Fin cfg1.N, win1_9.index t = ![0, 0] := by decide +kernel
theorem idx1_10 : ∀ t : Fin cfg1.N, win1_10.index t = ![0, 0] := by decide +kernel
theorem idx1_11 : ∀ t : Fin cfg1.N, win1_11.index t = ![0, 0] := by decide +kernel

/-! The windows of weights and statistics hold the whole array at every point. -/

theorem iblk1_3_eq (c : Dev nD) (t : Fin cfg1.N) : iblk1 V c 3 t = (V c (Pipeline.arrRef spec1 3) : Vec Ideal S2x3 .f32) := by
  funext y
  blk_ext! [iblk1, idx1_3 t]

theorem iblk1_4_eq (c : Dev nD) (t : Fin cfg1.N) : iblk1 V c 4 t = (V c (Pipeline.arrRef spec1 4) : Vec Ideal S3x64 .f32) := by
  funext y
  blk_ext! [iblk1, idx1_4 t]

theorem iblk1_5_eq (c : Dev nD) (t : Fin cfg1.N) : iblk1 V c 5 t = (V c (Pipeline.arrRef spec1 5) : Vec Ideal S1x64 .f32) := by
  funext y
  blk_ext! [iblk1, idx1_5 t]

theorem iblk1_6_eq (c : Dev nD) (t : Fin cfg1.N) : iblk1 V c 6 t = (V c (Pipeline.arrRef spec1 6) : Vec Ideal S1x3 .f32) := by
  funext y
  blk_ext! [iblk1, idx1_6 t]

theorem iblk1_7_eq (c : Dev nD) (t : Fin cfg1.N) : iblk1 V c 7 t = (V c (Pipeline.arrRef spec1 7) : Vec Ideal S1x3 .f32) := by
  funext y
  blk_ext! [iblk1, idx1_7 t]

theorem iblk1_8_eq (c : Dev nD) (t : Fin cfg1.N) : iblk1 V c 8 t = (V c (Pipeline.arrRef spec1 8) : Vec Ideal S64x64 .f32) := by
  funext y
  blk_ext! [iblk1, idx1_8 t]

theorem iblk1_9_eq (c : Dev nD) (t : Fin cfg1.N) : iblk1 V c 9 t = (V c (Pipeline.arrRef spec1 9) : Vec Ideal S1x64 .f32) := by
  funext y
  blk_ext! [iblk1, idx1_9 t]

theorem iblk1_10_eq (c : Dev nD) (t : Fin cfg1.N) : iblk1 V c 10 t = (V c (Pipeline.arrRef spec1 10) : Vec Ideal S64x64 .f32) := by
  funext y
  blk_ext! [iblk1, idx1_10 t]

theorem iblk1_11_eq (c : Dev nD) (t : Fin cfg1.N) : iblk1 V c 11 t = (V c (Pipeline.arrRef spec1 11) : Vec Ideal S1x64 .f32) := by
  funext y
  blk_ext! [iblk1, idx1_11 t]

theorem iblk1_0_at (c : Dev nD) (t : Fin cfg1.N) (i : Fin 512) (a : Fin 64) (b : Fin 4) (n : Fin 8192) (hb : b.val = t.val / 16) (hn : n.val = (t.val % 16) * 512 + i.val) :
    iblk1 V c 0 t (ix3 0 i a) = (V c (Pipeline.arrRef spec1 0) : Vec Ideal S4x8192x64 .f32) (ix3 b n a) := by
  blk_ext! [iblk1, idx1_0 t]

theorem iblk1_1_at (c : Dev nD) (t : Fin cfg1.N) (i : Fin 512) (k : Fin 16) (a : Fin 64) (b : Fin 4) (n : Fin 8192) (hb : b.val = t.val / 16) (hn : n.val = (t.val % 16) * 512 + i.val) :
    iblk1 V c 1 t (ix4 0 i k a) = (V c (Pipeline.arrRef spec1 1) : Vec Ideal S4x8192x16x64 .f32) (ix4 b n k a) := by
  blk_ext! [iblk1, idx1_1 t]

theorem iblk1_2_at (c : Dev nD) (t : Fin cfg1.N) (i : Fin 512) (k : Fin 16) (a : Fin 3) (b : Fin 4) (n : Fin 8192) (hb : b.val = t.val / 16) (hn : n.val = (t.val % 16) * 512 + i.val) :
    iblk1 V c 2 t (ix4 0 i k a) = (V c (Pipeline.arrRef spec1 2) : Vec Ideal S4x8192x16x3 .f32) (ix4 b n k a) := by
  blk_ext! [iblk1, idx1_2 t]

end Cert.KernelIdeal.Hand
end
-- ==== Proof.Val1.lean ====
/-
  The second call's result: the sums of the first attention layer's values and of their squares over every row.
-/
module

public import proofs.«01_k».proof.Proof.Blk1

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- One row of the first attention layer, from the call's arrays. -/
def rowG1 (c : Dev nD) (b : Fin 4) (n : Fin 8192) (k : Fin 16) (d : Fin 64) : EReal :=
  Model.g1 (par1 (V c (Pipeline.arrRef spec1 3)) (V c (Pipeline.arrRef spec1 4)) (V c (Pipeline.arrRef spec1 5)) (V c (Pipeline.arrRef spec1 6)) (V c (Pipeline.arrRef spec1 7)) (V c (Pipeline.arrRef spec1 8)) (V c (Pipeline.arrRef spec1 9)) (V c (Pipeline.arrRef spec1 10)) (V c (Pipeline.arrRef spec1 11))) (fun a => (V c (Pipeline.arrRef spec1 0) : Vec Ideal S4x8192x64 .f32) (ix3 b n a)) (fun a => (V c (Pipeline.arrRef spec1 1) : Vec Ideal S4x8192x16x64 .f32) (ix4 b n k a)) (fun a => (V c (Pipeline.arrRef spec1 2) : Vec Ideal S4x8192x16x3 .f32) (ix4 b n k a)) d

/-- What one point of the grid adds. -/
def term1 (c : Dev nD) (t : Fin cfg1.N) (y : S2x64.Idx) : EReal :=
  ∑ p : Fin 8192, Model.sel (y 0) (rowG1 V c ⟨t.val / 16, by have : t.val < 64 := t.isLt; omega⟩ ⟨(t.val % 16) * 512 + p.val / 16, by omega⟩ ⟨p.val % 16, by omega⟩ (y 1))

/-- One row of a block. -/
theorem payRow1 (x0 : Vec Ideal S1x512x64 .f32) (x1 : Vec Ideal S1x512x16x64 .f32) (x2 : Vec Ideal S1x512x16x3 .f32) (x3 : Vec Ideal S2x3 .f32) (x4 : Vec Ideal S3x64 .f32) (x5 : Vec Ideal S1x64 .f32) (x6 : Vec Ideal S1x3 .f32) (x7 : Vec Ideal S1x3 .f32) (x8 : Vec Ideal S64x64 .f32) (x9 : Vec Ideal S1x64 .f32) (x10 : Vec Ideal S64x64 .f32) (x11 : Vec Ideal S1x64 .f32) (i : Fin 512) (k : Fin 16) (d : Fin 64) :
    k1_pay8 (F := Ideal) (k1_pay2 x0) (k1_pay3 x1) (k1_pay5 x2 (View.ld x3 (Rect.unit ![0, 0] ![1, 3] inb_S2x3_S1x3_0_0)) (View.ld x3 (Rect.unit ![1, 0] ![1, 3] inb_S2x3_S1x3_1_0)) x6 x7) (k1_pay6 x2 (View.ld x3 (Rect.unit ![0, 0] ![1, 3] inb_S2x3_S1x3_0_0)) (View.ld x3 (Rect.unit ![1, 0] ![1, 3] inb_S2x3_S1x3_1_0)) x6 x7) k1_pay7 x4 x5 x8 x9 x10 x11 (ix3 i k d) = Model.g1 (par1 x3 x4 x5 x6 x7 x8 x9 x10 x11) (fun a => x0 (ix3 0 i a)) (fun a => x1 (ix4 0 i k a)) (fun a => x2 (ix4 0 i k a)) d := by
  rw [k1_pay8_at]
  simp only [k1_pay2_at, k1_pay3_at, k1_pay5_at, k1_pay6_at, k1_pay7_at]
  pointwise
  rfl

/-- One block's contribution to the running sums. -/
theorem payStep1 (x0 : Vec Ideal S1x512x64 .f32) (x1 : Vec Ideal S1x512x16x64 .f32) (x2 : Vec Ideal S1x512x16x3 .f32) (x3 : Vec Ideal S2x3 .f32) (x4 : Vec Ideal S3x64 .f32) (x5 : Vec Ideal S1x64 .f32) (x6 : Vec Ideal S1x3 .f32) (x7 : Vec Ideal S1x3 .f32) (x8 : Vec Ideal S64x64 .f32) (x9 : Vec Ideal S1x64 .f32) (x10 : Vec Ideal S64x64 .f32) (x11 : Vec Ideal S1x64 .f32) (acc : Vec Ideal S2x64 .f32) (y : S2x64.Idx) :
    k1_pay1 (F := Ideal) (k1_pay8 (k1_pay2 x0) (k1_pay3 x1) (k1_pay5 x2 (View.ld x3 (Rect.unit ![0, 0] ![1, 3] inb_S2x3_S1x3_0_0)) (View.ld x3 (Rect.unit ![1, 0] ![1, 3] inb_S2x3_S1x3_1_0)) x6 x7) (k1_pay6 x2 (View.ld x3 (Rect.unit ![0, 0] ![1, 3] inb_S2x3_S1x3_0_0)) (View.ld x3 (Rect.unit ![1, 0] ![1, 3] inb_S2x3_S1x3_1_0)) x6 x7) k1_pay7 x4 x5 x8 x9 x10 x11) (k1_pay10 (k1_pay2 x0) (k1_pay3 x1) (k1_pay5 x2 (View.ld x3 (Rect.unit ![0, 0] ![1, 3] inb_S2x3_S1x3_0_0)) (View.ld x3 (Rect.unit ![1, 0] ![1, 3] inb_S2x3_S1x3_1_0)) x6 x7) (k1_pay6 x2 (View.ld x3 (Rect.unit ![0, 0] ![1, 3] inb_S2x3_S1x3_0_0)) (View.ld x3 (Rect.unit ![1, 0] ![1, 3] inb_S2x3_S1x3_1_0)) x6 x7) k1_pay7 x4 x5 x8 x9 x10 x11) acc y = acc y + ∑ p : Fin 8192, Model.sel (y 0) (Model.g1 (par1 x3 x4 x5 x6 x7 x8 x9 x10 x11) (fun a => x0 (ix3 0 ⟨p.val / 16, by omega⟩ a)) (fun a => x1 (ix4 0 ⟨p.val / 16, by omega⟩ ⟨p.val % 16, by omega⟩ a)) (fun a => x2 (ix4 0 ⟨p.val / 16, by omega⟩ ⟨p.val % 16, by omega⟩ a)) (y 1)) := by
  obtain ⟨r, d, rfl⟩ : ∃ (r : Fin 2) (d : Fin 64), y = ix2 r d := ⟨y 0, y 1, eq_ix2 y⟩
  fin_cases r
  · refine (k1_pay1_at0 _ _ _ d).trans (congrArg (acc (ix2 0 d) + ·) (Finset.sum_congr rfl fun p _ => ?_))
    have e : (p : Fin 8192) = (⟨(⟨p.val / 16, by omega⟩ : Fin 512).val * 16 + (⟨p.val % 16, by omega⟩ : Fin 16).val, by simp only; omega⟩ : Fin 8192) := Fin.ext (by simp only; omega)
    refine (congrArg (fun q => k1_pay10 (F := Ideal) _ _ _ _ _ _ _ _ _ _ _ (ix2 q d)) e).trans ?_
    rw [k1_pay10_at, ← k1_pay8_at, payRow1]
    rfl
  · refine (k1_pay1_at1 _ _ _ d).trans (congrArg (acc (ix2 1 d) + ·) (Finset.sum_congr rfl fun p _ => ?_))
    rw [payRow1]
    rfl

/-- The contribution of a point's blocks is its term. -/
theorem term1_eq (c : Dev nD) (t : Fin cfg1.N) (y : S2x64.Idx) :
    (∑ p : Fin 8192, Model.sel (y 0) (Model.g1 (par1 (iblk1 V c 3 t) (iblk1 V c 4 t) (iblk1 V c 5 t) (iblk1 V c 6 t) (iblk1 V c 7 t) (iblk1 V c 8 t) (iblk1 V c 9 t) (iblk1 V c 10 t) (iblk1 V c 11 t)) (fun a => iblk1 V c 0 t (ix3 0 ⟨p.val / 16, by omega⟩ a)) (fun a => iblk1 V c 1 t (ix4 0 ⟨p.val / 16, by omega⟩ ⟨p.val % 16, by omega⟩ a)) (fun a => iblk1 V c 2 t (ix4 0 ⟨p.val / 16, by omega⟩ ⟨p.val % 16, by omega⟩ a)) (y 1))) = term1 V c t y := by
  unfold term1 rowG1
  refine Finset.sum_congr rfl fun p _ => congrArg (Model.sel (y 0)) ?_
  have hb : (⟨t.val / 16, by have : t.val < 64 := t.isLt; omega⟩ : Fin 4).val = t.val / 16 := rfl
  have hn : (⟨(t.val % 16) * 512 + p.val / 16, by omega⟩ : Fin 8192).val = (t.val % 16) * 512 + (⟨p.val / 16, by omega⟩ : Fin 512).val := rfl
  simp only [iblk1_3_eq V c t, iblk1_4_eq V c t, iblk1_5_eq V c t, iblk1_6_eq V c t, iblk1_7_eq V c t, iblk1_8_eq V c t, iblk1_9_eq V c t, iblk1_10_eq V c t, iblk1_11_eq V c t, iblk1_0_at V c t _ _ _ _ hb hn, iblk1_1_at V c t _ _ _ _ _ hb hn, iblk1_2_at V c t _ _ _ _ _ hb hn]

theorem stepA1 (c : Dev nD) (t : Fin cfg1.N) (h : t.val % 64 = 0) (y : S2x64.Idx) : outsAt1 V c t.val t.isLt y = 0 + term1 V c t y := by
  rw [outsAt1_A V c t h]
  frame_out
  refine (payStep1 _ _ _ _ _ _ _ _ _ _ _ _ _ y).trans ?_
  rw [term1_eq]
  refine congrArg (· + term1 V c t y) ?_
  obtain ⟨r, d, rfl⟩ : ∃ (r : Fin 2) (d : Fin 64), y = ix2 r d := ⟨y 0, y 1, eq_ix2 y⟩
  exact k1_pay9_at r d

theorem stepB1 (c : Dev nD) (t : Fin cfg1.N) (h : ¬ t.val % 64 = 0) (y : S2x64.Idx) :
    outsAt1 V c t.val t.isLt y = outsAt1 V c (t.val - 1) (Nat.lt_of_le_of_lt (Nat.sub_le _ _) t.isLt) y + term1 V c t y := by
  rw [outsAt1_B V c t h]
  frame_out
  refine (payStep1 _ _ _ _ _ _ _ _ _ _ _ _ _ y).trans ?_
  rw [term1_eq]

/-- The last point of the grid. -/
abbrev last1 : Fin cfg1.N := ⟨63, by decide⟩

theorem total1 (c : Dev nD) (y : S2x64.Idx) : outsAt1 V c (last1).val (last1).isLt y = Model.sums (rowG1 V c) (y 0) (y 1) := by
  have h := Pipeline.eq_sum_of_reset_step_apply_single (N := cfg1.N) (fun n h => outsAt1 V c n h) 64 (fun _ => 0)
    (fun n y => if h : n < 64 then term1 V c ⟨n, h⟩ y else 0)
    (fun t h y => by rw [stepA1 V c t h y, dif_pos (show t.val < 64 from t.isLt)])
    (fun t h y => by rw [stepB1 V c t h y, dif_pos (show t.val < 64 from t.isLt)])
    (le_of_eq rfl) last1 y
  refine h.trans ?_
  rw [zero_add]
  refine (Finset.sum_range _).trans ?_
  unfold Model.sums
  rw [← Model.sum_blocks512 (fun b i k => Model.sel (y 0) (rowG1 V c b i k (y 1)))]
  refine Finset.sum_congr rfl fun t _ => ?_
  exact dif_pos t.isLt

theorem arr1 (c : Dev nD) : (dat1 V c).arrAt 12 cfg1.N = fun y : S2x64.Idx => Model.sums (rowG1 V c) (y 0) (y 1) := by
  refine (dat1 V c).arrAt_eq_of_after_last 12 last1 (by decide +kernel) _ fun j => ?_
  blk_simp
  rw [after1_12]
  exact total1 V c j

end Cert.KernelIdeal.Hand
end
-- ==== Proof.Pay2.lean ====
/-
  The third call's payload functions, read at an index down to scalars, in the model's terms.
-/
module

public import proofs.«01_k».proof.Proof.Gen.KernelIdeal.Skeleton
public import proofs.«01_k».proof.Proof.Gen.KernelIdeal.Launch
public import Idealize.ShloMosaic.Lib.Pipeline.ValueKit
public import Idealize.ShloMosaic.Lib.Pointwise
public import proofs.«01_k».proof.Proof.Pay3

@[expose] public section

set_option maxRecDepth 16384

noncomputable section

namespace Cert.KernelIdeal.Hand

open Idealize.ShloMosaic Idealize.ShloMosaic.TcCoe Idealize.SL.Sem
open Cert.KernelIdeal Cert.KernelIdeal.Gen

theorem k2_pay2_at (v : Vec Ideal S1x512x64 .f32) (i : Fin 512) (d : Fin 64) : k2_pay2 (F := Ideal) v (ix2 i d) = v (ix3 0 i d) := by
  pointwise [k2_pay2]

theorem k2_pay3_at (v : Vec Ideal S1x512x16x64 .f32) (i : Fin 512) (k : Fin 16) (d : Fin 64) : k2_pay3 (F := Ideal) v (ix3 i k d) = v (ix4 0 i k d) := by
  pointwise [k2_pay3]

theorem k2_pay4_at (v4 : Vec Ideal S1x512x16x3 .f32) (v6 v8 v19 v24 : Vec Ideal S1x3 .f32) (i : Fin 512) (k : Fin 16) (d : Fin 3) :
    k2_pay4 (F := Ideal) v4 v6 v8 v19 v24 (ix3 i k d) = Model.bn (v6 (ix2 0 d)) (v8 (ix2 0 d)) (v19 (ix2 0 d)) (v24 (ix2 0 d)) (v4 (ix4 0 i k d)) := by
  pointwise [k2_pay4]
  rfl

theorem k2_pay5_at (v4 : Vec Ideal S1x512x16x3 .f32) (v6 v8 v19 v24 : Vec Ideal S1x3 .f32) (i : Fin 512) (k : Fin 16) (d : Fin 3) :
    k2_pay5 (F := Ideal) v4 v6 v8 v19 v24 (ix3 i k d) = Model.half * Model.bn (v6 (ix2 0 d)) (v8 (ix2 0 d)) (v19 (ix2 0 d)) (v24 (ix2 0 d)) (v4 (ix4 0 i k d)) := by
  pointwise [k2_pay5]
  rw [k2_pay4_at]
  rfl

theorem k2_pay6_at (v4 : Vec Ideal S1x512x16x3 .f32) (v6 v8 v19 v24 : Vec Ideal S1x3 .f32) (i : Fin 512) (k : Fin 16) (d : Fin 3) :
    k2_pay6 (F := Ideal) v4 v6 v8 v19 v24 (ix3 i k d) = Ideal.erf (Model.bn (v6 (ix2 0 d)) (v8 (ix2 0 d)) (v19 (ix2 0 d)) (v24 (ix2 0 d)) (v4 (ix4 0 i k d)) * Model.rsqrt2) := by
  pointwise [k2_pay6]
  rw [k2_pay4_at]
  rfl

theorem k2_pay7_at (i : Fin 512) (k : Fin 16) (d : Fin 3) : k2_pay7 (F := Ideal) (ix3 i k d) = 1 := by
  pointwise [k2_pay7]

theorem k2_pay9_at (v1 : FVec Ideal S512x64 .f32) (v3 : FVec Ideal S512x16x64 .f32) (v30 v33 v34 : FVec Ideal S512x16x3 .f32) (v38 : Vec Ideal S3x64 .f32) (v41 : Vec Ideal S1x64 .f32)
    (v47 : Vec Ideal S64x64 .f32) (v50 : Vec Ideal S1x64 .f32) (v56 : Vec Ideal S64x64 .f32) (v59 v69 : Vec Ideal S1x64 .f32) (i : Fin 512) (k : Fin 16) (d : Fin 64) :
    k2_pay9 (F := Ideal) v1 v3 v30 v33 v34 v38 v41 v47 v50 v56 v59 v69 (ix3 i k d) =
      Model.lin (mat v47) (row v50) (fun a => v1 (ix2 i a)) d - Model.lin (mat v56) (row v59) (fun a => v3 (ix3 i k a)) d
        + Model.lin (mat v38) (row v41) (fun a => v30 (ix3 i k a) * (v34 (ix3 i k a) + v33 (ix3 i k a))) d - v69 (ix2 0 d) := by
  pointwise [k2_pay9]
  rfl

theorem k2_pay8_at (v : Vec Ideal S1x64 .f32) (d : Fin 64) : k2_pay8 (F := Ideal) v (ix1 d) = v (ix2 0 d) := by
  pointwise [k2_pay8]

theorem k2_pay10_at (v72 : FVec Ideal S64 .f32) (v75 : FVec Ideal S512x16x64 .f32) (v82 v87 : Vec Ideal S1x64 .f32)
    (v101 : Vec Ideal S64x64 .f32) (v104 : Vec Ideal S1x64 .f32) (i : Fin 512) (k : Fin 16) (d : Fin 64) :
    k2_pay10 (F := Ideal) v72 v75 v82 v87 v101 v104 (ix3 i k d) =
      Model.lin (mat v101) (row v104) (fun a => Model.gelu (Ideal.div (v75 (ix3 i k a)) (Ideal.sqrt (v72 (ix1 a) + Model.eps)) * v82 (ix2 0 a) + v87 (ix2 0 a))) d := by
  pointwise [k2_pay10]
  rfl

theorem k2_pay13_at (v72 : FVec Ideal S64 .f32) (v75 : FVec Ideal S512x16x64 .f32) (v82 v87 : Vec Ideal S1x64 .f32) (v101 : Vec Ideal S64x64 .f32) (v104 : Vec Ideal S1x64 .f32) (i : Fin 512) (k : Fin 16) (d : Fin 64) :
    k2_pay13 (F := Ideal) v72 v75 v82 v87 v101 v104 (ix3 i k d) = k2_pay10 (F := Ideal) v72 v75 v82 v87 v101 v104 (ix3 i k d) * k2_pay10 (F := Ideal) v72 v75 v82 v87 v101 v104 (ix3 i k d) := by
  pointwise [k2_pay13]

theorem k2_pay12_at (v72 : FVec Ideal S64 .f32) (v75 : FVec Ideal S512x16x64 .f32) (v82 v87 : Vec Ideal S1x64 .f32) (v101 : Vec Ideal S64x64 .f32) (v104 : Vec Ideal S1x64 .f32) (d : Fin 64) :
    k2_pay12 (F := Ideal) v72 v75 v82 v87 v101 v104 (ix1 d) = ∑ p : Fin 8192, k2_pay10 (F := Ideal) v72 v75 v82 v87 v101 v104 (ix3 (⟨p.val / 16, by omega⟩ : Fin 512) (⟨p.val % 16, by omega⟩ : Fin 16) d) := by
  pointwise [k2_pay12]

theorem k2_pay11_at (r : Fin 2) (d : Fin 64) : k2_pay11 (F := Ideal) (ix2 r d) = 0 := by
  pointwise [k2_pay11]

theorem k2_pay1_at0 (v116 : FVec Ideal S64 .f32) (v117 : FVec Ideal S512x16x64 .f32) (v120 : Vec Ideal S2x64 .f32) (d : Fin 64) :
    k2_pay1 (F := Ideal) v116 v117 v120 (ix2 0 d) = v120 (ix2 0 d) + v116 (ix1 d) := by
  pointwise [k2_pay1]

theorem k2_pay1_at1 (v116 : FVec Ideal S64 .f32) (v117 : FVec Ideal S512x16x64 .f32) (v120 : Vec Ideal S2x64 .f32) (d : Fin 64) :
    k2_pay1 (F := Ideal) v116 v117 v120 (ix2 1 d) = v120 (ix2 1 d) + ∑ p : Fin 8192, v117 (ix3 (⟨p.val / 16, by omega⟩ : Fin 512) (⟨p.val % 16, by omega⟩ : Fin 16) d) := by
  pointwise [k2_pay1]

end Cert.KernelIdeal.Hand
end
-- ==== Proof.Blk2.lean ====
/-
  The third call's input blocks read at coordinates.
-/
module

public import proofs.«01_k».proof.Proof.Pay2
public import proofs.«01_k».proof.Proof.Frame.Region2

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx2_0 : ∀ t : Fin cfg2.N, win2_0.index t = ![t.val / 16, t.val % 16, 0] := by decide +kernel
theorem idx2_1 : ∀ t : Fin cfg2.N, win2_1.index t = ![t.val / 16, t.val % 16, 0, 0] := by decide +kernel
theorem idx2_2 : ∀ t : Fin cfg2.N, win2_2.index t = ![t.val / 16, t.val % 16, 0, 0] := by decide +kernel
theorem idx2_3 : ∀ t : Fin cfg2.N, win2_3.index t = ![0, 0] := by decide +kernel
theorem idx2_4 : ∀ t : Fin cfg2.N, win2_4.index t = ![0, 0] := by decide +kernel
theorem idx2_5 : ∀ t : Fin cfg2.N, win2_5.index t = ![0, 0] := by decide +kernel
theorem idx2_6 : ∀ t : Fin cfg2.N, win2_6.index t = ![0, 0] := by decide +kernel
theorem idx2_7 : ∀ t : Fin cfg2.N, win2_7.index t = ![0, 0] := by decide +kernel
theorem idx2_8 : ∀ t : Fin cfg2.N, win2_8.index t = ![0, 0] := by decide +kernel
theorem idx2_9 : ∀ t : Fin cfg2.N, win2_9.index t = ![0, 0] := by decide +kernel
theorem idx2_10 : ∀ t : Fin cfg2.N, win2_10.index t = ![0, 0] := by decide +kernel
theorem idx2_11 : ∀ t : Fin cfg2.N, win2_11.index t = ![0, 0] := by decide +kernel
theorem idx2_12 : ∀ t : Fin cfg2.N, win2_12.index t = ![0, 0] := by decide +kernel
theorem idx2_13 : ∀ t : Fin cfg2.N, win2_13.index t = ![0, 0] := by decide +kernel
theorem idx2_14 : ∀ t : Fin cfg2.N, win2_14.index t = ![0, 0] := by decide +kernel
theorem idx2_15 : ∀ t : Fin cfg2.N, win2_15.index t = ![0, 0] := by decide +kernel
theorem idx2_16 : ∀ t : Fin cfg2.N, win2_16.index t = ![0, 0] := by decide +kernel

/-! The windows of weights and statistics hold the whole array at every point. -/

theorem iblk2_3_eq (c : Dev nD) (t : Fin cfg2.N) : iblk2 V c 3 t = (V c (Pipeline.arrRef spec2 3) : Vec Ideal S2x3 .f32) := by
  funext y
  blk_ext! [iblk2, idx2_3 t]

theorem iblk2_4_eq (c : Dev nD) (t : Fin cfg2.N) : iblk2 V c 4 t = (V c (Pipeline.arrRef spec2 4) : Vec Ideal S3x64 .f32) := by
  funext y
  blk_ext! [iblk2, idx2_4 t]

theorem iblk2_5_eq (c : Dev nD) (t : Fin cfg2.N) : iblk2 V c 5 t = (V c (Pipeline.arrRef spec2 5) : Vec Ideal S1x64 .f32) := by
  funext y
  blk_ext! [iblk2, idx2_5 t]

theorem iblk2_6_eq (c : Dev nD) (t : Fin cfg2.N) : iblk2 V c 6 t = (V c (Pipeline.arrRef spec2 6) : Vec Ideal S1x3 .f32) := by
  funext y
  blk_ext! [iblk2, idx2_6 t]

theorem iblk2_7_eq (c : Dev nD) (t : Fin cfg2.N) : iblk2 V c 7 t = (V c (Pipeline.arrRef spec2 7) : Vec Ideal S1x3 .f32) := by
  funext y
  blk_ext! [iblk2, idx2_7 t]

theorem iblk2_8_eq (c : Dev nD) (t : Fin cfg2.N) : iblk2 V c 8 t = (V c (Pipeline.arrRef spec2 8) : Vec Ideal S64x64 .f32) := by
  funext y
  blk_ext! [iblk2, idx2_8 t]

theorem iblk2_9_eq (c : Dev nD) (t : Fin cfg2.N) : iblk2 V c 9 t = (V c (Pipeline.arrRef spec2 9) : Vec Ideal S1x64 .f32) := by
  funext y
  blk_ext! [iblk2, idx2_9 t]

theorem iblk2_10_eq (c : Dev nD) (t : Fin cfg2.N) : iblk2 V c 10 t = (V c (Pipeline.arrRef spec2 10) : Vec Ideal S64x64 .f32) := by
  funext y
  blk_ext! [iblk2, idx2_10 t]

theorem iblk2_11_eq (c : Dev nD) (t : Fin cfg2.N) : iblk2 V c 11 t = (V c (Pipeline.arrRef spec2 11) : Vec Ideal S1x64 .f32) := by
  funext y
  blk_ext! [iblk2, idx2_11 t]

theorem iblk2_12_eq (c : Dev nD) (t : Fin cfg2.N) : iblk2 V c 12 t = (V c (Pipeline.arrRef spec2 12) : Vec Ideal S2x64 .f32) := by
  funext y
  blk_ext! [iblk2, idx2_12 t]

theorem iblk2_13_eq (c : Dev nD) (t : Fin cfg2.N) : iblk2 V c 13 t = (V c (Pipeline.arrRef spec2 13) : Vec Ideal S1x64 .f32) := by
  funext y
  blk_ext! [iblk2, idx2_13 t]

theorem iblk2_14_eq (c : Dev nD) (t : Fin cfg2.N) : iblk2 V c 14 t = (V c (Pipeline.arrRef spec2 14) : Vec Ideal S1x64 .f32) := by
  funext y
  blk_ext! [iblk2, idx2_14 t]

theorem iblk2_15_eq (c : Dev nD) (t : Fin cfg2.N) : iblk2 V c 15 t = (V c (Pipeline.arrRef spec2 15) : Vec Ideal S64x64 .f32) := by
  funext y
  blk_ext! [iblk2, idx2_15 t]

theorem iblk2_16_eq (c : Dev nD) (t : Fin cfg2.N) : iblk2 V c 16 t = (V c (Pipeline.arrRef spec2 16) : Vec Ideal S1x64 .f32) := by
  funext y
  blk_ext! [iblk2, idx2_16 t]

theorem iblk2_0_at (c : Dev nD) (t : Fin cfg2.N) (i : Fin 512) (a : Fin 64) (b : Fin 4) (n : Fin 8192) (hb : b.val = t.val / 16) (hn : n.val = (t.val % 16) * 512 + i.val) :
    iblk2 V c 0 t (ix3 0 i a) = (V c (Pipeline.arrRef spec2 0) : Vec Ideal S4x8192x64 .f32) (ix3 b n a) := by
  blk_ext! [iblk2, idx2_0 t]

theorem iblk2_1_at (c : Dev nD) (t : Fin cfg2.N) (i : Fin 512) (k : Fin 16) (a : Fin 64) (b : Fin 4) (n : Fin 8192) (hb : b.val = t.val / 16) (hn : n.val = (t.val % 16) * 512 + i.val) :
    iblk2 V c 1 t (ix4 0 i k a) = (V c (Pipeline.arrRef spec2 1) : Vec Ideal S4x8192x16x64 .f32) (ix4 b n k a) := by
  blk_ext! [iblk2, idx2_1 t]

theorem iblk2_2_at (c : Dev nD) (t : Fin cfg2.N) (i : Fin 512) (k : Fin 16) (a : Fin 3) (b : Fin 4) (n : Fin 8192) (hb : b.val = t.val / 16) (hn : n.val = (t.val % 16) * 512 + i.val) :
    iblk2 V c 2 t (ix4 0 i k a) = (V c (Pipeline.arrRef spec2 2) : Vec Ideal S4x8192x16x3 .f32) (ix4 b n k a) := by
  blk_ext! [iblk2, idx2_2 t]

end Cert.KernelIdeal.Hand
end
-- ==== Proof.Val2.lean ====
/-
  The third call's result: the sums of the second attention layer's values and of their squares over every row.
-/
module

public import proofs.«01_k».proof.Proof.Blk2

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- One row of the second attention layer, from the call's arrays. -/
def rowG2 (c : Dev nD) (b : Fin 4) (n : Fin 8192) (k : Fin 16) (d : Fin 64) : EReal :=
  Model.attn (par2 (V c (Pipeline.arrRef spec2 12)) (V c (Pipeline.arrRef spec2 13)) (V c (Pipeline.arrRef spec2 14)) (V c (Pipeline.arrRef spec2 15)) (V c (Pipeline.arrRef spec2 16))) (Model.g1 (par1 (V c (Pipeline.arrRef spec2 3)) (V c (Pipeline.arrRef spec2 4)) (V c (Pipeline.arrRef spec2 5)) (V c (Pipeline.arrRef spec2 6)) (V c (Pipeline.arrRef spec2 7)) (V c (Pipeline.arrRef spec2 8)) (V c (Pipeline.arrRef spec2 9)) (V c (Pipeline.arrRef spec2 10)) (V c (Pipeline.arrRef spec2 11))) (fun a => (V c (Pipeline.arrRef spec2 0) : Vec Ideal S4x8192x64 .f32) (ix3 b n a)) (fun a => (V c (Pipeline.arrRef spec2 1) : Vec Ideal S4x8192x16x64 .f32) (ix4 b n k a)) (fun a => (V c (Pipeline.arrRef spec2 2) : Vec Ideal S4x8192x16x3 .f32) (ix4 b n k a))) d

/-- What one point of the grid adds. -/
def term2 (c : Dev nD) (t : Fin cfg2.N) (y : S2x64.Idx) : EReal :=
  ∑ p : Fin 8192, Model.sel (y 0) (rowG2 V c ⟨t.val / 16, by have : t.val < 64 := t.isLt; omega⟩ ⟨(t.val % 16) * 512 + p.val / 16, by omega⟩ ⟨p.val % 16, by omega⟩ (y 1))

/-- One row of a block. -/
theorem payRow2 (x0 : Vec Ideal S1x512x64 .f32) (x1 : Vec Ideal S1x512x16x64 .f32) (x2 : Vec Ideal S1x512x16x3 .f32) (x3 : Vec Ideal S2x3 .f32) (x4 : Vec Ideal S3x64 .f32) (x5 : Vec Ideal S1x64 .f32) (x6 : Vec Ideal S1x3 .f32) (x7 : Vec Ideal S1x3 .f32) (x8 : Vec Ideal S64x64 .f32) (x9 : Vec Ideal S1x64 .f32) (x10 : Vec Ideal S64x64 .f32) (x11 : Vec Ideal S1x64 .f32) (x12 : Vec Ideal S2x64 .f32) (x13 : Vec Ideal S1x64 .f32) (x14 : Vec Ideal S1x64 .f32) (x15 : Vec Ideal S64x64 .f32) (x16 : Vec Ideal S1x64 .f32) (i : Fin 512) (k : Fin 16) (d : Fin 64) :
    k2_pay10 (F := Ideal) (k2_pay8 (View.ld x12 (Rect.unit ![1, 0] ![1, 64] inb_S2x64_S1x64_1_0))) (k2_pay9 (k2_pay2 x0) (k2_pay3 x1) (k2_pay5 x2 (View.ld x3 (Rect.unit ![0, 0] ![1, 3] inb_S2x3_S1x3_0_0)) (View.ld x3 (Rect.unit ![1, 0] ![1, 3] inb_S2x3_S1x3_1_0)) x6 x7) (k2_pay6 x2 (View.ld x3 (Rect.unit ![0, 0] ![1, 3] inb_S2x3_S1x3_0_0)) (View.ld x3 (Rect.unit ![1, 0] ![1, 3] inb_S2x3_S1x3_1_0)) x6 x7) k2_pay7 x4 x5 x8 x9 x10 x11 (View.ld x12 (Rect.unit ![0, 0] ![1, 64] inb_S2x64_S1x64_0_0))) x13 x14 x15 x16 (ix3 i k d) = Model.attn (par2 x12 x13 x14 x15 x16) (Model.g1 (par1 x3 x4 x5 x6 x7 x8 x9 x10 x11) (fun a => x0 (ix3 0 i a)) (fun a => x1 (ix4 0 i k a)) (fun a => x2 (ix4 0 i k a))) d := by
  rw [k2_pay10_at]
  simp only [k2_pay9_at, k2_pay8_at, k2_pay2_at, k2_pay3_at, k2_pay5_at, k2_pay6_at, k2_pay7_at]
  pointwise
  rfl

/-- One block's contribution to the running sums. -/
theorem payStep2 (x0 : Vec Ideal S1x512x64 .f32) (x1 : Vec Ideal S1x512x16x64 .f32) (x2 : Vec Ideal S1x512x16x3 .f32) (x3 : Vec Ideal S2x3 .f32) (x4 : Vec Ideal S3x64 .f32) (x5 : Vec Ideal S1x64 .f32) (x6 : Vec Ideal S1x3 .f32) (x7 : Vec Ideal S1x3 .f32) (x8 : Vec Ideal S64x64 .f32) (x9 : Vec Ideal S1x64 .f32) (x10 : Vec Ideal S64x64 .f32) (x11 : Vec Ideal S1x64 .f32) (x12 : Vec Ideal S2x64 .f32) (x13 : Vec Ideal S1x64 .f32) (x14 : Vec Ideal S1x64 .f32) (x15 : Vec Ideal S64x64 .f32) (x16 : Vec Ideal S1x64 .f32) (acc : Vec Ideal S2x64 .f32) (y : S2x64.Idx) :
    k2_pay1 (F := Ideal) (k2_pay12 (k2_pay8 (View.ld x12 (Rect.unit ![1, 0] ![1, 64] inb_S2x64_S1x64_1_0))) (k2_pay9 (k2_pay2 x0) (k2_pay3 x1) (k2_pay5 x2 (View.ld x3 (Rect.unit ![0, 0] ![1, 3] inb_S2x3_S1x3_0_0)) (View.ld x3 (Rect.unit ![1, 0] ![1, 3] inb_S2x3_S1x3_1_0)) x6 x7) (k2_pay6 x2 (View.ld x3 (Rect.unit ![0, 0] ![1, 3] inb_S2x3_S1x3_0_0)) (View.ld x3 (Rect.unit ![1, 0] ![1, 3] inb_S2x3_S1x3_1_0)) x6 x7) k2_pay7 x4 x5 x8 x9 x10 x11 (View.ld x12 (Rect.unit ![0, 0] ![1, 64] inb_S2x64_S1x64_0_0))) x13 x14 x15 x16) (k2_pay13 (k2_pay8 (View.ld x12 (Rect.unit ![1, 0] ![1, 64] inb_S2x64_S1x64_1_0))) (k2_pay9 (k2_pay2 x0) (k2_pay3 x1) (k2_pay5 x2 (View.ld x3 (Rect.unit ![0, 0] ![1, 3] inb_S2x3_S1x3_0_0)) (View.ld x3 (Rect.unit ![1, 0] ![1, 3] inb_S2x3_S1x3_1_0)) x6 x7) (k2_pay6 x2 (View.ld x3 (Rect.unit ![0, 0] ![1, 3] inb_S2x3_S1x3_0_0)) (View.ld x3 (Rect.unit ![1, 0] ![1, 3] inb_S2x3_S1x3_1_0)) x6 x7) k2_pay7 x4 x5 x8 x9 x10 x11 (View.ld x12 (Rect.unit ![0, 0] ![1, 64] inb_S2x64_S1x64_0_0))) x13 x14 x15 x16) acc y = acc y + ∑ p : Fin 8192, Model.sel (y 0) (Model.attn (par2 x12 x13 x14 x15 x16) (Model.g1 (par1 x3 x4 x5 x6 x7 x8 x9 x10 x11) (fun a => x0 (ix3 0 ⟨p.val / 16, by omega⟩ a)) (fun a => x1 (ix4 0 ⟨p.val / 16, by omega⟩ ⟨p.val % 16, by omega⟩ a)) (fun a => x2 (ix4 0 ⟨p.val / 16, by omega⟩ ⟨p.val % 16, by omega⟩ a))) (y 1)) := by
  obtain ⟨r, d, rfl⟩ : ∃ (r : Fin 2) (d : Fin 64), y = ix2 r d := ⟨y 0, y 1, eq_ix2 y⟩
  fin_cases r
  · refine (k2_pay1_at0 _ _ _ d).trans (congrArg (acc (ix2 0 d) + ·) ?_)
    rw [k2_pay12_at]
    refine Finset.sum_congr rfl fun p _ => ?_
    rw [payRow2]
    rfl
  · refine (k2_pay1_at1 _ _ _ d).trans (congrArg (acc (ix2 1 d) + ·) (Finset.sum_congr rfl fun p _ => ?_))
    rw [k2_pay13_at, payRow2]
    rfl

/-- The contribution of a point's blocks is its term. -/
theorem term2_eq (c : Dev nD) (t : Fin cfg2.N) (y : S2x64.Idx) :
    (∑ p : Fin 8192, Model.sel (y 0) (Model.attn (par2 (iblk2 V c 12 t) (iblk2 V c 13 t) (iblk2 V c 14 t) (iblk2 V c 15 t) (iblk2 V c 16 t)) (Model.g1 (par1 (iblk2 V c 3 t) (iblk2 V c 4 t) (iblk2 V c 5 t) (iblk2 V c 6 t) (iblk2 V c 7 t) (iblk2 V c 8 t) (iblk2 V c 9 t) (iblk2 V c 10 t) (iblk2 V c 11 t)) (fun a => iblk2 V c 0 t (ix3 0 ⟨p.val / 16, by omega⟩ a)) (fun a => iblk2 V c 1 t (ix4 0 ⟨p.val / 16, by omega⟩ ⟨p.val % 16, by omega⟩ a)) (fun a => iblk2 V c 2 t (ix4 0 ⟨p.val / 16, by omega⟩ ⟨p.val % 16, by omega⟩ a))) (y 1))) = term2 V c t y := by
  unfold term2 rowG2
  refine Finset.sum_congr rfl fun p _ => congrArg (Model.sel (y 0)) ?_
  have hb : (⟨t.val / 16, by have : t.val < 64 := t.isLt; omega⟩ : Fin 4).val = t.val / 16 := rfl
  have hn : (⟨(t.val % 16) * 512 + p.val / 16, by omega⟩ : Fin 8192).val = (t.val % 16) * 512 + (⟨p.val / 16, by omega⟩ : Fin 512).val := rfl
  simp only [iblk2_3_eq V c t, iblk2_4_eq V c t, iblk2_5_eq V c t, iblk2_6_eq V c t, iblk2_7_eq V c t, iblk2_8_eq V c t, iblk2_9_eq V c t, iblk2_10_eq V c t, iblk2_11_eq V c t, iblk2_12_eq V c t, iblk2_13_eq V c t, iblk2_14_eq V c t, iblk2_15_eq V c t, iblk2_16_eq V c t, iblk2_0_at V c t _ _ _ _ hb hn, iblk2_1_at V c t _ _ _ _ _ hb hn, iblk2_2_at V c t _ _ _ _ _ hb hn]

theorem stepA2 (c : Dev nD) (t : Fin cfg2.N) (h : t.val % 64 = 0) (y : S2x64.Idx) : outsAt2 V c t.val t.isLt y = 0 + term2 V c t y := by
  rw [outsAt2_A V c t h]
  frame_out
  refine (payStep2 _ _ _ _ _ _ _ _ _ _ _ _ _ _ _ _ _ _ y).trans ?_
  rw [term2_eq]
  refine congrArg (· + term2 V c t y) ?_
  obtain ⟨r, d, rfl⟩ : ∃ (r : Fin 2) (d : Fin 64), y = ix2 r d := ⟨y 0, y 1, eq_ix2 y⟩
  exact k2_pay11_at r d

theorem stepB2 (c : Dev nD) (t : Fin cfg2.N) (h : ¬ t.val % 64 = 0) (y : S2x64.Idx) :
    outsAt2 V c t.val t.isLt y = outsAt2 V c (t.val - 1) (Nat.lt_of_le_of_lt (Nat.sub_le _ _) t.isLt) y + term2 V c t y := by
  rw [outsAt2_B V c t h]
  frame_out
  refine (payStep2 _ _ _ _ _ _ _ _ _ _ _ _ _ _ _ _ _ _ y).trans ?_
  rw [term2_eq]

/-- The last point of the grid. -/
abbrev last2 : Fin cfg2.N := ⟨63, by decide⟩

theorem total2 (c : Dev nD) (y : S2x64.Idx) : outsAt2 V c (last2).val (last2).isLt y = Model.sums (rowG2 V c) (y 0) (y 1) := by
  have h := Pipeline.eq_sum_of_reset_step_apply_single (N := cfg2.N) (fun n h => outsAt2 V c n h) 64 (fun _ => 0)
    (fun n y => if h : n < 64 then term2 V c ⟨n, h⟩ y else 0)
    (fun t h y => by rw [stepA2 V c t h y, dif_pos (show t.val < 64 from t.isLt)])
    (fun t h y => by rw [stepB2 V c t h y, dif_pos (show t.val < 64 from t.isLt)])
    (le_of_eq rfl) last2 y
  refine h.trans ?_
  rw [zero_add]
  refine (Finset.sum_range _).trans ?_
  unfold Model.sums
  rw [← Model.sum_blocks512 (fun b i k => Model.sel (y 0) (rowG2 V c b i k (y 1)))]
  refine Finset.sum_congr rfl fun t _ => ?_
  exact dif_pos t.isLt

theorem arr2 (c : Dev nD) : (dat2 V c).arrAt 17 cfg2.N = fun y : S2x64.Idx => Model.sums (rowG2 V c) (y 0) (y 1) := by
  refine (dat2 V c).arrAt_eq_of_after_last 17 last2 (by decide +kernel) _ fun j => ?_
  blk_simp
  rw [after2_17]
  exact total2 V c j

end Cert.KernelIdeal.Hand
end
-- ==== Proof.Blk3.lean ====
/-
  The last call's blocks read at coordinates, and its body's result as the model's output row.
-/
module

public import proofs.«01_k».proof.Proof.Pay3
public import proofs.«01_k».proof.Proof.Frame.Region3

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

theorem out3_at (x0 : Vec Ideal S1x512x64 .f32) (x1 : Vec Ideal S1x512x16x64 .f32) (x2 : Vec Ideal S1x512x16x3 .f32) (x3 : Vec Ideal S2x3 .f32) (x4 : Vec Ideal S3x64 .f32) (x5 : Vec Ideal S1x64 .f32) (x6 : Vec Ideal S1x3 .f32) (x7 : Vec Ideal S1x3 .f32) (x8 : Vec Ideal S64x64 .f32) (x9 : Vec Ideal S1x64 .f32) (x10 : Vec Ideal S64x64 .f32) (x11 : Vec Ideal S1x64 .f32) (x12 : Vec Ideal S2x64 .f32) (x13 : Vec Ideal S1x64 .f32) (x14 : Vec Ideal S1x64 .f32) (x15 : Vec Ideal S64x64 .f32) (x16 : Vec Ideal S1x64 .f32) (x17 : Vec Ideal S2x64 .f32) (x18 : Vec Ideal S1x64 .f32) (x19 : Vec Ideal S1x64 .f32) (x20 : Vec Ideal S64x64 .f32) (x21 : Vec Ideal S1x64 .f32) (x22 : Vec Ideal S64x64 .f32) (x23 : Vec Ideal S1x64 .f32) (i : Fin 512) (d : Fin 64) :
    out3_24 (F := Ideal) x0 x1 x2 x3 x4 x5 x6 x7 x8 x9 x10 x11 x12 x13 x14 x15 x16 x17 x18 x19 x20 x21 x22 x23 (ix3 0 i d) =
      Model.out (par1 x3 x4 x5 x6 x7 x8 x9 x10 x11) (par2 x12 x13 x14 x15 x16) (par2 x17 x18 x19 x20 x21) (mat x22) (row x23)
        (fun a => x0 (ix3 0 i a)) (fun k a => x1 (ix4 0 i k a)) (fun k a => x2 (ix4 0 i k a)) d := by
  frame_out
  rw [k3_pay1_at]
  refine Finset.sum_congr rfl fun k _ => ?_
  rw [k3_pay14_at, k3_pay8_at]
  simp only [k3_pay12_at, k3_pay10_at, k3_pay15_at, k3_pay11_at, k3_pay9_at, k3_pay13_at, k3_pay2_at, k3_pay16, k3_pay17, k3_pay18, k3_pay19,
    k3_pay3_at, k3_pay5_at, k3_pay6_at, k3_pay7_at]
  pointwise
  rfl

variable (V : (c : Dev nD) → (b : Ref sig .tc) → Buf (Elt Ideal) ((c : Thread nD τ).loc b))

theorem idx3_0 : ∀ t : Fin cfg3.N, win3_0.index t = ![t.val / 16, t.val % 16, 0] := by decide +kernel
theorem idx3_1 : ∀ t : Fin cfg3.N, win3_1.index t = ![t.val / 16, t.val % 16, 0, 0] := by decide +kernel
theorem idx3_2 : ∀ t : Fin cfg3.N, win3_2.index t = ![t.val / 16, t.val % 16, 0, 0] := by decide +kernel
theorem idx3_3 : ∀ t : Fin cfg3.N, win3_3.index t = ![0, 0] := by decide +kernel
theorem idx3_4 : ∀ t : Fin cfg3.N, win3_4.index t = ![0, 0] := by decide +kernel
theorem idx3_5 : ∀ t : Fin cfg3.N, win3_5.index t = ![0, 0] := by decide +kernel
theorem idx3_6 : ∀ t : Fin cfg3.N, win3_6.index t = ![0, 0] := by decide +kernel
theorem idx3_7 : ∀ t : Fin cfg3.N, win3_7.index t = ![0, 0] := by decide +kernel
theorem idx3_8 : ∀ t : Fin cfg3.N, win3_8.index t = ![0, 0] := by decide +kernel
theorem idx3_9 : ∀ t : Fin cfg3.N, win3_9.index t = ![0, 0] := by decide +kernel
theorem idx3_10 : ∀ t : Fin cfg3.N, win3_10.index t = ![0, 0] := by decide +kernel
theorem idx3_11 : ∀ t : Fin cfg3.N, win3_11.index t = ![0, 0] := by decide +kernel
theorem idx3_12 : ∀ t : Fin cfg3.N, win3_12.index t = ![0, 0] := by decide +kernel
theorem idx3_13 : ∀ t : Fin cfg3.N, win3_13.index t = ![0, 0] := by decide +kernel
theorem idx3_14 : ∀ t : Fin cfg3.N, win3_14.index t = ![0, 0] := by decide +kernel
theorem idx3_15 : ∀ t : Fin cfg3.N, win3_15.index t = ![0, 0] := by decide +kernel
theorem idx3_16 : ∀ t : Fin cfg3.N, win3_16.index t = ![0, 0] := by decide +kernel
theorem idx3_17 : ∀ t : Fin cfg3.N, win3_17.index t = ![0, 0] := by decide +kernel
theorem idx3_18 : ∀ t : Fin cfg3.N, win3_18.index t = ![0, 0] := by decide +kernel
theorem idx3_19 : ∀ t : Fin cfg3.N, win3_19.index t = ![0, 0] := by decide +kernel
theorem idx3_20 : ∀ t : Fin cfg3.N, win3_20.index t = ![0, 0] := by decide +kernel
theorem idx3_21 : ∀ t : Fin cfg3.N, win3_21.index t = ![0, 0] := by decide +kernel
theorem idx3_22 : ∀ t : Fin cfg3.N, win3_22.index t = ![0, 0] := by decide +kernel
theorem idx3_23 : ∀ t : Fin cfg3.N, win3_23.index t = ![0, 0] := by decide +kernel

/-! The windows of weights and statistics hold the whole array at every point. -/

theorem iblk3_3_eq (c : Dev nD) (t : Fin cfg3.N) : iblk3 V c 3 t = (V c (Pipeline.arrRef spec3 3) : Vec Ideal S2x3 .f32) := by
  funext y
  blk_ext! [iblk3, idx3_3 t]

theorem iblk3_4_eq (c : Dev nD) (t : Fin cfg3.N) : iblk3 V c 4 t = (V c (Pipeline.arrRef spec3 4) : Vec Ideal S3x64 .f32) := by
  funext y
  blk_ext! [iblk3, idx3_4 t]

theorem iblk3_5_eq (c : Dev nD) (t : Fin cfg3.N) : iblk3 V c 5 t = (V c (Pipeline.arrRef spec3 5) : Vec Ideal S1x64 .f32) := by
  funext y
  blk_ext! [iblk3, idx3_5 t]

theorem iblk3_6_eq (c : Dev nD) (t : Fin cfg3.N) : iblk3 V c 6 t = (V c (Pipeline.arrRef spec3 6) : Vec Ideal S1x3 .f32) := by
  funext y
  blk_ext! [iblk3, idx3_6 t]

theorem iblk3_7_eq (c : Dev nD) (t : Fin cfg3.N) : iblk3 V c 7 t = (V c (Pipeline.arrRef spec3 7) : Vec Ideal S1x3 .f32) := by
  funext y
  blk_ext! [iblk3, idx3_7 t]

theorem iblk3_8_eq (c : Dev nD) (t : Fin cfg3.N) : iblk3 V c 8 t = (V c (Pipeline.arrRef spec3 8) : Vec Ideal S64x64 .f32) := by
  funext y
  blk_ext! [iblk3, idx3_8 t]

theorem iblk3_9_eq (c : Dev nD) (t : Fin cfg3.N) : iblk3 V c 9 t = (V c (Pipeline.arrRef spec3 9) : Vec Ideal S1x64 .f32) := by
  funext y
  blk_ext! [iblk3, idx3_9 t]

theorem iblk3_10_eq (c : Dev nD) (t : Fin cfg3.N) : iblk3 V c 10 t = (V c (Pipeline.arrRef spec3 10) : Vec Ideal S64x64 .f32) := by
  funext y
  blk_ext! [iblk3, idx3_10 t]

theorem iblk3_11_eq (c : Dev nD) (t : Fin cfg3.N) : iblk3 V c 11 t = (V c (Pipeline.arrRef spec3 11) : Vec Ideal S1x64 .f32) := by
  funext y
  blk_ext! [iblk3, idx3_11 t]

theorem iblk3_12_eq (c : Dev nD) (t : Fin cfg3.N) : iblk3 V c 12 t = (V c (Pipeline.arrRef spec3 12) : Vec Ideal S2x64 .f32) := by
  funext y
  blk_ext! [iblk3, idx3_12 t]

theorem iblk3_13_eq (c : Dev nD) (t : Fin cfg3.N) : iblk3 V c 13 t = (V c (Pipeline.arrRef spec3 13) : Vec Ideal S1x64 .f32) := by
  funext y
  blk_ext! [iblk3, idx3_13 t]

theorem iblk3_14_eq (c : Dev nD) (t : Fin cfg3.N) : iblk3 V c 14 t = (V c (Pipeline.arrRef spec3 14) : Vec Ideal S1x64 .f32) := by
  funext y
  blk_ext! [iblk3, idx3_14 t]

theorem iblk3_15_eq (c : Dev nD) (t : Fin cfg3.N) : iblk3 V c 15 t = (V c (Pipeline.arrRef spec3 15) : Vec Ideal S64x64 .f32) := by
  funext y
  blk_ext! [iblk3, idx3_15 t]

theorem iblk3_16_eq (c : Dev nD) (t : Fin cfg3.N) : iblk3 V c 16 t = (V c (Pipeline.arrRef spec3 16) : Vec Ideal S1x64 .f32) := by
  funext y
  blk_ext! [iblk3, idx3_16 t]

theorem iblk3_17_eq (c : Dev nD) (t : Fin cfg3.N) : iblk3 V c 17 t = (V c (Pipeline.arrRef spec3 17) : Vec Ideal S2x64 .f32) := by
  funext y
  blk_ext! [iblk3, idx3_17 t]

theorem iblk3_18_eq (c : Dev nD) (t : Fin cfg3.N) : iblk3 V c 18 t = (V c (Pipeline.arrRef spec3 18) : Vec Ideal S1x64 .f32) := by
  funext y
  blk_ext! [iblk3, idx3_18 t]

theorem iblk3_19_eq (c : Dev nD) (t : Fin cfg3.N) : iblk3 V c 19 t = (V c (Pipeline.arrRef spec3 19) : Vec Ideal S1x64 .f32) := by
  funext y
  blk_ext! [iblk3, idx3_19 t]

theorem iblk3_20_eq (c : Dev nD) (t : Fin cfg3.N) : iblk3 V c 20 t = (V c (Pipeline.arrRef spec3 20) : Vec Ideal S64x64 .f32) := by
  funext y
  blk_ext! [iblk3, idx3_20 t]

theorem iblk3_21_eq (c : Dev nD) (t : Fin cfg3.N) : iblk3 V c 21 t = (V c (Pipeline.arrRef spec3 21) : Vec Ideal S1x64 .f32) := by
  funext y
  blk_ext! [iblk3, idx3_21 t]

theorem iblk3_22_eq (c : Dev nD) (t : Fin cfg3.N) : iblk3 V c 22 t = (V c (Pipeline.arrRef spec3 22) : Vec Ideal S64x64 .f32) := by
  funext y
  blk_ext! [iblk3, idx3_22 t]

theorem iblk3_23_eq (c : Dev nD) (t : Fin cfg3.N) : iblk3 V c 23 t = (V c (Pipeline.arrRef spec3 23) : Vec Ideal S1x64 .f32) := by
  funext y
  blk_ext! [iblk3, idx3_23 t]

theorem iblk3_0_at (c : Dev nD) (t : Fin cfg3.N) (i : Fin 512) (a : Fin 64) (b : Fin 4) (n : Fin 8192) (hb : b.val = t.val / 16) (hn : n.val = (t.val % 16) * 512 + i.val) :
    iblk3 V c 0 t (ix3 0 i a) = (V c (Pipeline.arrRef spec3 0) : Vec Ideal S4x8192x64 .f32) (ix3 b n a) := by
  blk_ext! [iblk3, idx3_0 t]

theorem iblk3_1_at (c : Dev nD) (t : Fin cfg3.N) (i : Fin 512) (k : Fin 16) (a : Fin 64) (b : Fin 4) (n : Fin 8192) (hb : b.val = t.val / 16) (hn : n.val = (t.val % 16) * 512 + i.val) :
    iblk3 V c 1 t (ix4 0 i k a) = (V c (Pipeline.arrRef spec3 1) : Vec Ideal S4x8192x16x64 .f32) (ix4 b n k a) := by
  blk_ext! [iblk3, idx3_1 t]

theorem iblk3_2_at (c : Dev nD) (t : Fin cfg3.N) (i : Fin 512) (k : Fin 16) (a : Fin 3) (b : Fin 4) (n : Fin 8192) (hb : b.val = t.val / 16) (hn : n.val = (t.val % 16) * 512 + i.val) :
    iblk3 V c 2 t (ix4 0 i k a) = (V c (Pipeline.arrRef spec3 2) : Vec Ideal S4x8192x16x3 .f32) (ix4 b n k a) := by
  blk_ext! [iblk3, idx3_2 t]

/-- The whole result of the last call from the arrays it is given. -/
def res3 (c : Dev nD) (b : Fin 4) (n : Fin 8192) (d : Fin 64) : EReal :=
  Model.out
    (par1 (V c (Pipeline.arrRef spec3 3)) (V c (Pipeline.arrRef spec3 4)) (V c (Pipeline.arrRef spec3 5)) (V c (Pipeline.arrRef spec3 6))
      (V c (Pipeline.arrRef spec3 7)) (V c (Pipeline.arrRef spec3 8)) (V c (Pipeline.arrRef spec3 9)) (V c (Pipeline.arrRef spec3 10)) (V c (Pipeline.arrRef spec3 11)))
    (par2 (V c (Pipeline.arrRef spec3 12)) (V c (Pipeline.arrRef spec3 13)) (V c (Pipeline.arrRef spec3 14)) (V c (Pipeline.arrRef spec3 15)) (V c (Pipeline.arrRef spec3 16)))
    (par2 (V c (Pipeline.arrRef spec3 17)) (V c (Pipeline.arrRef spec3 18)) (V c (Pipeline.arrRef spec3 19)) (V c (Pipeline.arrRef spec3 20)) (V c (Pipeline.arrRef spec3 21)))
    (mat (V c (Pipeline.arrRef spec3 22))) (row (V c (Pipeline.arrRef spec3 23)))
    (fun a => (V c (Pipeline.arrRef spec3 0) : Vec Ideal S4x8192x64 .f32) (ix3 b n a))
    (fun k a => (V c (Pipeline.arrRef spec3 1) : Vec Ideal S4x8192x16x64 .f32) (ix4 b n k a))
    (fun k a => (V c (Pipeline.arrRef spec3 2) : Vec Ideal S4x8192x16x3 .f32) (ix4 b n k a)) d

end Cert.KernelIdeal.Hand
end
-- ==== Proof.Val3.lean ====
/-
  The last call's result array: at every point and feature, the model's output row of the call's argument arrays.
-/
module

public import proofs.«01_k».proof.Proof.Blk3
public import proofs.«01_k».proof.Proof.Frame.Region3

@[expose] public section

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem idx3_24 : ∀ t : Fin cfg3.N, win3_24.index t = ![t.val / 16, t.val % 16, 0] := by decide +kernel

set_option maxHeartbeats 2000000 in
/-- One point's block of the result. -/
theorem blk3_out (c : Dev nD) (t : Fin cfg3.N) (i : Fin 512) (d : Fin 64) (b : Fin 4) (n : Fin 8192) (hb : b.val = t.val / 16) (hn : n.val = (t.val % 16) * 512 + i.val) :
    out3_24 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) (ix3 0 i d) = res3 V c b n d := by
  refine (out3_at _ _ _ _ _ _ _ _ _ _ _ _ _ _ _ _ _ _ _ _ _ _ _ _ i d).trans ?_
  rw [iblk3_3_eq V c t, iblk3_4_eq V c t, iblk3_5_eq V c t, iblk3_6_eq V c t, iblk3_7_eq V c t, iblk3_8_eq V c t, iblk3_9_eq V c t, iblk3_10_eq V c t, iblk3_11_eq V c t, iblk3_12_eq V c t, iblk3_13_eq V c t, iblk3_14_eq V c t, iblk3_15_eq V c t, iblk3_16_eq V c t, iblk3_17_eq V c t, iblk3_18_eq V c t, iblk3_19_eq V c t, iblk3_20_eq V c t, iblk3_21_eq V c t, iblk3_22_eq V c t, iblk3_23_eq V c t]
  unfold res3
  simp only [iblk3_0_at V c t i _ b n hb hn, iblk3_1_at V c t i _ _ b n hb hn, iblk3_2_at V c t i _ _ b n hb hn]

theorem emb3 (t : Fin cfg3.N) (y : S1x512x64.Idx) : ((win3_24.blk t).view.emb y 0).val = t.val / 16 ∧ ((win3_24.blk t).view.emb y 1).val = (t.val % 16) * 512 + (y 1).val ∧ (win3_24.blk t).view.emb y 2 = y 2 := by
  refine ⟨?_, ?_, Fin.ext ?_⟩ <;> blk_simp [idx3_24 t]

theorem arr3_point (c : Dev nD) (t : Fin cfg3.N) (y : S1x512x64.Idx) :
    out3_24 (F := Ideal) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (iblk3 V c 16 t) (iblk3 V c 17 t) (iblk3 V c 18 t) (iblk3 V c 19 t) (iblk3 V c 20 t) (iblk3 V c 21 t) (iblk3 V c 22 t) (iblk3 V c 23 t) y = res3 V c ((win3_24.blk t).view.emb y 0) ((win3_24.blk t).view.emb y 1) ((win3_24.blk t).view.emb y 2) := by
  obtain ⟨h0, h1, h2⟩ := emb3 t y
  rw [h2]
  refine Eq.trans ?_ (blk3_out V c t (y 1) (y 2) _ _ h0 h1)
  congr 1
  exact (eq_ix3 y).trans (congrArg (fun z => ix3 z (y 1) (y 2)) (Subsingleton.elim (α := Fin 1) _ _))

theorem arr3 (c : Dev nD) : (dat3 V c).arrAt 24 cfg3.N = fun y : S4x8192x64.Idx => res3 V c (y 0) (y 1) (y 2) := by
  refine (dat3 V c).arrAt_eq_of_covers 24 _ (by decide +kernel) fun t hf y => ?_
  blk_simp
  rw [after3_24]
  exact arr3_point V c t y

end Cert.KernelIdeal.Hand
end
-- ==== Proof.ArgsK.lean ====
/-
  The kernel's arguments by plain indices, and the parts of the mathematics a call's arrays hold.
-/
module

public import proofs.«01_k».proof.Proof.Hosts
public import proofs.«01_k».proof.Proof.Sum0
public import proofs.«01_k».proof.Proof.Val1
public import proofs.«01_k».proof.Proof.Val2
public import proofs.«01_k».proof.Proof.Val3

@[expose] public section

noncomputable section

namespace Cert.KernelIdeal.Hand

open Idealize.ShloMosaic Idealize.ShloMosaic.TcCoe Idealize.ShloMosaic.Tactic
open Cert.KernelIdeal Cert.KernelIdeal.Gen

/-- A vector of the program by its index. -/
abbrev vec {n : ℕ} (v : Vec Ideal (⟨1, ![n]⟩ : Shape) .f32) : Fin n → EReal := fun b => v (ix1 b)

/-- A three axis array by its indices. -/
abbrev cube {n k l : ℕ} (v : Vec Ideal (⟨3, ![n, k, l]⟩ : Shape) .f32) : Fin n → Fin k → Fin l → EReal := fun a b d => v (ix3 a b d)

/-- A four axis array by its indices. -/
abbrev quad {n k l p : ℕ} (v : Vec Ideal (⟨4, ![n, k, l, p]⟩ : Shape) .f32) : Fin n → Fin k → Fin l → Fin p → EReal :=
  fun a b d e => v (ix4 a b d e)

/-- The arguments as launched. -/
def argsOf (m : (ℓ : Loc nD τ sig) → Buf (Elt Ideal) ℓ) (c : Dev nD) : Model.Args where
  feats := cube (m ((c : Thread nD τ).loc main_arg0) : Vec Ideal S4x8192x64 .f32)
  points := cube (m ((c : Thread nD τ).loc main_arg1) : Vec Ideal S4x8192x3 .f32)
  wq := mat (m ((c : Thread nD τ).loc main_arg2) : Vec Ideal S64x64 .f32)
  bq := vec (m ((c : Thread nD τ).loc main_arg3) : Vec Ideal S64 .f32)
  wk := mat (m ((c : Thread nD τ).loc main_arg4) : Vec Ideal S64x64 .f32)
  bk := vec (m ((c : Thread nD τ).loc main_arg5) : Vec Ideal S64 .f32)
  wv := mat (m ((c : Thread nD τ).loc main_arg6) : Vec Ideal S64x64 .f32)
  bv := vec (m ((c : Thread nD τ).loc main_arg7) : Vec Ideal S64 .f32)
  wd1 := mat (m ((c : Thread nD τ).loc main_arg8) : Vec Ideal S3x3 .f32)
  bd1 := vec (m ((c : Thread nD τ).loc main_arg9) : Vec Ideal S3 .f32)
  wd2 := mat (m ((c : Thread nD τ).loc main_arg10) : Vec Ideal S64x3 .f32)
  bd2 := vec (m ((c : Thread nD τ).loc main_arg11) : Vec Ideal S64 .f32)
  wg1 := mat (m ((c : Thread nD τ).loc main_arg12) : Vec Ideal S64x64 .f32)
  bg1 := vec (m ((c : Thread nD τ).loc main_arg13) : Vec Ideal S64 .f32)
  wg2 := mat (m ((c : Thread nD τ).loc main_arg14) : Vec Ideal S64x64 .f32)
  bg2 := vec (m ((c : Thread nD τ).loc main_arg15) : Vec Ideal S64 .f32)
  dg := vec (m ((c : Thread nD τ).loc main_arg16) : Vec Ideal S3 .f32)
  db := vec (m ((c : Thread nD τ).loc main_arg17) : Vec Ideal S3 .f32)
  g1g := vec (m ((c : Thread nD τ).loc main_arg18) : Vec Ideal S64 .f32)
  g1b := vec (m ((c : Thread nD τ).loc main_arg19) : Vec Ideal S64 .f32)
  g2g := vec (m ((c : Thread nD τ).loc main_arg20) : Vec Ideal S64 .f32)
  g2b := vec (m ((c : Thread nD τ).loc main_arg21) : Vec Ideal S64 .f32)

/-- Contents holding the arguments of the first layers. -/
structure Base (X : Cont) (A : Model.Args) : Prop where
  feats : cube (X (Proc.devRef .tc main_arg0) : Vec Ideal S4x8192x64 .f32) = A.feats
  kf : quad (X (Proc.devRef .tc main_v8_0) : Vec Ideal S4x8192x16x64 .f32) = Model.kKf A
  p1 : quad (X (Proc.devRef .tc main_v8_1) : Vec Ideal S4x8192x16x3 .f32) = Model.kP1 A
  ds : mat (X (Proc.devRef .tc main_v25) : Vec Ideal S2x3 .f32) = Model.kS A
  wd2 : mat (X (Proc.devRef .tc main_v4) : Vec Ideal S3x64 .f32) = fun i j => A.wd2 j i
  bd2 : row (X (Proc.devRef .tc main_v26) : Vec Ideal S1x64 .f32) = A.bd2
  dg : row (X (Proc.devRef .tc main_v27) : Vec Ideal S1x3 .f32) = A.dg
  db : row (X (Proc.devRef .tc main_v28) : Vec Ideal S1x3 .f32) = A.db
  wq : mat (X (Proc.devRef .tc main_v0) : Vec Ideal S64x64 .f32) = fun i j => A.wq j i
  bq : row (X (Proc.devRef .tc main_v29) : Vec Ideal S1x64 .f32) = A.bq
  wk : mat (X (Proc.devRef .tc main_v1) : Vec Ideal S64x64 .f32) = fun i j => A.wk j i
  bk : row (X (Proc.devRef .tc main_v30) : Vec Ideal S1x64 .f32) = A.bk

/-- Contents holding the arguments of the first attention layer. -/
structure Mid (X : Cont) (A : Model.Args) : Prop where
  s1 : mat (X (Proc.devRef .tc main_v48) : Vec Ideal S2x64 .f32) = Model.kS1 A
  g : row (X (Proc.devRef .tc main_v49) : Vec Ideal S1x64 .f32) = A.g1g
  b : row (X (Proc.devRef .tc main_v50) : Vec Ideal S1x64 .f32) = A.g1b
  w : mat (X (Proc.devRef .tc main_v5) : Vec Ideal S64x64 .f32) = fun i j => A.wg1 j i
  c : row (X (Proc.devRef .tc main_v51) : Vec Ideal S1x64 .f32) = A.bg1

/-- Contents holding the arguments of the last layers. -/
structure Last (X : Cont) (A : Model.Args) : Prop where
  s2 : mat (X (Proc.devRef .tc main_v69) : Vec Ideal S2x64 .f32) = Model.kS2 A
  g : row (X (Proc.devRef .tc main_v70) : Vec Ideal S1x64 .f32) = A.g2g
  b : row (X (Proc.devRef .tc main_v71) : Vec Ideal S1x64 .f32) = A.g2b
  w : mat (X (Proc.devRef .tc main_v6) : Vec Ideal S64x64 .f32) = fun i j => A.wg2 j i
  c : row (X (Proc.devRef .tc main_v72) : Vec Ideal S1x64 .f32) = A.bg2
  wv : mat (X (Proc.devRef .tc main_v2) : Vec Ideal S64x64 .f32) = fun i j => A.wv j i
  bv : row (X (Proc.devRef .tc main_v73) : Vec Ideal S1x64 .f32) = A.bv

/-- The references `Base` reads. -/
abbrev baseRefs : List (Ref sig .tc) :=
  [main_arg0, main_v8_0, main_v8_1, main_v25, main_v4, main_v26, main_v27, main_v28, main_v0, main_v29, main_v1, main_v30]

/-- The references `Mid` reads. -/
abbrev midRefs : List (Ref sig .tc) := [main_v48, main_v49, main_v50, main_v5, main_v51]

theorem Base.keep {X Y : Cont} {A : Model.Args} (h : Base X A) (e : ∀ r ∈ baseRefs, Y (Proc.devRef .tc r) = X (Proc.devRef .tc r)) :
    Base Y A where
  feats := by rw [e main_arg0 (by decide)]; exact h.feats
  kf := by rw [e main_v8_0 (by decide)]; exact h.kf
  p1 := by rw [e main_v8_1 (by decide)]; exact h.p1
  ds := by rw [e main_v25 (by decide)]; exact h.ds
  wd2 := by rw [e main_v4 (by decide)]; exact h.wd2
  bd2 := by rw [e main_v26 (by decide)]; exact h.bd2
  dg := by rw [e main_v27 (by decide)]; exact h.dg
  db := by rw [e main_v28 (by decide)]; exact h.db
  wq := by rw [e main_v0 (by decide)]; exact h.wq
  bq := by rw [e main_v29 (by decide)]; exact h.bq
  wk := by rw [e main_v1 (by decide)]; exact h.wk
  bk := by rw [e main_v30 (by decide)]; exact h.bk

theorem Mid.keep {X Y : Cont} {A : Model.Args} (h : Mid X A) (e : ∀ r ∈ midRefs, Y (Proc.devRef .tc r) = X (Proc.devRef .tc r)) :
    Mid Y A where
  s1 := by rw [e main_v48 (by decide)]; exact h.s1
  g := by rw [e main_v49 (by decide)]; exact h.g
  b := by rw [e main_v50 (by decide)]; exact h.b
  w := by rw [e main_v5 (by decide)]; exact h.w
  c := by rw [e main_v51 (by decide)]; exact h.c

/-- The first layers' parameters. -/
theorem Base.par {X : Cont} {A : Model.Args} (h : Base X A) :
    par1 (X (Proc.devRef .tc main_v25)) (X (Proc.devRef .tc main_v4)) (X (Proc.devRef .tc main_v26)) (X (Proc.devRef .tc main_v27))
      (X (Proc.devRef .tc main_v28)) (X (Proc.devRef .tc main_v0)) (X (Proc.devRef .tc main_v29)) (X (Proc.devRef .tc main_v1))
      (X (Proc.devRef .tc main_v30)) = Model.parA A (Model.kS A) := by
  unfold par1 Model.parA
  rw [h.ds, h.wd2, h.bd2, h.dg, h.db, h.wq, h.bq, h.wk, h.bk]

/-- The first attention layer's parameters. -/
theorem Mid.par {X : Cont} {A : Model.Args} (h : Mid X A) :
    par2 (X (Proc.devRef .tc main_v48)) (X (Proc.devRef .tc main_v49)) (X (Proc.devRef .tc main_v50)) (X (Proc.devRef .tc main_v5))
      (X (Proc.devRef .tc main_v51)) = Model.parB A (Model.kS1 A) := by
  unfold par2 Model.parB
  rw [h.s1, h.g, h.b, h.w, h.c]

/-- The second attention layer's parameters. -/
theorem Last.par {X : Cont} {A : Model.Args} (h : Last X A) :
    par2 (X (Proc.devRef .tc main_v69)) (X (Proc.devRef .tc main_v70)) (X (Proc.devRef .tc main_v71)) (X (Proc.devRef .tc main_v6))
      (X (Proc.devRef .tc main_v72)) = Model.parC A (Model.kS2 A) := by
  unfold par2 Model.parC
  rw [h.s2, h.g, h.b, h.w, h.c]

/-- The rows entering the attention layers. -/
theorem Base.rows {X : Cont} {A : Model.Args} (h : Base X A) (b : Fin 4) (n : Fin 8192) (k : Fin 16) :
    Model.g1 (par1 (X (Proc.devRef .tc main_v25)) (X (Proc.devRef .tc main_v4)) (X (Proc.devRef .tc main_v26)) (X (Proc.devRef .tc main_v27))
      (X (Proc.devRef .tc main_v28)) (X (Proc.devRef .tc main_v0)) (X (Proc.devRef .tc main_v29)) (X (Proc.devRef .tc main_v1))
      (X (Proc.devRef .tc main_v30)))
      (cube (X (Proc.devRef .tc main_arg0) : Vec Ideal S4x8192x64 .f32) b n)
      (quad (X (Proc.devRef .tc main_v8_0) : Vec Ideal S4x8192x16x64 .f32) b n k)
      (quad (X (Proc.devRef .tc main_v8_1) : Vec Ideal S4x8192x16x3 .f32) b n k) = Model.kX A b n k := by
  rw [h.par, h.feats, h.kf, h.p1]; rfl

end Cert.KernelIdeal.Hand
end
-- ==== Proof.Asm.lean ====
/-
  The calls one after another: what each entry holds, and the program's result as the mathematics of its arguments.
-/
module

public import proofs.«01_k».proof.Proof.ArgsK

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

variable (m : (ℓ : Loc nD τ sig) → Buf (Elt Ideal) ℓ) (ρ : Dev nD → PrngReg)

/-! ## The first call -/

theorem kf_rows (c : Dev nD) : rowKf (V1 m ρ) c = Model.kKf (argsOf m c) := by
  have e0 : V1 m ρ c (Pipeline.arrRef spec0 0) = m ((c : Thread nD τ).loc main_arg1) := W1_args m ρ c main_arg1 (by decide)
  have e1 : V1 m ρ c (Pipeline.arrRef spec0 1) = m ((c : Thread nD τ).loc main_arg0) := W1_args m ρ c main_arg0 (by decide)
  funext b n r a
  unfold rowKf
  rw [e0, e1]
  rfl

theorem p1_rows (c : Dev nD) : rowP1 (V1 m ρ) c = Model.kP1 (argsOf m c) := by
  have e0 : V1 m ρ c (Pipeline.arrRef spec0 0) = m ((c : Thread nD τ).loc main_arg1) := W1_args m ρ c main_arg1 (by decide)
  have e3 : mat (V1 m ρ c (Pipeline.arrRef spec0 3) : Vec Ideal S3x3 .f32) = fun i j => (argsOf m c).wd1 j i := h0_v3 (W0 m ρ c)
  have e4 : row (V1 m ρ c (Pipeline.arrRef spec0 4) : Vec Ideal S1x3 .f32) = (argsOf m c).bd1 := h0_v7 (W0 m ρ c)
  funext b n r a
  unfold rowP1
  rw [e0]
  exact congrFun (congrFun (congr (congrArg (Model.p1 _ _) e3) e4) r.val) a

theorem w2_kf (c : Dev nD) : quad (W2 m ρ c (Proc.devRef .tc main_v8_0) : Vec Ideal S4x8192x16x64 .f32) = Model.kKf (argsOf m c) := by
  rw [show W2 m ρ c (Proc.devRef .tc main_v8_0) = _ from (W2_arr m ρ c 5).trans (arr0_5 (V1 m ρ) c), kf_rows]
  rfl

theorem w2_p1 (c : Dev nD) : quad (W2 m ρ c (Proc.devRef .tc main_v8_1) : Vec Ideal S4x8192x16x3 .f32) = Model.kP1 (argsOf m c) := by
  rw [show W2 m ρ c (Proc.devRef .tc main_v8_1) = _ from (W2_arr m ρ c 6).trans (arr0_6 (V1 m ρ) c), p1_rows]
  rfl

theorem w2_ds (c : Dev nD) : mat (W2 m ρ c (Proc.devRef .tc main_v8_2) : Vec Ideal S2x3 .f32) = Model.sums (Model.kP1 (argsOf m c)) := by
  rw [show W2 m ρ c (Proc.devRef .tc main_v8_2) = _ from (W2_arr m ρ c 7).trans (arr0_7 (V1 m ρ) c), p1_rows]
  rfl

/-- The transposed weights stay as made. -/
abbrev tRefs : List (Ref sig .tc) := [main_v0, main_v1, main_v2, main_v4, main_v5, main_v6]

theorem in0 : ∀ r ∈ tRefs, ∀ w : Fin cfg0.W, Pipeline.arrRef spec0 w = r → (cfg0.win w).isOut = false :=
  ListAll.forall_mem_of_all_decide (by decide +kernel)
theorem off1 : ∀ r ∈ tRefs, r ∉ hostOps1_W := ListAll.forall_mem_of_all_decide (by decide +kernel)
theorem w3_t (c : Dev nD) : ∀ r ∈ tRefs, W3 m ρ c (Proc.devRef .tc r) = W1 m ρ c (Proc.devRef .tc r) :=
  fun r hr => (W3_of m ρ c r (off1 r hr)).trans (W2_of m ρ c r (in0 r hr))
theorem in1 : ∀ r ∈ tRefs ++ baseRefs, ∀ w : Fin cfg1.W, Pipeline.arrRef spec1 w = r → (cfg1.win w).isOut = false :=
  ListAll.forall_mem_of_all_decide (by decide +kernel)
theorem off2 : ∀ r ∈ tRefs ++ baseRefs, r ∉ hostOps2_W := ListAll.forall_mem_of_all_decide (by decide +kernel)
theorem w5_t (c : Dev nD) : ∀ r ∈ tRefs ++ baseRefs, W5 m ρ c (Proc.devRef .tc r) = W3 m ρ c (Proc.devRef .tc r) :=
  fun r hr => (W5_of m ρ c r (off2 r hr)).trans (W4_of m ρ c r (in1 r hr))
theorem in2 : ∀ r ∈ tRefs ++ baseRefs ++ midRefs, ∀ w : Fin cfg2.W, Pipeline.arrRef spec2 w = r → (cfg2.win w).isOut = false :=
  ListAll.forall_mem_of_all_decide (by decide +kernel)
theorem off3 : ∀ r ∈ tRefs ++ baseRefs ++ midRefs, r ∉ hostOps3_W := ListAll.forall_mem_of_all_decide (by decide +kernel)
theorem w7_t (c : Dev nD) : ∀ r ∈ tRefs ++ baseRefs ++ midRefs, W7 m ρ c (Proc.devRef .tc r) = W5 m ρ c (Proc.devRef .tc r) :=
  fun r hr => (W7_of m ρ c r (off3 r hr)).trans (W6_of m ρ c r (in2 r hr))

/-! ## What each entry holds -/

theorem base3 (c : Dev nD) : Base (W3 m ρ c) (argsOf m c) where
  feats := by rw [W3_args m ρ c main_arg0 (by decide)]; rfl
  kf := by rw [W3_of m ρ c main_v8_0 (by decide)]; exact w2_kf m ρ c
  p1 := by rw [W3_of m ρ c main_v8_1 (by decide)]; exact w2_p1 m ρ c
  ds := (h1_v25 (W2 m ρ c)).trans (by rw [w2_ds]; rfl)
  wd2 := by rw [w3_t m ρ c main_v4 (by decide)]; exact h0_v4 (W0 m ρ c)
  bd2 := (h1_v26 (W2 m ρ c)).trans (by rw [W2_args m ρ c main_arg11 (by decide)]; rfl)
  dg := (h1_v27 (W2 m ρ c)).trans (by rw [W2_args m ρ c main_arg16 (by decide)]; rfl)
  db := (h1_v28 (W2 m ρ c)).trans (by rw [W2_args m ρ c main_arg17 (by decide)]; rfl)
  wq := by rw [w3_t m ρ c main_v0 (by decide)]; exact h0_v0 (W0 m ρ c)
  bq := (h1_v29 (W2 m ρ c)).trans (by rw [W2_args m ρ c main_arg3 (by decide)]; rfl)
  wk := by rw [w3_t m ρ c main_v1 (by decide)]; exact h0_v1 (W0 m ρ c)
  bk := (h1_v30 (W2 m ρ c)).trans (by rw [W2_args m ρ c main_arg5 (by decide)]; rfl)

theorem g1_rows (c : Dev nD) : rowG1 (V3 m ρ) c = Model.kX (argsOf m c) := by
  funext b n k d
  exact congrFun ((base3 m ρ c).rows b n k) d

theorem w4_sum (c : Dev nD) : mat (W4 m ρ c (Proc.devRef .tc main_v31) : Vec Ideal S2x64 .f32) = Model.sums (Model.kX (argsOf m c)) := by
  rw [show W4 m ρ c (Proc.devRef .tc main_v31) = _ from (W4_arr m ρ c 12).trans (arr1 (V3 m ρ) c), g1_rows]
  rfl

theorem base5 (c : Dev nD) : Base (W5 m ρ c) (argsOf m c) :=
  (base3 m ρ c).keep fun r hr => w5_t m ρ c r (List.mem_append_right _ hr)

theorem mid5 (c : Dev nD) : Mid (W5 m ρ c) (argsOf m c) where
  s1 := (h2_v48 (W4 m ρ c)).trans (by rw [w4_sum]; rfl)
  g := (h2_v49 (W4 m ρ c)).trans (by rw [W4_args m ρ c main_arg18 (by decide)]; rfl)
  b := (h2_v50 (W4 m ρ c)).trans (by rw [W4_args m ρ c main_arg19 (by decide)]; rfl)
  w := by rw [w5_t m ρ c main_v5 (by decide), w3_t m ρ c main_v5 (by decide)]; exact h0_v5 (W0 m ρ c)
  c := (h2_v51 (W4 m ρ c)).trans (by rw [W4_args m ρ c main_arg13 (by decide)]; rfl)

theorem g2_rows (c : Dev nD) : rowG2 (V5 m ρ) c = Model.kY (argsOf m c) := by
  funext b n k d
  have h1 := (base5 m ρ c).rows b n k
  have h2 := (mid5 m ρ c).par
  exact congrFun (congr (congrArg Model.attn h2) h1) d

theorem w6_sum (c : Dev nD) : mat (W6 m ρ c (Proc.devRef .tc main_v52) : Vec Ideal S2x64 .f32) = Model.sums (Model.kY (argsOf m c)) := by
  rw [show W6 m ρ c (Proc.devRef .tc main_v52) = _ from (W6_arr m ρ c 17).trans (arr2 (V5 m ρ) c), g2_rows]
  rfl

theorem base7 (c : Dev nD) : Base (W7 m ρ c) (argsOf m c) :=
  (base5 m ρ c).keep fun r hr => w7_t m ρ c r (List.mem_append_left _ (List.mem_append_right _ hr))

theorem mid7 (c : Dev nD) : Mid (W7 m ρ c) (argsOf m c) :=
  (mid5 m ρ c).keep fun r hr => w7_t m ρ c r (List.mem_append_right _ hr)

theorem last7 (c : Dev nD) : Last (W7 m ρ c) (argsOf m c) where
  s2 := (h3_v69 (W6 m ρ c)).trans (by rw [w6_sum]; rfl)
  g := (h3_v70 (W6 m ρ c)).trans (by rw [W6_args m ρ c main_arg20 (by decide)]; rfl)
  b := (h3_v71 (W6 m ρ c)).trans (by rw [W6_args m ρ c main_arg21 (by decide)]; rfl)
  w := by
    rw [w7_t m ρ c main_v6 (by decide), w5_t m ρ c main_v6 (by decide), w3_t m ρ c main_v6 (by decide)]
    exact h0_v6 (W0 m ρ c)
  c := (h3_v72 (W6 m ρ c)).trans (by rw [W6_args m ρ c main_arg15 (by decide)]; rfl)
  wv := by
    rw [w7_t m ρ c main_v2 (by decide), w5_t m ρ c main_v2 (by decide), w3_t m ρ c main_v2 (by decide)]
    exact h0_v2 (W0 m ρ c)
  bv := (h3_v73 (W6 m ρ c)).trans (by rw [W6_args m ρ c main_arg7 (by decide)]; rfl)

/-- The last call's result. -/
theorem res_rows (c : Dev nD) (b : Fin 4) (n : Fin 8192) (j : Fin 64) : res3 (V7 m ρ) c b n j = Model.kOut (argsOf m c) b n j := by
  have hB := base7 m ρ c
  have hM := mid7 m ρ c
  have hL := last7 m ρ c
  have e : Model.kOut (argsOf m c) b n = Model.out _ _ _ _ _ _ _ _ := rfl
  rw [e, ← hB.par, ← hM.par, ← hL.par, ← hL.wv, ← hL.bv, ← hB.feats, ← hB.kf, ← hB.p1]
  rfl

/-- The program's result is the mathematics of its arguments. -/
theorem result (c : Dev nD) : W8 m ρ c (Proc.devRef .tc main_v74)
    = fun y : S4x8192x64.Idx => Model.kOut (argsOf m c) (y 0) (y 1) (y 2) :=
  (W8_arr m ρ c 24).trans ((arr3 (V7 m ρ) c).trans (funext fun y => res_rows m ρ c (y 0) (y 1) (y 2)))

end Cert.KernelIdeal.Hand
end
-- ==== Proof.Gat.lean ====
/-
  The reference's two gathers: entry (b, n, r, a) is the operand's entry (b, k, a) where the index word is k.
-/
module

public import proofs.«01_k».proof.Proof.Gen.ReferenceIdeal
public import Idealize.ShloMosaic.Lib.Pointwise

@[expose] public section

noncomputable section

namespace Cert.ReferenceIdeal.Hand

open Idealize.ShloMosaic Idealize.ShloMosaic.TcCoe
open Cert.ReferenceIdeal Cert.ReferenceIdeal.Gen

theorem word_nat (k : Fin 8192) : (BitVec.ofNat 32 k.val).toInt.toNat = k.val := by
  have := k.isLt
  rw [BitVec.toInt_eq_toNat_cond, BitVec.toNat_ofNat]
  split <;> omega

theorem gather64 {α : Type} (x : S4x8192x64.Idx → α) (idx : IVec S4x8192x16x1 32) (b : Fin 4) (n : Fin 8192) (r : Fin 16) (a : Fin 64)
    (k : Fin 8192) (hk : idx (ix4 b n r 0) = BitVec.ofNat 32 k.val) :
    Host.gather gather_S4x8192x64_S4x8192x16x1_S4x8192x16x64_3_1_0_0_1_3_1164 x idx (ix4 b n r a) = x (ix3 b k a) := by
  unfold Host.gather
  refine congrArg x (funext fun c => Fin.ext ?_)
  show GatherDims.start _ _ _ c + GatherDims.batchCoord _ _ c + GatherDims.offCoord _ _ c = _
  match c with
  | ⟨0, _⟩ => show 0 + b.val + 0 = b.val; omega
  | ⟨1, _⟩ =>
    have h : GatherDims.start gather_S4x8192x64_S4x8192x16x1_S4x8192x16x64_3_1_0_0_1_3_1164 (ix4 b n r a) idx 1
        = min (idx (ix4 b n r 0)).toInt.toNat 8191 := by
      unfold GatherDims.start
      rw [dif_pos (by decide)]
      have hs : GatherDims.siIdx gather_S4x8192x64_S4x8192x16x1_S4x8192x16x64_3_1_0_0_1_3_1164 (ix4 b n r a) ⟨0, by decide⟩ = ix4 b n r 0 := by
        funext e; refine Fin.ext ?_
        match e with
        | ⟨0, _⟩ => rfl
        | ⟨1, _⟩ => rfl
        | ⟨2, _⟩ => rfl
        | ⟨3, _⟩ => rfl
      exact congrArg (fun z => min (idx z).toInt.toNat 8191) hs
    rw [hk, word_nat] at h
    have := k.isLt
    exact (congrArg₂ (· + ·) (congrArg₂ (· + ·) h rfl) rfl).trans (by show min k.val 8191 + 0 + 0 = k.val; omega)
  | ⟨2, _⟩ => show 0 + 0 + a.val = a.val; omega

theorem gather3 {α : Type} (x : S4x8192x3.Idx → α) (idx : IVec S4x8192x16x1 32) (b : Fin 4) (n : Fin 8192) (r : Fin 16) (a : Fin 3)
    (k : Fin 8192) (hk : idx (ix4 b n r 0) = BitVec.ofNat 32 k.val) :
    Host.gather gather_S4x8192x3_S4x8192x16x1_S4x8192x16x3_3_1_0_0_1_3_113 x idx (ix4 b n r a) = x (ix3 b k a) := by
  unfold Host.gather
  refine congrArg x (funext fun c => Fin.ext ?_)
  show GatherDims.start _ _ _ c + GatherDims.batchCoord _ _ c + GatherDims.offCoord _ _ c = _
  match c with
  | ⟨0, _⟩ => show 0 + b.val + 0 = b.val; omega
  | ⟨1, _⟩ =>
    have h : GatherDims.start gather_S4x8192x3_S4x8192x16x1_S4x8192x16x3_3_1_0_0_1_3_113 (ix4 b n r a) idx 1
        = min (idx (ix4 b n r 0)).toInt.toNat 8191 := by
      unfold GatherDims.start
      rw [dif_pos (by decide)]
      have hs : GatherDims.siIdx gather_S4x8192x3_S4x8192x16x1_S4x8192x16x3_3_1_0_0_1_3_113 (ix4 b n r a) ⟨0, by decide⟩ = ix4 b n r 0 := by
        funext e; refine Fin.ext ?_
        match e with
        | ⟨0, _⟩ => rfl
        | ⟨1, _⟩ => rfl
        | ⟨2, _⟩ => rfl
        | ⟨3, _⟩ => rfl
      exact congrArg (fun z => min (idx z).toInt.toNat 8191) hs
    rw [hk, word_nat] at h
    have := k.isLt
    exact (congrArg₂ (· + ·) (congrArg₂ (· + ·) h rfl) rfl).trans (by show min k.val 8191 + 0 + 0 = k.val; omega)
  | ⟨2, _⟩ => show 0 + 0 + a.val = a.val; omega

end Cert.ReferenceIdeal.Hand
end
-- ==== Proof.RefA.lean ====
/-
  The reference's arguments by plain indices, and its named terms read entry by entry.
-/
module

public import proofs.«01_k».proof.Proof.Gat
public import proofs.«01_k».proof.Proof.Gen.ReferenceIdeal.Run
public import proofs.«01_k».proof.Proof.Alg
public import Idealize.ShloMosaic.Lib.Pointwise

@[expose] public section

set_option maxHeartbeats 1000000

noncomputable section

namespace Cert.ReferenceIdeal.Hand

open Idealize.ShloMosaic Idealize.ShloMosaic.TcCoe
open Cert.ReferenceIdeal Cert.ReferenceIdeal.Gen Cert.ReferenceIdeal.Value

/-- A vector by its index. -/
abbrev vec {n : ℕ} (v : Vec Ideal (⟨1, ![n]⟩ : Shape) .f32) : Fin n → EReal := fun b => v (ix1 b)
/-- A matrix by its indices. -/
abbrev mat {n m : ℕ} (v : Vec Ideal (⟨2, ![n, m]⟩ : Shape) .f32) : Fin n → Fin m → EReal := fun a b => v (ix2 a b)
/-- A three axis array by its indices. -/
abbrev cube {n k l : ℕ} (v : Vec Ideal (⟨3, ![n, k, l]⟩ : Shape) .f32) : Fin n → Fin k → Fin l → EReal := fun a b d => v (ix3 a b d)
/-- A four axis array by its indices. -/
abbrev quad {n k l p : ℕ} (v : Vec Ideal (⟨4, ![n, k, l, p]⟩ : Shape) .f32) : Fin n → Fin k → Fin l → Fin p → EReal :=
  fun a b d e => v (ix4 a b d e)

variable (V : Valuation τ sig (Elt Ideal))

/-- The arguments of the contents. -/
def argsR : Model.Args where
  feats := cube (V (Proc.devRef .tc main_arg0) : Vec Ideal S4x8192x64 .f32)
  points := cube (V (Proc.devRef .tc main_arg1) : Vec Ideal S4x8192x3 .f32)
  wq := mat (V (Proc.devRef .tc main_arg2) : Vec Ideal S64x64 .f32)
  bq := vec (V (Proc.devRef .tc main_arg3) : Vec Ideal S64 .f32)
  wk := mat (V (Proc.devRef .tc main_arg4) : Vec Ideal S64x64 .f32)
  bk := vec (V (Proc.devRef .tc main_arg5) : Vec Ideal S64 .f32)
  wv := mat (V (Proc.devRef .tc main_arg6) : Vec Ideal S64x64 .f32)
  bv := vec (V (Proc.devRef .tc main_arg7) : Vec Ideal S64 .f32)
  wd1 := mat (V (Proc.devRef .tc main_arg8) : Vec Ideal S3x3 .f32)
  bd1 := vec (V (Proc.devRef .tc main_arg9) : Vec Ideal S3 .f32)
  wd2 := mat (V (Proc.devRef .tc main_arg10) : Vec Ideal S64x3 .f32)
  bd2 := vec (V (Proc.devRef .tc main_arg11) : Vec Ideal S64 .f32)
  wg1 := mat (V (Proc.devRef .tc main_arg12) : Vec Ideal S64x64 .f32)
  bg1 := vec (V (Proc.devRef .tc main_arg13) : Vec Ideal S64 .f32)
  wg2 := mat (V (Proc.devRef .tc main_arg14) : Vec Ideal S64x64 .f32)
  bg2 := vec (V (Proc.devRef .tc main_arg15) : Vec Ideal S64 .f32)
  dg := vec (V (Proc.devRef .tc main_arg16) : Vec Ideal S3 .f32)
  db := vec (V (Proc.devRef .tc main_arg17) : Vec Ideal S3 .f32)
  g1g := vec (V (Proc.devRef .tc main_arg18) : Vec Ideal S64 .f32)
  g1b := vec (V (Proc.devRef .tc main_arg19) : Vec Ideal S64 .f32)
  g2g := vec (V (Proc.devRef .tc main_arg20) : Vec Ideal S64 .f32)
  g2b := vec (V (Proc.devRef .tc main_arg21) : Vec Ideal S64 .f32)

/-- A sum over the first three of four axes. -/
theorem sum3 {p q r l : ℕ} (h : (⟨4, ![p, q, r, l]⟩ : Shape).ReducesTo [0, 1, 2] ⟨1, ![l]⟩) (v : (⟨4, ![p, q, r, l]⟩ : Shape).Idx → EReal)
    (d : Fin l) : Ideal.hostReduceAdd h v 0 (ix1 d) = ∑ b : Fin p, ∑ i : Fin q, ∑ k : Fin r, v (ix4 b i k d) := by
  have e : ∀ i : (⟨4, ![p, q, r, l]⟩ : Shape).Idx, (h.drop i 0).val = (i 3).val := fun i => rfl
  have hs : ∑ i ∈ Finset.univ.filter (fun i => h.drop i = ix1 d), v i = ∑ u : Fin p × Fin q × Fin r, v (ix4 u.1 u.2.1 u.2.2 d) := by
    refine Finset.sum_bij' (fun i _ => ((i 0, i 1, i 2) : Fin p × Fin q × Fin r)) (fun u _ => ix4 u.1 u.2.1 u.2.2 d) (fun _ _ => Finset.mem_univ _)
      (fun u _ => Finset.mem_filter.2 ⟨Finset.mem_univ _, ?_⟩) (fun i hi => ?_) (fun _ _ => rfl) (fun i hi => ?_)
    · funext b
      obtain rfl : b = 0 := Subsingleton.elim (α := Fin 1) _ _
      exact Fin.ext (e _)
    · have h3 : (i 3).val = d.val := (e i).symm.trans (congrArg (fun z : (⟨1, ![l]⟩ : Shape).Idx => (z 0).val) (Finset.mem_filter.1 hi).2)
      exact (congrArg (ix4 (i 0) (i 1) (i 2)) (Fin.ext h3.symm : d = i 3)).trans (eq_ix4 i).symm
    · have h3 : (i 3).val = d.val := (e i).symm.trans (congrArg (fun z : (⟨1, ![l]⟩ : Shape).Idx => (z 0).val) (Finset.mem_filter.1 hi).2)
      exact congrArg v ((eq_ix4 i).trans (congrArg (ix4 (i 0) (i 1) (i 2)) (Fin.ext h3 : i 3 = d)))
  show 0 + _ = _
  rw [zero_add, hs]
  simp only [Fintype.sum_prod_type]

/-- The gelu through the complementary error function of the negated argument. -/
theorem gelu_erfc (x : EReal) :
    Ideal.ofBits .f32 1056964608#32 * x * Ideal.erfc (-x * Ideal.ofBits .f32 1060439283#32) = Model.gelu x := by
  rw [EReal.neg_mul, Ideal.erfc_neg]; rfl

theorem v11_at (b : Fin 4) (n j : Fin 8192) : (res_main_v11 V : Vec Ideal S4x8192x8192 .f32) (ix3 b n j)
    = -(Model.dist ((argsR V).points b n) ((argsR V).points b) j) := by
  pointwise [res_main_v11, res_main_v1]
  rfl

theorem v36_at (d : Fin 3) : (res_main_v36 V : Vec Ideal S1x1x1x3 .f32) (ix4 0 0 0 d)
    = Model.mean (quad (res_main_v32 V : Vec Ideal S4x8192x16x3 .f32)) d := by
  pointwise [res_main_v36, sum3]
  rfl

theorem v85_at (d : Fin 64) : (res_main_v85 V : Vec Ideal S1x1x1x64 .f32) (ix4 0 0 0 d)
    = Model.mean (quad (res_main_v81 V : Vec Ideal S4x8192x16x64 .f32)) d := by
  pointwise [res_main_v85, sum3]
  rfl

theorem v122_at (d : Fin 64) : (res_main_v122 V : Vec Ideal S1x1x1x64 .f32) (ix4 0 0 0 d)
    = Model.mean (quad (res_main_v118 V : Vec Ideal S4x8192x16x64 .f32)) d := by
  pointwise [res_main_v122, sum3]
  rfl

theorem v58_at (b : Fin 4) (n : Fin 8192) (k : Fin 16) (d : Fin 3) : (res_main_v58 V : Vec Ideal S4x8192x16x3 .f32) (ix4 b n k d)
    = Model.bn (Model.rStat (quad (res_main_v32 V : Vec Ideal S4x8192x16x3 .f32)) 0 d)
      (Model.rStat (quad (res_main_v32 V : Vec Ideal S4x8192x16x3 .f32)) 1 d)
      ((argsR V).dg d) ((argsR V).db d) ((res_main_v32 V : Vec Ideal S4x8192x16x3 .f32) (ix4 b n k d)) := by
  pointwise [res_main_v58, sum3]
  simp only [v36_at]
  rfl

theorem v107_at (b : Fin 4) (n : Fin 8192) (k : Fin 16) (d : Fin 64) : (res_main_v107 V : Vec Ideal S4x8192x16x64 .f32) (ix4 b n k d)
    = Model.bn (Model.rStat (quad (res_main_v81 V : Vec Ideal S4x8192x16x64 .f32)) 0 d)
      (Model.rStat (quad (res_main_v81 V : Vec Ideal S4x8192x16x64 .f32)) 1 d)
      ((argsR V).g1g d) ((argsR V).g1b d) ((res_main_v81 V : Vec Ideal S4x8192x16x64 .f32) (ix4 b n k d)) := by
  pointwise [res_main_v107, sum3]
  simp only [v85_at]
  rfl

theorem v144_at (b : Fin 4) (n : Fin 8192) (k : Fin 16) (d : Fin 64) : (res_main_v144 V : Vec Ideal S4x8192x16x64 .f32) (ix4 b n k d)
    = Model.bn (Model.rStat (quad (res_main_v118 V : Vec Ideal S4x8192x16x64 .f32)) 0 d)
      (Model.rStat (quad (res_main_v118 V : Vec Ideal S4x8192x16x64 .f32)) 1 d)
      ((argsR V).g2g d) ((argsR V).g2b d) ((res_main_v118 V : Vec Ideal S4x8192x16x64 .f32) (ix4 b n k d)) := by
  pointwise [res_main_v144, sum3]
  simp only [v122_at]
  rfl

theorem v69_at (b : Fin 4) (n : Fin 8192) (k : Fin 16) (d : Fin 64) : (res_main_v69 V : Vec Ideal S4x8192x16x64 .f32) (ix4 b n k d)
    = Model.lin (fun i j => (argsR V).wd2 j i) (argsR V).bd2
      (fun i => Model.gelu ((res_main_v58 V : Vec Ideal S4x8192x16x3 .f32) (ix4 b n k i))) d := by
  pointwise [res_main_v69]
  simp only [gelu_erfc]
  rfl

theorem v118_at (b : Fin 4) (n : Fin 8192) (k : Fin 16) (d : Fin 64) : (res_main_v118 V : Vec Ideal S4x8192x16x64 .f32) (ix4 b n k d)
    = Model.lin (fun i j => (argsR V).wg1 j i) (argsR V).bg1
      (fun i => Model.gelu ((res_main_v107 V : Vec Ideal S4x8192x16x64 .f32) (ix4 b n k i))) d := by
  pointwise [res_main_v118]
  simp only [gelu_erfc]
  rfl

theorem v155_at (b : Fin 4) (n : Fin 8192) (k : Fin 16) (d : Fin 64) : (res_main_v155 V : Vec Ideal S4x8192x16x64 .f32) (ix4 b n k d)
    = Model.lin (fun i j => (argsR V).wg2 j i) (argsR V).bg2
      (fun i => Model.gelu ((res_main_v144 V : Vec Ideal S4x8192x16x64 .f32) (ix4 b n k i))) d := by
  pointwise [res_main_v155]
  simp only [gelu_erfc]
  rfl

/-- The keys rows are read with: the neighbours' features. -/
abbrev kfR : Model.Rows 64 := quad (res_main_v18 V : Vec Ideal S4x8192x16x64 .f32)

theorem v81_at (b : Fin 4) (n : Fin 8192) (k : Fin 16) (d : Fin 64) : (res_main_v81 V : Vec Ideal S4x8192x16x64 .f32) (ix4 b n k d)
    = Model.lin (fun i j => (argsR V).wq j i) (argsR V).bq ((argsR V).feats b n) d
      - Model.lin (fun i j => (argsR V).wk j i) (argsR V).bk (kfR V b n k) d
      + (res_main_v69 V : Vec Ideal S4x8192x16x64 .f32) (ix4 b n k d) := by
  pointwise [res_main_v81]
  rfl

end Cert.ReferenceIdeal.Hand
end
-- ==== Proof.TopK.lean ====
/-
  The position words of the greatest entries along the last of three axes: the first positions of a stable sort.
-/
module

public import Idealize.ShloMosaic.Lib.Pointwise

@[expose] public section

noncomputable section

namespace Cert.ReferenceIdeal.Hand

open Idealize.ShloMosaic

/-- A three axis index with its last coordinate replaced. -/
theorem along3 {p q r : ℕ} (b : Fin p) (n : Fin q) (j k : Fin r) :
    Shape.Idx.along (s := ⟨3, ![p, q, r]⟩) (ix3 b n j) 2 k = ix3 b n k := by
  funext a
  match a with
  | ⟨0, _⟩ => exact Function.update_of_ne (fun h => absurd (congrArg Fin.val h) (show ¬ (0 : ℕ) = 2 by decide)) _ _
  | ⟨1, _⟩ => exact Function.update_of_ne (fun h => absurd (congrArg Fin.val h) (show ¬ (1 : ℕ) = 2 by decide)) _ _
  | ⟨2, _⟩ => exact Function.update_self ..

/-- The position words of the `t` greatest along the last of three axes: a stable sort's first positions. -/
theorem topK_at {p q r t : ℕ} (gt : EReal → EReal → BitVec 1) (x : (⟨3, ![p, q, r]⟩ : Shape).Idx → EReal)
    (h : (⟨3, ![p, q, r]⟩ : Shape).Slices (fun _ => 0) ⟨3, ![p, q, t]⟩) (ht : t ≤ r) (b : Fin p) (n : Fin q) (k : Fin t) :
    (Host.topK ⟨3, ![p, q, t]⟩ 2 gt x h).2 (ix3 b n k)
      = BitVec.ofNat 32 (sortedFrom (fun i j => gt (x (ix3 b n i)) (x (ix3 b n j)) == 1#1) (⟨k.val, by omega⟩ : Fin r)).val := by
  have hs : ∀ j : (⟨3, ![p, q, r]⟩ : Shape).Idx, (Host.sort2 ⟨3, ![p, q, r]⟩ 2 (fun l r => gt l.1 r.1) x
      (fun i => if hd : 2 < (⟨3, ![p, q, r]⟩ : Shape).rank then iotaInDim ⟨3, ![p, q, r]⟩ 32 ⟨2, hd⟩ i else 0#32)).2 j
      = BitVec.ofNat 32 (j.along 2 (sortedFrom (fun k k' => gt (x (j.along 2 k)) (x (j.along 2 k')) == 1#1) (j 2)) 2).val := fun j => rfl
  have e : (Host.topK ⟨3, ![p, q, t]⟩ 2 gt x h).2 (ix3 b n k) = (Host.sort2 ⟨3, ![p, q, r]⟩ 2 (fun l r => gt l.1 r.1) x
      (fun i => if hd : 2 < (⟨3, ![p, q, r]⟩ : Shape).rank then iotaInDim ⟨3, ![p, q, r]⟩ 32 ⟨2, hd⟩ i else 0#32)).2
      (ix3 b n (⟨k.val, by omega⟩ : Fin r)) := by
    unfold Host.topK extractStridedSlice
    dsimp only
    refine congrArg _ (funext fun a => Fin.ext ?_)
    match a with
    | ⟨0, _⟩ => exact Nat.zero_add _
    | ⟨1, _⟩ => exact Nat.zero_add _
    | ⟨2, _⟩ => exact Nat.zero_add _
  have eF : (fun i j => gt (x (Shape.Idx.along (s := ⟨3, ![p, q, r]⟩) (ix3 b n (⟨k.val, by omega⟩ : Fin r)) 2 i))
      (x (Shape.Idx.along (s := ⟨3, ![p, q, r]⟩) (ix3 b n (⟨k.val, by omega⟩ : Fin r)) 2 j)) == 1#1)
      = fun i j => gt (x (ix3 b n i)) (x (ix3 b n j)) == 1#1 :=
    funext fun i => funext fun j => congrArg₂ (fun u v => gt (x u) (x v) == 1#1) (along3 b n _ i) (along3 b n _ j)
  rw [e, hs]
  exact congrArg (fun B => BitVec.ofNat 32 (sortedFrom B (⟨k.val, by omega⟩ : Fin r)).val) eF

end Cert.ReferenceIdeal.Hand
end
-- ==== Proof.RefB.lean ====
/-
  The reference's neighbour numbers, the neighbours' rows, and its result as the mathematics of its arguments.
-/
module

public import proofs.«01_k».proof.Proof.RefA
public import proofs.«01_k».proof.Proof.TopK

@[expose] public section

set_option maxHeartbeats 1000000

noncomputable section

namespace Cert.ReferenceIdeal.Hand

open Idealize.ShloMosaic Idealize.ShloMosaic.TcCoe
open Cert.ReferenceIdeal Cert.ReferenceIdeal.Gen Cert.ReferenceIdeal.Value

variable (V : Valuation τ sig (Elt Ideal))

/-- A comparison of negated numbers is the comparison the other way round. -/
theorem gt_neg (x y : EReal) : (FloatOps.cmpfTotal (F := Ideal) (φ := .f32) .gt (-x) (-y) == 1#1) = decide (x < y) := by
  show (BitVec.ofBool (decide (-y < -x)) == 1#1) = _
  have e : (-y < -x) = (x < y) := propext EReal.neg_lt_neg_iff
  simp only [e]
  by_cases h : x < y <;> simp [h]

theorem idx_at (hA : (argsR V).Finite) (b : Fin 4) (n : Fin 8192) (r : Fin 16) : (res_main_indices V : IVec S4x8192x16 32) (ix3 b n r)
    = BitVec.ofNat 32 (Model.nbr (argsR V) b n r).val := by
  have h := topK_at (FloatOps.cmpfTotal (F := Ideal) (φ := .f32) .gt) (res_main_v11 V) sliceFits_S4x8192x8192_S4x8192x16 (by omega) b n r
  refine h.trans ?_
  simp only [v11_at, gt_neg]
  unfold Model.nbr Model.nb
  rw [Model.near_eq_sortedFrom _ (Model.dist_ne_top hA b n) (⟨r.val, by omega⟩ : Fin 8192)]
  rfl

/-- A number below 8192 is no negative word, so the wrap leaves it. -/
theorem wrap_word : ∀ k : ℕ, k < 8192 → Scalar.select (IntOp.cmpi .slt (BitVec.ofNat 32 k) 0#32) (IntOp.addi (BitVec.ofNat 32 k) 8192#32)
      (BitVec.ofNat 32 k) = BitVec.ofNat 32 k := by
  intro k hk
  have h0 : IntOp.cmpi .slt (BitVec.ofNat 32 k) 0#32 = 0#1 := by
    have : BitVec.slt (BitVec.ofNat 32 k) 0#32 = false := by
      rw [BitVec.slt_eq_decide, BitVec.toInt_eq_toNat_cond, BitVec.toNat_ofNat]
      simp only [BitVec.toInt_zero, decide_eq_false_iff_not]
      split <;> omega
    show BitVec.ofBool (BitVec.slt (BitVec.ofNat 32 k) 0#32) = 0#1
    rw [this]
    rfl
  rw [h0]
  rfl

/-- The index words the gathers read. -/
theorem wrap_at (hA : (argsR V).Finite) (b : Fin 4) (n : Fin 8192) (r : Fin 16) :
    (broadcastInDim S4x8192x16x1 ![0, 1, 2] bcast_S4x8192x16_S4x8192x16x1_0_1_2 (select (cmpi .slt (res_main_indices V)
      (broadcastInDim S4x8192x16 ![] bcast_S_S4x8192x16 (constantI S_ 32 0#32))) (addi (res_main_indices V)
      (broadcastInDim S4x8192x16 ![] bcast_S_S4x8192x16 (constantI S_ 32 8192#32))) (res_main_indices V)) : IVec S4x8192x16x1 32) (ix4 b n r 0)
    = BitVec.ofNat 32 (Model.nbr (argsR V) b n r).val := by
  pointwise [idx_at V hA]
  exact wrap_word _ (Model.nbr (argsR V) b n r).isLt

end Cert.ReferenceIdeal.Hand
end
-- ==== Proof.RefN.lean ====
/-
  The reference's neighbour rows.
-/
module

public import proofs.«01_k».proof.Proof.RefB

@[expose] public section

set_option maxHeartbeats 1000000

noncomputable section

namespace Cert.ReferenceIdeal.Hand

open Idealize.ShloMosaic Idealize.ShloMosaic.TcCoe
open Cert.ReferenceIdeal Cert.ReferenceIdeal.Gen Cert.ReferenceIdeal.Value

variable (V : Valuation τ sig (Elt Ideal))

theorem v18_at (hA : (argsR V).Finite) (b : Fin 4) (n : Fin 8192) (r : Fin 16) (a : Fin 64) :
    (res_main_v18 V : Vec Ideal S4x8192x16x64 .f32) (ix4 b n r a) = Model.rKf (argsR V) b n r a := by
  unfold res_main_v18
  exact gather64 _ _ b n r a _ (wrap_at V hA b n r)

theorem v32_at (hA : (argsR V).Finite) (b : Fin 4) (n : Fin 8192) (r : Fin 16) (a : Fin 3) :
    (res_main_v32 V : Vec Ideal S4x8192x16x3 .f32) (ix4 b n r a) = Model.rP1 (argsR V) b n r a := by
  have g := fun a => gather3 (V (Proc.devRef .tc main_arg1) : Vec Ideal S4x8192x3 .f32) _ b n r a _ (wrap_at V hA b n r)
  pointwise [res_main_v32]
  simp only [g]
  rfl

end Cert.ReferenceIdeal.Hand
end
-- ==== Proof.Max4.lean ====
/-
  The greatest of the third of four axes.
-/
module

public import Idealize.ShloMosaic.Lib.Pointwise

@[expose] public section

set_option maxHeartbeats 1000000

noncomputable section

namespace Cert.ReferenceIdeal.Hand

open Idealize.ShloMosaic Idealize.ShloMosaic.TcCoe

/-- A fold of the greatest over the third of four axes. -/
theorem max4 {p q r l : ℕ} (h : (⟨4, ![p, q, r, l]⟩ : Shape).ReducesTo [2] ⟨3, ![p, q, l]⟩) (v : (⟨4, ![p, q, r, l]⟩ : Shape).Idx → EReal)
    (c : EReal) (b : Fin p) (n : Fin q) (d : Fin l) :
    max c (Finset.fold max c v (Finset.univ.filter fun i => h.drop i = ix3 b n d)) = Finset.univ.fold max c fun k : Fin r => v (ix4 b n k d) := by
  rw [Shape.ReducesTo.fold_fiber_r4_a2]
  exact max_eq_right ((Finset.le_fold_max _).2 (Or.inl le_rfl))

/-- The reduction by the greatest over the third of four axes. -/
theorem reduceMax4 {p q r l : ℕ} (h : (⟨4, ![p, q, r, l]⟩ : Shape).ReducesTo [2] ⟨3, ![p, q, l]⟩) (hu : 0 < (⟨0, ![]⟩ : Shape).numel)
    (v : FVec Ideal ⟨4, ![p, q, r, l]⟩ .f32) (b : Fin p) (n : Fin q) (d : Fin l) :
    (Host.reduce FloatOps.maximumf v (constant ⟨0, ![]⟩ .f32 0xFF800000#32) h hu : FVec Ideal ⟨3, ![p, q, l]⟩ .f32) (ix3 b n d)
      = Finset.univ.fold max (Ideal.ofBits .f32 0xFF800000#32) fun k : Fin r => v (ix4 b n k d) := by
  simp only [pointwise]

end Cert.ReferenceIdeal.Hand
end
-- ==== Proof.RefM.lean ====
/-
  The exponentials under the reference's softmax.
-/
module

public import proofs.«01_k».proof.Proof.RefA
public import proofs.«01_k».proof.Proof.Max4

@[expose] public section

set_option maxHeartbeats 1000000

noncomputable section

namespace Cert.ReferenceIdeal.Hand

open Idealize.ShloMosaic Idealize.ShloMosaic.TcCoe
open Cert.ReferenceIdeal Cert.ReferenceIdeal.Gen Cert.ReferenceIdeal.Value

variable (V : Valuation τ sig (Elt Ideal))

/-- The exponentials under the softmax, over any array and any array of greatest entries. -/
theorem exp_at (x : FVec Ideal S4x8192x16x64 .f32) (y : FVec Ideal S4x8192x64 .f32) (b : Fin 4) (n : Fin 8192) (k : Fin 16) (d : Fin 64) :
    (Host.exp (subf x (broadcastInDim S4x8192x16x64 ![0, 1, 2, 3] bcast_S4x8192x1x64_S4x8192x16x64_0_1_2_3
      (broadcastInDim S4x8192x1x64 ![0, 1, 3] bcast_S4x8192x64_S4x8192x1x64_0_1_3 (maximumf (broadcastInDim S4x8192x64 ![] bcast_S_S4x8192x64
        (constant S_ .f32 0xFF800000#32)) y)))) : FVec Ideal S4x8192x16x64 .f32) (ix4 b n k d)
    = Ideal.exp (x (ix4 b n k d) - max (Ideal.ofBits .f32 0xFF800000#32) (y (ix3 b n d))) := by
  pointwise

/-- The exponentials under the softmax. -/
theorem v162_at (b : Fin 4) (n : Fin 8192) (k : Fin 16) (d : Fin 64) : quad (res_main_v162 V : Vec Ideal S4x8192x16x64 .f32) b n k d
    = Ideal.exp (quad (res_main_v155 V : Vec Ideal S4x8192x16x64 .f32) b n k d
      - Model.colMax fun k' => quad (res_main_v155 V : Vec Ideal S4x8192x16x64 .f32) b n k' d) := by
  refine (exp_at (res_main_v155 V) _ b n k d).trans (congrArg (fun t => Ideal.exp
    (quad (res_main_v155 V : Vec Ideal S4x8192x16x64 .f32) b n k d - t)) ?_)
  refine (congrArg (max _) (reduceMax4 reducesTo_S4x8192x16x64_S4x8192x64_d2 h_S_ (res_main_v155 V) b n d)).trans ?_
  exact max_eq_right ((Finset.le_fold_max _).2 (Or.inl le_rfl))

/-- The reference's last operations: the softmax's quotient, the values, their product's sum. -/
def last (e kf p : FVec Ideal S4x8192x16x64 .f32) (w : FVec Ideal S64x64 .f32) (c : FVec Ideal S64 .f32) : FVec Ideal S4x8192x64 .f32 :=
  Host.reduceAdd (mulf (Host.divf e (broadcastInDim S4x8192x16x64 ![0, 1, 2, 3] bcast_S4x8192x1x64_S4x8192x16x64_0_1_2_3
    (broadcastInDim S4x8192x1x64 ![0, 1, 3] bcast_S4x8192x64_S4x8192x1x64_0_1_3 (Host.reduceAdd e (constant S_ .f32 0x00000000#32)
      reducesTo_S4x8192x16x64_S4x8192x64_d2 h_S_)))) (addf (addf (Host.dotGeneral dot_S4x8192x16x64_S64x64_S4x8192x16x64_3_1_012_0_n_n
      none kf w) (broadcastInDim S4x8192x16x64 ![0, 1, 2, 3] bcast_S1x1x1x64_S4x8192x16x64_0_1_2_3 (broadcastInDim S1x1x1x64 ![3]
      bcast_S64_S1x1x1x64_3 c))) p)) (constant S_ .f32 0x00000000#32) reducesTo_S4x8192x16x64_S4x8192x64_d2 h_S_

/-- The weighted values' sum, over any weights, keys and position codes. -/
theorem sum_at (e kf p : FVec Ideal S4x8192x16x64 .f32) (w : FVec Ideal S64x64 .f32) (c : FVec Ideal S64 .f32)
    (b : Fin 4) (n : Fin 8192) (j : Fin 64) : last e kf p w c (ix3 b n j)
    = ∑ k : Fin 16, Ideal.div (e (ix4 b n k j)) (∑ k' : Fin 16, e (ix4 b n k' j))
        * (((∑ i : Fin 64, kf (ix4 b n k i) * w (ix2 j i)) + c (ix1 j)) + p (ix4 b n k j)) := by
  pointwise [last]

end Cert.ReferenceIdeal.Hand
end
-- ==== Proof.RefC.lean ====
/-
  The reference's result as the mathematics of its arguments.
-/
module

public import proofs.«01_k».proof.Proof.RefN
public import proofs.«01_k».proof.Proof.RefM

@[expose] public section

set_option maxHeartbeats 1000000

noncomputable section

namespace Cert.ReferenceIdeal.Hand

open Idealize.ShloMosaic Idealize.ShloMosaic.TcCoe
open Cert.ReferenceIdeal Cert.ReferenceIdeal.Gen Cert.ReferenceIdeal.Value

variable (V : Valuation τ sig (Elt Ideal))

/-- The neighbours' features. -/
theorem q18 (hA : (argsR V).Finite) : quad (res_main_v18 V : Vec Ideal S4x8192x16x64 .f32) = Model.rKf (argsR V) :=
  funext fun b => funext fun n => funext fun k => funext fun d => v18_at V hA b n k d

/-- The first position layer. -/
theorem q32 (hA : (argsR V).Finite) : quad (res_main_v32 V : Vec Ideal S4x8192x16x3 .f32) = Model.rP1 (argsR V) :=
  funext fun b => funext fun n => funext fun k => funext fun d => v32_at V hA b n k d

/-- The position codes. -/
theorem q69 (hA : (argsR V).Finite) (b : Fin 4) (n : Fin 8192) (k : Fin 16) (d : Fin 64) :
    quad (res_main_v69 V : Vec Ideal S4x8192x16x64 .f32) b n k d
      = Model.pos (Model.parA (argsR V) (Model.rS (argsR V))) (Model.rP1 (argsR V) b n k) d := by
  refine (v69_at V b n k d).trans (congrArg (fun f => Model.lin _ _ f d) (funext fun i => congrArg Model.gelu ((v58_at V b n k i).trans ?_)))
  exact congrArg (fun Q : Model.Rows 3 => Model.bn (Model.rStat Q 0 i) (Model.rStat Q 1 i) ((argsR V).dg i) ((argsR V).db i) (Q b n k i)) (q32 V hA)

/-- The rows entering the attention layers. -/
theorem q81 (hA : (argsR V).Finite) : quad (res_main_v81 V : Vec Ideal S4x8192x16x64 .f32) = Model.rX (argsR V) := by
  funext b n k d
  refine (v81_at V b n k d).trans ?_
  refine (congrArg₂ (fun (K : Model.Rows 64) (p : EReal) => Model.lin (fun i j => (argsR V).wq j i) (argsR V).bq ((argsR V).feats b n) d
    - Model.lin (fun i j => (argsR V).wk j i) (argsR V).bk (K b n k) d + p) (q18 V hA) (q69 V hA b n k d)).trans rfl

/-- The rows after the first attention layer. -/
theorem q118 (hA : (argsR V).Finite) : quad (res_main_v118 V : Vec Ideal S4x8192x16x64 .f32) = Model.rY (argsR V) := by
  funext b n k d
  refine (v118_at V b n k d).trans (congrArg (fun f => Model.lin _ _ f d) (funext fun i => congrArg Model.gelu ((v107_at V b n k i).trans ?_)))
  exact congrArg (fun Q : Model.Rows 64 => Model.bn (Model.rStat Q 0 i) (Model.rStat Q 1 i) ((argsR V).g1g i) ((argsR V).g1b i) (Q b n k i)) (q81 V hA)

/-- The rows after the second attention layer, by definition. -/
def qAttn (A : Model.Args) : Model.Rows 64 := fun b n k d => Model.attn (Model.parC A (Model.rS2 A)) (Model.rY A b n k) d

/-- The rows after the second attention layer. -/
theorem q155 (hA : (argsR V).Finite) : quad (res_main_v155 V : Vec Ideal S4x8192x16x64 .f32)
    = qAttn (argsR V) := by
  funext b n k d
  refine (v155_at V b n k d).trans (congrArg (fun f => Model.lin _ _ f d) (funext fun i => congrArg Model.gelu ((v144_at V b n k i).trans ?_)))
  exact congrArg (fun Q : Model.Rows 64 => Model.bn (Model.rStat Q 0 i) (Model.rStat Q 1 i) ((argsR V).g2g i) ((argsR V).g2b i) (Q b n k i)) (q118 V hA)

/-- The result's formula, its softmax written out. -/
theorem rOut_eq (A : Model.Args) (b : Fin 4) (n : Fin 8192) (j : Fin 64) : Model.rOut A b n j
    = ∑ k : Fin 16, Ideal.div (Ideal.exp (qAttn A b n k j - Model.colMax fun k' => qAttn A b n k' j))
        (∑ k' : Fin 16, Ideal.exp (qAttn A b n k' j - Model.colMax fun k' => qAttn A b n k' j))
      * (((∑ i : Fin 64, Model.rKf A b n k i * A.wv j i) + A.bv j) + Model.pos (Model.parA A (Model.rS A)) (Model.rP1 A b n k) j) := rfl

/-- The result. -/
theorem result (hA : (argsR V).Finite) (y : S4x8192x64.Idx) :
    last (res_main_v162 V) (res_main_v18 V) (res_main_v69 V) (V (Proc.devRef .tc main_arg6)) (V (Proc.devRef .tc main_arg7)) y
    = Model.rOut (argsR V) (y 0) (y 1) (y 2) := by
  obtain ⟨b, n, j, rfl⟩ : ∃ b n j, y = ix3 b n j := ⟨y 0, y 1, y 2, eq_ix3 y⟩
  have e : ∀ k : Fin 16, quad (res_main_v162 V : Vec Ideal S4x8192x16x64 .f32) b n k j = Ideal.exp (qAttn (argsR V) b n k j
      - Model.colMax fun k' => qAttn (argsR V) b n k' j) := fun k => (v162_at V b n k j).trans
    (congrArg (fun Q : Model.Rows 64 => Ideal.exp (Q b n k j - Model.colMax fun k' => Q b n k' j)) (q155 V hA))
  have f : ∀ k : Fin 16, ((∑ i : Fin 64, quad (res_main_v18 V : Vec Ideal S4x8192x16x64 .f32) b n k i * (argsR V).wv j i) + (argsR V).bv j)
      + quad (res_main_v69 V : Vec Ideal S4x8192x16x64 .f32) b n k j = ((∑ i : Fin 64, Model.rKf (argsR V) b n k i * (argsR V).wv j i) + (argsR V).bv j)
      + Model.pos (Model.parA (argsR V) (Model.rS (argsR V))) (Model.rP1 (argsR V) b n k) j := fun k => by
    rw [q18 V hA, q69 V hA b n k j]
  have g := sum_at (res_main_v162 V) (res_main_v18 V) (res_main_v69 V) (V (Proc.devRef .tc main_arg6)) (V (Proc.devRef .tc main_arg7)) b n j
  refine g.trans ?_
  refine Eq.trans ?_ (rOut_eq (argsR V) b n j).symm
  refine Finset.sum_congr rfl fun k _ => congrArg₂ (· * ·) ?_ (f k)
  exact congrArg₂ Ideal.div (e k) (Finset.sum_congr rfl fun k' _ => e k')

end Cert.ReferenceIdeal.Hand
end
-- ==== Proof.Final.lean ====
/-
  The kernel's and the reference's runs end with equal results.
-/
module

public import proofs.«01_k».proof.Defs
public import proofs.«01_k».proof.Proof.Pre
public import proofs.«01_k».proof.Proof.Asm
public import proofs.«01_k».proof.Proof.Frame.Run
public import proofs.«01_k».proof.Proof.RefC

@[expose] public section

noncomputable section

namespace Cert.Hand

open Idealize.ShloMosaic Idealize.ShloMosaic.TcCoe Idealize.SL.Sem

/-- The arguments from their arrays. -/
def mk (a0 : FVec Ideal ⟨3, ![4, 8192, 64]⟩ .f32) (a1 : FVec Ideal ⟨3, ![4, 8192, 3]⟩ .f32) (a2 : FVec Ideal ⟨2, ![64, 64]⟩ .f32) (a3 : FVec Ideal ⟨1, ![64]⟩ .f32) (a4 : FVec Ideal ⟨2, ![64, 64]⟩ .f32) (a5 : FVec Ideal ⟨1, ![64]⟩ .f32) (a6 : FVec Ideal ⟨2, ![64, 64]⟩ .f32) (a7 : FVec Ideal ⟨1, ![64]⟩ .f32) (a8 : FVec Ideal ⟨2, ![3, 3]⟩ .f32) (a9 : FVec Ideal ⟨1, ![3]⟩ .f32) (a10 : FVec Ideal ⟨2, ![64, 3]⟩ .f32) (a11 : FVec Ideal ⟨1, ![64]⟩ .f32) (a12 : FVec Ideal ⟨2, ![64, 64]⟩ .f32) (a13 : FVec Ideal ⟨1, ![64]⟩ .f32) (a14 : FVec Ideal ⟨2, ![64, 64]⟩ .f32) (a15 : FVec Ideal ⟨1, ![64]⟩ .f32) (a16 : FVec Ideal ⟨1, ![3]⟩ .f32) (a17 : FVec Ideal ⟨1, ![3]⟩ .f32) (a18 : FVec Ideal ⟨1, ![64]⟩ .f32) (a19 : FVec Ideal ⟨1, ![64]⟩ .f32) (a20 : FVec Ideal ⟨1, ![64]⟩ .f32) (a21 : FVec Ideal ⟨1, ![64]⟩ .f32) : Model.Args where
  feats := fun b n a => a0 (ix3 b n a)
  points := fun b n a => a1 (ix3 b n a)
  wq := fun i j => a2 (ix2 i j)
  bq := fun i => a3 (ix1 i)
  wk := fun i j => a4 (ix2 i j)
  bk := fun i => a5 (ix1 i)
  wv := fun i j => a6 (ix2 i j)
  bv := fun i => a7 (ix1 i)
  wd1 := fun i j => a8 (ix2 i j)
  bd1 := fun i => a9 (ix1 i)
  wd2 := fun i j => a10 (ix2 i j)
  bd2 := fun i => a11 (ix1 i)
  wg1 := fun i j => a12 (ix2 i j)
  bg1 := fun i => a13 (ix1 i)
  wg2 := fun i j => a14 (ix2 i j)
  bg2 := fun i => a15 (ix1 i)
  dg := fun i => a16 (ix1 i)
  db := fun i => a17 (ix1 i)
  g1g := fun i => a18 (ix1 i)
  g1b := fun i => a19 (ix1 i)
  g2g := fun i => a20 (ix1 i)
  g2b := fun i => a21 (ix1 i)

/-- Equal arrays give equal arguments. -/
theorem mk_congr (a0 : FVec Ideal ⟨3, ![4, 8192, 64]⟩ .f32) (a1 : FVec Ideal ⟨3, ![4, 8192, 3]⟩ .f32) (a2 : FVec Ideal ⟨2, ![64, 64]⟩ .f32) (a3 : FVec Ideal ⟨1, ![64]⟩ .f32) (a4 : FVec Ideal ⟨2, ![64, 64]⟩ .f32) (a5 : FVec Ideal ⟨1, ![64]⟩ .f32) (a6 : FVec Ideal ⟨2, ![64, 64]⟩ .f32) (a7 : FVec Ideal ⟨1, ![64]⟩ .f32) (a8 : FVec Ideal ⟨2, ![3, 3]⟩ .f32) (a9 : FVec Ideal ⟨1, ![3]⟩ .f32) (a10 : FVec Ideal ⟨2, ![64, 3]⟩ .f32) (a11 : FVec Ideal ⟨1, ![64]⟩ .f32) (a12 : FVec Ideal ⟨2, ![64, 64]⟩ .f32) (a13 : FVec Ideal ⟨1, ![64]⟩ .f32) (a14 : FVec Ideal ⟨2, ![64, 64]⟩ .f32) (a15 : FVec Ideal ⟨1, ![64]⟩ .f32) (a16 : FVec Ideal ⟨1, ![3]⟩ .f32) (a17 : FVec Ideal ⟨1, ![3]⟩ .f32) (a18 : FVec Ideal ⟨1, ![64]⟩ .f32) (a19 : FVec Ideal ⟨1, ![64]⟩ .f32) (a20 : FVec Ideal ⟨1, ![64]⟩ .f32) (a21 : FVec Ideal ⟨1, ![64]⟩ .f32)
    (b0 : FVec Ideal ⟨3, ![4, 8192, 64]⟩ .f32) (b1 : FVec Ideal ⟨3, ![4, 8192, 3]⟩ .f32) (b2 : FVec Ideal ⟨2, ![64, 64]⟩ .f32) (b3 : FVec Ideal ⟨1, ![64]⟩ .f32) (b4 : FVec Ideal ⟨2, ![64, 64]⟩ .f32) (b5 : FVec Ideal ⟨1, ![64]⟩ .f32) (b6 : FVec Ideal ⟨2, ![64, 64]⟩ .f32) (b7 : FVec Ideal ⟨1, ![64]⟩ .f32) (b8 : FVec Ideal ⟨2, ![3, 3]⟩ .f32) (b9 : FVec Ideal ⟨1, ![3]⟩ .f32) (b10 : FVec Ideal ⟨2, ![64, 3]⟩ .f32) (b11 : FVec Ideal ⟨1, ![64]⟩ .f32) (b12 : FVec Ideal ⟨2, ![64, 64]⟩ .f32) (b13 : FVec Ideal ⟨1, ![64]⟩ .f32) (b14 : FVec Ideal ⟨2, ![64, 64]⟩ .f32) (b15 : FVec Ideal ⟨1, ![64]⟩ .f32) (b16 : FVec Ideal ⟨1, ![3]⟩ .f32) (b17 : FVec Ideal ⟨1, ![3]⟩ .f32) (b18 : FVec Ideal ⟨1, ![64]⟩ .f32) (b19 : FVec Ideal ⟨1, ![64]⟩ .f32) (b20 : FVec Ideal ⟨1, ![64]⟩ .f32) (b21 : FVec Ideal ⟨1, ![64]⟩ .f32)
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) (h19 : a19 = b19) (h20 : a20 = b20) (h21 : a21 = b21) :
    mk a0 a1 a2 a3 a4 a5 a6 a7 a8 a9 a10 a11 a12 a13 a14 a15 a16 a17 a18 a19 a20 a21 = mk b0 b1 b2 b3 b4 b5 b6 b7 b8 b9 b10 b11 b12 b13 b14 b15 b16 b17 b18 b19 b20 b21 := by
  subst h0 h1 h2 h3 h4 h5 h6 h7 h8 h9 h10 h11 h12 h13 h14 h15 h16 h17 h18 h19 h20 h21
  rfl

/-- Arrays the precondition passes give finite arguments. -/
theorem mk_finite (a0 : FVec Ideal ⟨3, ![4, 8192, 64]⟩ .f32) (a1 : FVec Ideal ⟨3, ![4, 8192, 3]⟩ .f32) (a2 : FVec Ideal ⟨2, ![64, 64]⟩ .f32) (a3 : FVec Ideal ⟨1, ![64]⟩ .f32) (a4 : FVec Ideal ⟨2, ![64, 64]⟩ .f32) (a5 : FVec Ideal ⟨1, ![64]⟩ .f32) (a6 : FVec Ideal ⟨2, ![64, 64]⟩ .f32) (a7 : FVec Ideal ⟨1, ![64]⟩ .f32) (a8 : FVec Ideal ⟨2, ![3, 3]⟩ .f32) (a9 : FVec Ideal ⟨1, ![3]⟩ .f32) (a10 : FVec Ideal ⟨2, ![64, 3]⟩ .f32) (a11 : FVec Ideal ⟨1, ![64]⟩ .f32) (a12 : FVec Ideal ⟨2, ![64, 64]⟩ .f32) (a13 : FVec Ideal ⟨1, ![64]⟩ .f32) (a14 : FVec Ideal ⟨2, ![64, 64]⟩ .f32) (a15 : FVec Ideal ⟨1, ![64]⟩ .f32) (a16 : FVec Ideal ⟨1, ![3]⟩ .f32) (a17 : FVec Ideal ⟨1, ![3]⟩ .f32) (a18 : FVec Ideal ⟨1, ![64]⟩ .f32) (a19 : FVec Ideal ⟨1, ![64]⟩ .f32) (a20 : FVec Ideal ⟨1, ![64]⟩ .f32) (a21 : FVec Ideal ⟨1, ![64]⟩ .f32)
    (h : Cert.Pre_finite.fn (F := Ideal) a0 a1 a2 a3 a4 a5 a6 a7 a8 a9 a10 a11 a12 a13 a14 a15 a16 a17 a18 a19 a20 a21 = fun _ => 1#1) : (mk a0 a1 a2 a3 a4 a5 a6 a7 a8 a9 a10 a11 a12 a13 a14 a15 a16 a17 a18 a19 a20 a21).Finite := by
  obtain ⟨r0, r1, r2, r3, r4, r5, r8, r9, r10, r11, r12, r13, r16, r17, r18, r19⟩ := Cert.Pre_finite.reads a0 a1 a2 a3 a4 a5 a6 a7 a8 a9 a10 a11 a12 a13 a14 a15 a16 a17 a18 a19 a20 a21 h
  exact ⟨fun b n a => r0 (ix3 b n a), fun b n a => r1 (ix3 b n a), fun i j => r2 (ix2 i j), fun i => r3 (ix1 i), fun i j => r4 (ix2 i j), fun i => r5 (ix1 i), fun i j => r8 (ix2 i j), fun i => r9 (ix1 i), fun i j => r10 (ix2 i j), fun i => r11 (ix1 i), fun i j => r12 (ix2 i j), fun i => r13 (ix1 i), fun i => r16 (ix1 i), fun i => r17 (ix1 i), fun i => r18 (ix1 i), fun i => r19 (ix1 i)⟩

/-- The algebraic claim. -/
theorem algebraic : Cert.algebraic_KernelIdeal_ReferenceIdeal_pre_finite := by
  intro m g m' g' hp ha
  have hk : ∀ c : Dev Cert.KernelIdeal.nD, Cert.KernelIdeal.Hand.argsOf m c = mk (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) :=
    fun c => rfl
  have hr : ∀ c : Dev Cert.KernelIdeal.nD, Cert.ReferenceIdeal.Hand.argsR (StableHlo.launchContents m' c) = mk (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) :=
    fun c => rfl
  have hm : ∀ c : Dev Cert.KernelIdeal.nD, Cert.ReferenceIdeal.Hand.argsR (StableHlo.launchContents m' c) = Cert.KernelIdeal.Hand.argsOf m c := fun c => by
    obtain ⟨h0, h1, h2, h3, h4, h5, h6, h7, h8, h9, h10, h11, h12, h13, h14, h15, h16, h17, h18, h19, h20, h21⟩ := ha c
    exact (hr c).trans ((mk_congr _ _ _ _ _ _ _ _ _ _ _ _ _ _ _ _ _ _ _ _ _ _ _ _ _ _ _ _ _ _ _ _ _ _ _ _ _ _ _ _ _ _ _ _ h0 h1 h2 h3 h4 h5 h6 h7 h8 h9 h10 h11 h12 h13 h14 h15 h16 h17 h18 h19 h20 h21).trans (hk c).symm)
  have hf : ∀ c : Dev Cert.KernelIdeal.nD, (Cert.KernelIdeal.Hand.argsOf m c).Finite := fun c => by
    rw [hk c]
    exact mk_finite _ _ _ _ _ _ _ _ _ _ _ _ _ _ _ _ _ _ _ _ _ _ (hp c)
  refine ⟨fun c => fun y : Cert.KernelIdeal.S4x8192x64.Idx => Model.kOut (Cert.KernelIdeal.Hand.argsOf m c) (y 0) (y 1) (y 2), ?_, ?_⟩
  · exact (θ_run Cert.KernelIdeal.defs _ _).mono (fun r h c => ⟨(h.1 c).1.trans (Cert.KernelIdeal.Hand.result m g c), (h.1 c).2⟩)
      (Cert.KernelIdeal.Gen.run (F := Ideal) m g)
  · refine (θ_run Cert.ReferenceIdeal.defs _ _).mono (fun r h c => ⟨(h c).1.trans (funext fun y => ?_), (h c).2⟩)
      (Cert.ReferenceIdeal.Value.run (F := Ideal) m' g')
    have hA : (Cert.ReferenceIdeal.Hand.argsR (StableHlo.launchContents m' c)).Finite := by rw [hm c]; exact hf c
    refine (Cert.ReferenceIdeal.Hand.result (StableHlo.launchContents m' c) hA y).trans ?_
    rw [hm c]
    exact (congrFun (congrFun (congrFun (Model.kOut_eq (hf c)) (y 0)) (y 1)) (y 2)).symm

end Cert.Hand
end
-- ==== Proof.lean ====
/-
  The proof of the claim, assembled.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.FrameP
public import proofs.«01_k».proof.Proof.Final
public import Idealize.ShloMosaic.Adequacy
public import Idealize.ShloMosaic.Init

@[expose] public section

noncomputable section

namespace Cert.Proof

open Idealize.ShloMosaic Idealize.SL.Sem Cert.Kernel

/-- The reference's run leaves its arguments as they were, and it has no counters. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem claim : Cert.Claim := ⟨Cert.Kernel.Gen.facts, Cert.KernelIdeal.Gen.facts, Cert.ReferenceIdeal.Gen.facts, Cert.Pre_finite.facts,
  frame_p, fun m ρ _ => Cert.KernelIdeal.Gen.frame m ρ, fun m ρ _ => Cert.KernelIdeal.Gen.frame m ρ,
  frame_ri, fun m ρ _ => frame_ri m ρ trivial, trivial, Cert.Hand.algebraic⟩

end Cert.Proof

end
